-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "selu_scale_alpha" .f32 0x3FE10966#32 ((123715243141731 / 70368744177664 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S41538 : Shape := ⟨1, ![41538]⟩
abbrev S41538x256 : Shape := ⟨2, ![41538, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S42050x256 : Shape := ⟨2, ![42050, 256]⟩
abbrev S42562x256 : Shape := ⟨2, ![42562, 256]⟩
abbrev S1x41538 : Shape := ⟨2, ![1, 41538]⟩
abbrev S578 : Shape := ⟨1, ![578]⟩
abbrev S_ : Shape := ⟨0, ![]⟩
abbrev S62 : Shape := ⟨1, ![62]⟩
abbrev S640 : Shape := ⟨1, ![640]⟩
abbrev S1x640 : Shape := ⟨2, ![1, 640]⟩
abbrev S1x256 : Shape := ⟨2, ![1, 256]⟩
abbrev S1x8192 : Shape := ⟨2, ![1, 8192]⟩
abbrev S8192x256 : Shape := ⟨2, ![8192, 256]⟩
abbrev S578x256 : Shape := ⟨2, ![578, 256]⟩
abbrev S62x256 : Shape := ⟨2, ![62, 256]⟩
abbrev S640x256 : Shape := ⟨2, ![640, 256]⟩
abbrev S1x512 : Shape := ⟨2, ![1, 512]⟩
abbrev S1 : Shape := ⟨1, ![1]⟩
abbrev S1x1 : Shape := ⟨2, ![1, 1]⟩
abbrev S1x511 : Shape := ⟨2, ![1, 511]⟩
abbrev S1x510 : Shape := ⟨2, ![1, 510]⟩
abbrev S1x2 : Shape := ⟨2, ![1, 2]⟩
abbrev S1x508 : Shape := ⟨2, ![1, 508]⟩
abbrev S1x4 : Shape := ⟨2, ![1, 4]⟩
abbrev S1x504 : Shape := ⟨2, ![1, 504]⟩
abbrev S1x8 : Shape := ⟨2, ![1, 8]⟩
abbrev S1x496 : Shape := ⟨2, ![1, 496]⟩
abbrev S1x16 : Shape := ⟨2, ![1, 16]⟩
abbrev S1x480 : Shape := ⟨2, ![1, 480]⟩
abbrev S1x32 : Shape := ⟨2, ![1, 32]⟩
abbrev S1x448 : Shape := ⟨2, ![1, 448]⟩
abbrev S1x64 : Shape := ⟨2, ![1, 64]⟩
abbrev S1x384 : Shape := ⟨2, ![1, 384]⟩
abbrev S1x128 : Shape := ⟨2, ![1, 128]⟩
abbrev S512x256 : Shape := ⟨2, ![512, 256]⟩
abbrev S1152x256 : Shape := ⟨2, ![1152, 256]⟩
abbrev S512x128 : Shape := ⟨2, ![512, 128]⟩
abbrev S512x1 : Shape := ⟨2, ![512, 1]⟩
abbrev S512x512 : Shape := ⟨2, ![512, 512]⟩
abbrev S512x640 : Shape := ⟨2, ![512, 640]⟩
abbrev S512x1152 : Shape := ⟨2, ![512, 1152]⟩
abbrev S256x2x1x512 : Shape := ⟨4, ![256, 2, 1, 512]⟩
abbrev S256x1x1x512 : Shape := ⟨4, ![256, 1, 1, 512]⟩
abbrev S256x1x512 : Shape := ⟨3, ![256, 1, 512]⟩
abbrev S128x2x2x512 : Shape := ⟨4, ![128, 2, 2, 512]⟩
abbrev S128x1x2x512 : Shape := ⟨4, ![128, 1, 2, 512]⟩
abbrev S128x2x512 : Shape := ⟨3, ![128, 2, 512]⟩
abbrev S64x2x4x512 : Shape := ⟨4, ![64, 2, 4, 512]⟩
abbrev S64x1x4x512 : Shape := ⟨4, ![64, 1, 4, 512]⟩
abbrev S64x4x512 : Shape := ⟨3, ![64, 4, 512]⟩
abbrev S32x2x8x512 : Shape := ⟨4, ![32, 2, 8, 512]⟩
abbrev S32x1x8x512 : Shape := ⟨4, ![32, 1, 8, 512]⟩
abbrev S32x8x512 : Shape := ⟨3, ![32, 8, 512]⟩
abbrev S16x2x16x512 : Shape := ⟨4, ![16, 2, 16, 512]⟩
abbrev S16x1x16x512 : Shape := ⟨4, ![16, 1, 16, 512]⟩
abbrev S16x16x512 : Shape := ⟨3, ![16, 16, 512]⟩
abbrev S8x2x32x512 : Shape := ⟨4, ![8, 2, 32, 512]⟩
abbrev S8x1x32x512 : Shape := ⟨4, ![8, 1, 32, 512]⟩
abbrev S8x32x512 : Shape := ⟨3, ![8, 32, 512]⟩
abbrev S4x2x64x512 : Shape := ⟨4, ![4, 2, 64, 512]⟩
abbrev S4x1x64x512 : Shape := ⟨4, ![4, 1, 64, 512]⟩
abbrev S4x64x512 : Shape := ⟨3, ![4, 64, 512]⟩
abbrev S2x2x128x512 : Shape := ⟨4, ![2, 2, 128, 512]⟩
abbrev S2x1x128x512 : Shape := ⟨4, ![2, 1, 128, 512]⟩
abbrev S2x128x512 : Shape := ⟨3, ![2, 128, 512]⟩
abbrev S1x2x256x512 : Shape := ⟨4, ![1, 2, 256, 512]⟩
abbrev S1x1x256x512 : Shape := ⟨4, ![1, 1, 256, 512]⟩
abbrev S1x256x512 : Shape := ⟨3, ![1, 256, 512]⟩
abbrev S1x2x256x256 : Shape := ⟨4, ![1, 2, 256, 256]⟩
abbrev S1x1x256x256 : Shape := ⟨4, ![1, 1, 256, 256]⟩
abbrev S1x256x256 : Shape := ⟨3, ![1, 256, 256]⟩
abbrev S2x2x128x256 : Shape := ⟨4, ![2, 2, 128, 256]⟩
abbrev S2x1x128x256 : Shape := ⟨4, ![2, 1, 128, 256]⟩
abbrev S2x128x256 : Shape := ⟨3, ![2, 128, 256]⟩
abbrev S4x2x64x256 : Shape := ⟨4, ![4, 2, 64, 256]⟩
abbrev S4x1x64x256 : Shape := ⟨4, ![4, 1, 64, 256]⟩
abbrev S4x64x256 : Shape := ⟨3, ![4, 64, 256]⟩
abbrev S8x2x32x256 : Shape := ⟨4, ![8, 2, 32, 256]⟩
abbrev S8x1x32x256 : Shape := ⟨4, ![8, 1, 32, 256]⟩
abbrev S8x32x256 : Shape := ⟨3, ![8, 32, 256]⟩
abbrev S16x2x16x256 : Shape := ⟨4, ![16, 2, 16, 256]⟩
abbrev S16x1x16x256 : Shape := ⟨4, ![16, 1, 16, 256]⟩
abbrev S16x16x256 : Shape := ⟨3, ![16, 16, 256]⟩
abbrev S32x2x8x256 : Shape := ⟨4, ![32, 2, 8, 256]⟩
abbrev S32x1x8x256 : Shape := ⟨4, ![32, 1, 8, 256]⟩
abbrev S32x8x256 : Shape := ⟨3, ![32, 8, 256]⟩
abbrev S64x2x4x256 : Shape := ⟨4, ![64, 2, 4, 256]⟩
abbrev S64x1x4x256 : Shape := ⟨4, ![64, 1, 4, 256]⟩
abbrev S64x4x256 : Shape := ⟨3, ![64, 4, 256]⟩
abbrev S128x2x2x256 : Shape := ⟨4, ![128, 2, 2, 256]⟩
abbrev S128x1x2x256 : Shape := ⟨4, ![128, 1, 2, 256]⟩
abbrev S128x2x256 : Shape := ⟨3, ![128, 2, 256]⟩
abbrev S256x2x1x256 : Shape := ⟨4, ![256, 2, 1, 256]⟩
abbrev S256x1x1x256 : Shape := ⟨4, ![256, 1, 1, 256]⟩
abbrev S256x1x256 : Shape := ⟨3, ![256, 1, 256]⟩
abbrev S1024x256 : Shape := ⟨2, ![1024, 256]⟩
abbrev S1x2x512x256 : Shape := ⟨4, ![1, 2, 512, 256]⟩
abbrev S1x1x512x256 : Shape := ⟨4, ![1, 1, 512, 256]⟩
abbrev S1x512x256 : Shape := ⟨3, ![1, 512, 256]⟩
abbrev S2x2x256x256 : Shape := ⟨4, ![2, 2, 256, 256]⟩
abbrev S2x1x256x256 : Shape := ⟨4, ![2, 1, 256, 256]⟩
abbrev S2x256x256 : Shape := ⟨3, ![2, 256, 256]⟩
abbrev S4x2x128x256 : Shape := ⟨4, ![4, 2, 128, 256]⟩
abbrev S4x1x128x256 : Shape := ⟨4, ![4, 1, 128, 256]⟩
abbrev S4x128x256 : Shape := ⟨3, ![4, 128, 256]⟩
abbrev S8x2x64x256 : Shape := ⟨4, ![8, 2, 64, 256]⟩
abbrev S8x1x64x256 : Shape := ⟨4, ![8, 1, 64, 256]⟩
abbrev S8x64x256 : Shape := ⟨3, ![8, 64, 256]⟩
abbrev S16x2x32x256 : Shape := ⟨4, ![16, 2, 32, 256]⟩
abbrev S16x1x32x256 : Shape := ⟨4, ![16, 1, 32, 256]⟩
abbrev S16x32x256 : Shape := ⟨3, ![16, 32, 256]⟩
abbrev S32x2x16x256 : Shape := ⟨4, ![32, 2, 16, 256]⟩
abbrev S32x1x16x256 : Shape := ⟨4, ![32, 1, 16, 256]⟩
abbrev S32x16x256 : Shape := ⟨3, ![32, 16, 256]⟩
abbrev S64x2x8x256 : Shape := ⟨4, ![64, 2, 8, 256]⟩
abbrev S64x1x8x256 : Shape := ⟨4, ![64, 1, 8, 256]⟩
abbrev S64x8x256 : Shape := ⟨3, ![64, 8, 256]⟩
abbrev S128x2x4x256 : Shape := ⟨4, ![128, 2, 4, 256]⟩
abbrev S128x1x4x256 : Shape := ⟨4, ![128, 1, 4, 256]⟩
abbrev S128x4x256 : Shape := ⟨3, ![128, 4, 256]⟩
abbrev S256x2x2x256 : Shape := ⟨4, ![256, 2, 2, 256]⟩
abbrev S256x1x2x256 : Shape := ⟨4, ![256, 1, 2, 256]⟩
abbrev S256x2x256 : Shape := ⟨3, ![256, 2, 256]⟩
abbrev S512x2x1x256 : Shape := ⟨4, ![512, 2, 1, 256]⟩
abbrev S512x1x1x256 : Shape := ⟨4, ![512, 1, 1, 256]⟩
abbrev S512x1x256 : Shape := ⟨3, ![512, 1, 256]⟩
abbrev S1x2x256x128 : Shape := ⟨4, ![1, 2, 256, 128]⟩
abbrev S1x1x256x128 : Shape := ⟨4, ![1, 1, 256, 128]⟩
abbrev S1x256x128 : Shape := ⟨3, ![1, 256, 128]⟩
abbrev S2x2x128x128 : Shape := ⟨4, ![2, 2, 128, 128]⟩
abbrev S2x1x128x128 : Shape := ⟨4, ![2, 1, 128, 128]⟩
abbrev S2x128x128 : Shape := ⟨3, ![2, 128, 128]⟩
abbrev S4x2x64x128 : Shape := ⟨4, ![4, 2, 64, 128]⟩
abbrev S4x1x64x128 : Shape := ⟨4, ![4, 1, 64, 128]⟩
abbrev S4x64x128 : Shape := ⟨3, ![4, 64, 128]⟩
abbrev S8x2x32x128 : Shape := ⟨4, ![8, 2, 32, 128]⟩
abbrev S8x1x32x128 : Shape := ⟨4, ![8, 1, 32, 128]⟩
abbrev S8x32x128 : Shape := ⟨3, ![8, 32, 128]⟩
abbrev S16x2x16x128 : Shape := ⟨4, ![16, 2, 16, 128]⟩
abbrev S16x1x16x128 : Shape := ⟨4, ![16, 1, 16, 128]⟩
abbrev S16x16x128 : Shape := ⟨3, ![16, 16, 128]⟩
abbrev S32x2x8x128 : Shape := ⟨4, ![32, 2, 8, 128]⟩
abbrev S32x1x8x128 : Shape := ⟨4, ![32, 1, 8, 128]⟩
abbrev S32x8x128 : Shape := ⟨3, ![32, 8, 128]⟩
abbrev S64x2x4x128 : Shape := ⟨4, ![64, 2, 4, 128]⟩
abbrev S64x1x4x128 : Shape := ⟨4, ![64, 1, 4, 128]⟩
abbrev S64x4x128 : Shape := ⟨3, ![64, 4, 128]⟩
abbrev S128x2x2x128 : Shape := ⟨4, ![128, 2, 2, 128]⟩
abbrev S128x1x2x128 : Shape := ⟨4, ![128, 1, 2, 128]⟩
abbrev S128x2x128 : Shape := ⟨3, ![128, 2, 128]⟩
abbrev S256x2x1x128 : Shape := ⟨4, ![256, 2, 1, 128]⟩
abbrev S256x1x1x128 : Shape := ⟨4, ![256, 1, 1, 128]⟩
abbrev S256x1x128 : Shape := ⟨3, ![256, 1, 128]⟩
abbrev S1024x128 : Shape := ⟨2, ![1024, 128]⟩
abbrev S1x2x512x128 : Shape := ⟨4, ![1, 2, 512, 128]⟩
abbrev S1x1x512x128 : Shape := ⟨4, ![1, 1, 512, 128]⟩
abbrev S1x512x128 : Shape := ⟨3, ![1, 512, 128]⟩
abbrev S2x2x256x128 : Shape := ⟨4, ![2, 2, 256, 128]⟩
abbrev S2x1x256x128 : Shape := ⟨4, ![2, 1, 256, 128]⟩
abbrev S2x256x128 : Shape := ⟨3, ![2, 256, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S128x2x4x128 : Shape := ⟨4, ![128, 2, 4, 128]⟩
abbrev S128x1x4x128 : Shape := ⟨4, ![128, 1, 4, 128]⟩
abbrev S128x4x128 : Shape := ⟨3, ![128, 4, 128]⟩
abbrev S256x2x2x128 : Shape := ⟨4, ![256, 2, 2, 128]⟩
abbrev S256x1x2x128 : Shape := ⟨4, ![256, 1, 2, 128]⟩
abbrev S256x2x128 : Shape := ⟨3, ![256, 2, 128]⟩
abbrev S512x2x1x128 : Shape := ⟨4, ![512, 2, 1, 128]⟩
abbrev S512x1x1x128 : Shape := ⟨4, ![512, 1, 1, 128]⟩
abbrev S512x1x128 : Shape := ⟨3, ![512, 1, 128]⟩
abbrev S512x64 : Shape := ⟨2, ![512, 64]⟩
abbrev S1x2x256x64 : Shape := ⟨4, ![1, 2, 256, 64]⟩
abbrev S1x1x256x64 : Shape := ⟨4, ![1, 1, 256, 64]⟩
abbrev S1x256x64 : Shape := ⟨3, ![1, 256, 64]⟩
abbrev S2x2x128x64 : Shape := ⟨4, ![2, 2, 128, 64]⟩
abbrev S2x1x128x64 : Shape := ⟨4, ![2, 1, 128, 64]⟩
abbrev S2x128x64 : Shape := ⟨3, ![2, 128, 64]⟩
abbrev S4x2x64x64 : Shape := ⟨4, ![4, 2, 64, 64]⟩
abbrev S4x1x64x64 : Shape := ⟨4, ![4, 1, 64, 64]⟩
abbrev S4x64x64 : Shape := ⟨3, ![4, 64, 64]⟩
abbrev S8x2x32x64 : Shape := ⟨4, ![8, 2, 32, 64]⟩
abbrev S8x1x32x64 : Shape := ⟨4, ![8, 1, 32, 64]⟩
abbrev S8x32x64 : Shape := ⟨3, ![8, 32, 64]⟩
abbrev S16x2x16x64 : Shape := ⟨4, ![16, 2, 16, 64]⟩
abbrev S16x1x16x64 : Shape := ⟨4, ![16, 1, 16, 64]⟩
abbrev S16x16x64 : Shape := ⟨3, ![16, 16, 64]⟩
abbrev S32x2x8x64 : Shape := ⟨4, ![32, 2, 8, 64]⟩
abbrev S32x1x8x64 : Shape := ⟨4, ![32, 1, 8, 64]⟩
abbrev S32x8x64 : Shape := ⟨3, ![32, 8, 64]⟩
abbrev S64x2x4x64 : Shape := ⟨4, ![64, 2, 4, 64]⟩
abbrev S64x1x4x64 : Shape := ⟨4, ![64, 1, 4, 64]⟩
abbrev S64x4x64 : Shape := ⟨3, ![64, 4, 64]⟩
abbrev S128x2x2x64 : Shape := ⟨4, ![128, 2, 2, 64]⟩
abbrev S128x1x2x64 : Shape := ⟨4, ![128, 1, 2, 64]⟩
abbrev S128x2x64 : Shape := ⟨3, ![128, 2, 64]⟩
abbrev S256x2x1x64 : Shape := ⟨4, ![256, 2, 1, 64]⟩
abbrev S256x1x1x64 : Shape := ⟨4, ![256, 1, 1, 64]⟩
abbrev S256x1x64 : Shape := ⟨3, ![256, 1, 64]⟩
abbrev S1024x64 : Shape := ⟨2, ![1024, 64]⟩
abbrev S1x2x512x64 : Shape := ⟨4, ![1, 2, 512, 64]⟩
abbrev S1x1x512x64 : Shape := ⟨4, ![1, 1, 512, 64]⟩
abbrev S1x512x64 : Shape := ⟨3, ![1, 512, 64]⟩
abbrev S2x2x256x64 : Shape := ⟨4, ![2, 2, 256, 64]⟩
abbrev S2x1x256x64 : Shape := ⟨4, ![2, 1, 256, 64]⟩
abbrev S2x256x64 : Shape := ⟨3, ![2, 256, 64]⟩
abbrev S4x2x128x64 : Shape := ⟨4, ![4, 2, 128, 64]⟩
abbrev S4x1x128x64 : Shape := ⟨4, ![4, 1, 128, 64]⟩
abbrev S4x128x64 : Shape := ⟨3, ![4, 128, 64]⟩
abbrev S8x2x64x64 : Shape := ⟨4, ![8, 2, 64, 64]⟩
abbrev S8x1x64x64 : Shape := ⟨4, ![8, 1, 64, 64]⟩
abbrev S8x64x64 : Shape := ⟨3, ![8, 64, 64]⟩
abbrev S16x2x32x64 : Shape := ⟨4, ![16, 2, 32, 64]⟩
abbrev S16x1x32x64 : Shape := ⟨4, ![16, 1, 32, 64]⟩
abbrev S16x32x64 : Shape := ⟨3, ![16, 32, 64]⟩
abbrev S32x2x16x64 : Shape := ⟨4, ![32, 2, 16, 64]⟩
abbrev S32x1x16x64 : Shape := ⟨4, ![32, 1, 16, 64]⟩
abbrev S32x16x64 : Shape := ⟨3, ![32, 16, 64]⟩
abbrev S64x2x8x64 : Shape := ⟨4, ![64, 2, 8, 64]⟩
abbrev S64x1x8x64 : Shape := ⟨4, ![64, 1, 8, 64]⟩
abbrev S64x8x64 : Shape := ⟨3, ![64, 8, 64]⟩
abbrev S128x2x4x64 : Shape := ⟨4, ![128, 2, 4, 64]⟩
abbrev S128x1x4x64 : Shape := ⟨4, ![128, 1, 4, 64]⟩
abbrev S128x4x64 : Shape := ⟨3, ![128, 4, 64]⟩
abbrev S256x2x2x64 : Shape := ⟨4, ![256, 2, 2, 64]⟩
abbrev S256x1x2x64 : Shape := ⟨4, ![256, 1, 2, 64]⟩
abbrev S256x2x64 : Shape := ⟨3, ![256, 2, 64]⟩
abbrev S512x2x1x64 : Shape := ⟨4, ![512, 2, 1, 64]⟩
abbrev S512x1x1x64 : Shape := ⟨4, ![512, 1, 1, 64]⟩
abbrev S512x1x64 : Shape := ⟨3, ![512, 1, 64]⟩
abbrev S512x32 : Shape := ⟨2, ![512, 32]⟩
abbrev S1x2x256x32 : Shape := ⟨4, ![1, 2, 256, 32]⟩
abbrev S1x1x256x32 : Shape := ⟨4, ![1, 1, 256, 32]⟩
abbrev S1x256x32 : Shape := ⟨3, ![1, 256, 32]⟩
abbrev S2x2x128x32 : Shape := ⟨4, ![2, 2, 128, 32]⟩
abbrev S2x1x128x32 : Shape := ⟨4, ![2, 1, 128, 32]⟩
abbrev S2x128x32 : Shape := ⟨3, ![2, 128, 32]⟩
abbrev S4x2x64x32 : Shape := ⟨4, ![4, 2, 64, 32]⟩
abbrev S4x1x64x32 : Shape := ⟨4, ![4, 1, 64, 32]⟩
abbrev S4x64x32 : Shape := ⟨3, ![4, 64, 32]⟩
abbrev S8x2x32x32 : Shape := ⟨4, ![8, 2, 32, 32]⟩
abbrev S8x1x32x32 : Shape := ⟨4, ![8, 1, 32, 32]⟩
abbrev S8x32x32 : Shape := ⟨3, ![8, 32, 32]⟩
abbrev S16x2x16x32 : Shape := ⟨4, ![16, 2, 16, 32]⟩
abbrev S16x1x16x32 : Shape := ⟨4, ![16, 1, 16, 32]⟩
abbrev S16x16x32 : Shape := ⟨3, ![16, 16, 32]⟩
abbrev S32x2x8x32 : Shape := ⟨4, ![32, 2, 8, 32]⟩
abbrev S32x1x8x32 : Shape := ⟨4, ![32, 1, 8, 32]⟩
abbrev S32x8x32 : Shape := ⟨3, ![32, 8, 32]⟩
abbrev S64x2x4x32 : Shape := ⟨4, ![64, 2, 4, 32]⟩
abbrev S64x1x4x32 : Shape := ⟨4, ![64, 1, 4, 32]⟩
abbrev S64x4x32 : Shape := ⟨3, ![64, 4, 32]⟩
abbrev S128x2x2x32 : Shape := ⟨4, ![128, 2, 2, 32]⟩
abbrev S128x1x2x32 : Shape := ⟨4, ![128, 1, 2, 32]⟩
abbrev S128x2x32 : Shape := ⟨3, ![128, 2, 32]⟩
abbrev S256x2x1x32 : Shape := ⟨4, ![256, 2, 1, 32]⟩
abbrev S256x1x1x32 : Shape := ⟨4, ![256, 1, 1, 32]⟩
abbrev S256x1x32 : Shape := ⟨3, ![256, 1, 32]⟩
abbrev S1024x32 : Shape := ⟨2, ![1024, 32]⟩
abbrev S1x2x512x32 : Shape := ⟨4, ![1, 2, 512, 32]⟩
abbrev S1x1x512x32 : Shape := ⟨4, ![1, 1, 512, 32]⟩
abbrev S1x512x32 : Shape := ⟨3, ![1, 512, 32]⟩
abbrev S2x2x256x32 : Shape := ⟨4, ![2, 2, 256, 32]⟩
abbrev S2x1x256x32 : Shape := ⟨4, ![2, 1, 256, 32]⟩
abbrev S2x256x32 : Shape := ⟨3, ![2, 256, 32]⟩
abbrev S4x2x128x32 : Shape := ⟨4, ![4, 2, 128, 32]⟩
abbrev S4x1x128x32 : Shape := ⟨4, ![4, 1, 128, 32]⟩
abbrev S4x128x32 : Shape := ⟨3, ![4, 128, 32]⟩
abbrev S8x2x64x32 : Shape := ⟨4, ![8, 2, 64, 32]⟩
abbrev S8x1x64x32 : Shape := ⟨4, ![8, 1, 64, 32]⟩
abbrev S8x64x32 : Shape := ⟨3, ![8, 64, 32]⟩
abbrev S16x2x32x32 : Shape := ⟨4, ![16, 2, 32, 32]⟩
abbrev S16x1x32x32 : Shape := ⟨4, ![16, 1, 32, 32]⟩
abbrev S16x32x32 : Shape := ⟨3, ![16, 32, 32]⟩
abbrev S32x2x16x32 : Shape := ⟨4, ![32, 2, 16, 32]⟩
abbrev S32x1x16x32 : Shape := ⟨4, ![32, 1, 16, 32]⟩
abbrev S32x16x32 : Shape := ⟨3, ![32, 16, 32]⟩
abbrev S64x2x8x32 : Shape := ⟨4, ![64, 2, 8, 32]⟩
abbrev S64x1x8x32 : Shape := ⟨4, ![64, 1, 8, 32]⟩
abbrev S64x8x32 : Shape := ⟨3, ![64, 8, 32]⟩
abbrev S128x2x4x32 : Shape := ⟨4, ![128, 2, 4, 32]⟩
abbrev S128x1x4x32 : Shape := ⟨4, ![128, 1, 4, 32]⟩
abbrev S128x4x32 : Shape := ⟨3, ![128, 4, 32]⟩
abbrev S256x2x2x32 : Shape := ⟨4, ![256, 2, 2, 32]⟩
abbrev S256x1x2x32 : Shape := ⟨4, ![256, 1, 2, 32]⟩
abbrev S256x2x32 : Shape := ⟨3, ![256, 2, 32]⟩
abbrev S512x2x1x32 : Shape := ⟨4, ![512, 2, 1, 32]⟩
abbrev S512x1x1x32 : Shape := ⟨4, ![512, 1, 1, 32]⟩
abbrev S512x1x32 : Shape := ⟨3, ![512, 1, 32]⟩
abbrev S512x16 : Shape := ⟨2, ![512, 16]⟩
abbrev S1x2x256x16 : Shape := ⟨4, ![1, 2, 256, 16]⟩
abbrev S1x1x256x16 : Shape := ⟨4, ![1, 1, 256, 16]⟩
abbrev S1x256x16 : Shape := ⟨3, ![1, 256, 16]⟩
abbrev S2x2x128x16 : Shape := ⟨4, ![2, 2, 128, 16]⟩
abbrev S2x1x128x16 : Shape := ⟨4, ![2, 1, 128, 16]⟩
abbrev S2x128x16 : Shape := ⟨3, ![2, 128, 16]⟩
abbrev S4x2x64x16 : Shape := ⟨4, ![4, 2, 64, 16]⟩
abbrev S4x1x64x16 : Shape := ⟨4, ![4, 1, 64, 16]⟩
abbrev S4x64x16 : Shape := ⟨3, ![4, 64, 16]⟩
abbrev S8x2x32x16 : Shape := ⟨4, ![8, 2, 32, 16]⟩
abbrev S8x1x32x16 : Shape := ⟨4, ![8, 1, 32, 16]⟩
abbrev S8x32x16 : Shape := ⟨3, ![8, 32, 16]⟩
abbrev S16x2x16x16 : Shape := ⟨4, ![16, 2, 16, 16]⟩
abbrev S16x1x16x16 : Shape := ⟨4, ![16, 1, 16, 16]⟩
abbrev S16x16x16 : Shape := ⟨3, ![16, 16, 16]⟩
abbrev S32x2x8x16 : Shape := ⟨4, ![32, 2, 8, 16]⟩
abbrev S32x1x8x16 : Shape := ⟨4, ![32, 1, 8, 16]⟩
abbrev S32x8x16 : Shape := ⟨3, ![32, 8, 16]⟩
abbrev S64x2x4x16 : Shape := ⟨4, ![64, 2, 4, 16]⟩
abbrev S64x1x4x16 : Shape := ⟨4, ![64, 1, 4, 16]⟩
abbrev S64x4x16 : Shape := ⟨3, ![64, 4, 16]⟩
abbrev S128x2x2x16 : Shape := ⟨4, ![128, 2, 2, 16]⟩
abbrev S128x1x2x16 : Shape := ⟨4, ![128, 1, 2, 16]⟩
abbrev S128x2x16 : Shape := ⟨3, ![128, 2, 16]⟩
abbrev S256x2x1x16 : Shape := ⟨4, ![256, 2, 1, 16]⟩
abbrev S256x1x1x16 : Shape := ⟨4, ![256, 1, 1, 16]⟩
abbrev S256x1x16 : Shape := ⟨3, ![256, 1, 16]⟩
abbrev S1024x16 : Shape := ⟨2, ![1024, 16]⟩
abbrev S1x2x512x16 : Shape := ⟨4, ![1, 2, 512, 16]⟩
abbrev S1x1x512x16 : Shape := ⟨4, ![1, 1, 512, 16]⟩
abbrev S1x512x16 : Shape := ⟨3, ![1, 512, 16]⟩
abbrev S2x2x256x16 : Shape := ⟨4, ![2, 2, 256, 16]⟩
abbrev S2x1x256x16 : Shape := ⟨4, ![2, 1, 256, 16]⟩
abbrev S2x256x16 : Shape := ⟨3, ![2, 256, 16]⟩
abbrev S4x2x128x16 : Shape := ⟨4, ![4, 2, 128, 16]⟩
abbrev S4x1x128x16 : Shape := ⟨4, ![4, 1, 128, 16]⟩
abbrev S4x128x16 : Shape := ⟨3, ![4, 128, 16]⟩
abbrev S8x2x64x16 : Shape := ⟨4, ![8, 2, 64, 16]⟩
abbrev S8x1x64x16 : Shape := ⟨4, ![8, 1, 64, 16]⟩
abbrev S8x64x16 : Shape := ⟨3, ![8, 64, 16]⟩
abbrev S16x2x32x16 : Shape := ⟨4, ![16, 2, 32, 16]⟩
abbrev S16x1x32x16 : Shape := ⟨4, ![16, 1, 32, 16]⟩
abbrev S16x32x16 : Shape := ⟨3, ![16, 32, 16]⟩
abbrev S32x2x16x16 : Shape := ⟨4, ![32, 2, 16, 16]⟩
abbrev S32x1x16x16 : Shape := ⟨4, ![32, 1, 16, 16]⟩
abbrev S32x16x16 : Shape := ⟨3, ![32, 16, 16]⟩
abbrev S64x2x8x16 : Shape := ⟨4, ![64, 2, 8, 16]⟩
abbrev S64x1x8x16 : Shape := ⟨4, ![64, 1, 8, 16]⟩
abbrev S64x8x16 : Shape := ⟨3, ![64, 8, 16]⟩
abbrev S128x2x4x16 : Shape := ⟨4, ![128, 2, 4, 16]⟩
abbrev S128x1x4x16 : Shape := ⟨4, ![128, 1, 4, 16]⟩
abbrev S128x4x16 : Shape := ⟨3, ![128, 4, 16]⟩
abbrev S256x2x2x16 : Shape := ⟨4, ![256, 2, 2, 16]⟩
abbrev S256x1x2x16 : Shape := ⟨4, ![256, 1, 2, 16]⟩
abbrev S256x2x16 : Shape := ⟨3, ![256, 2, 16]⟩
abbrev S512x2x1x16 : Shape := ⟨4, ![512, 2, 1, 16]⟩
abbrev S512x1x1x16 : Shape := ⟨4, ![512, 1, 1, 16]⟩
abbrev S512x1x16 : Shape := ⟨3, ![512, 1, 16]⟩
abbrev S512x8 : Shape := ⟨2, ![512, 8]⟩
abbrev S1x2x256x8 : Shape := ⟨4, ![1, 2, 256, 8]⟩
abbrev S1x1x256x8 : Shape := ⟨4, ![1, 1, 256, 8]⟩
abbrev S1x256x8 : Shape := ⟨3, ![1, 256, 8]⟩
abbrev S2x2x128x8 : Shape := ⟨4, ![2, 2, 128, 8]⟩
abbrev S2x1x128x8 : Shape := ⟨4, ![2, 1, 128, 8]⟩
abbrev S2x128x8 : Shape := ⟨3, ![2, 128, 8]⟩
abbrev S4x2x64x8 : Shape := ⟨4, ![4, 2, 64, 8]⟩
abbrev S4x1x64x8 : Shape := ⟨4, ![4, 1, 64, 8]⟩
abbrev S4x64x8 : Shape := ⟨3, ![4, 64, 8]⟩
abbrev S8x2x32x8 : Shape := ⟨4, ![8, 2, 32, 8]⟩
abbrev S8x1x32x8 : Shape := ⟨4, ![8, 1, 32, 8]⟩
abbrev S8x32x8 : Shape := ⟨3, ![8, 32, 8]⟩
abbrev S16x2x16x8 : Shape := ⟨4, ![16, 2, 16, 8]⟩
abbrev S16x1x16x8 : Shape := ⟨4, ![16, 1, 16, 8]⟩
abbrev S16x16x8 : Shape := ⟨3, ![16, 16, 8]⟩
abbrev S32x2x8x8 : Shape := ⟨4, ![32, 2, 8, 8]⟩
abbrev S32x1x8x8 : Shape := ⟨4, ![32, 1, 8, 8]⟩
abbrev S32x8x8 : Shape := ⟨3, ![32, 8, 8]⟩
abbrev S64x2x4x8 : Shape := ⟨4, ![64, 2, 4, 8]⟩
abbrev S64x1x4x8 : Shape := ⟨4, ![64, 1, 4, 8]⟩
abbrev S64x4x8 : Shape := ⟨3, ![64, 4, 8]⟩
abbrev S128x2x2x8 : Shape := ⟨4, ![128, 2, 2, 8]⟩
abbrev S128x1x2x8 : Shape := ⟨4, ![128, 1, 2, 8]⟩
abbrev S128x2x8 : Shape := ⟨3, ![128, 2, 8]⟩
abbrev S256x2x1x8 : Shape := ⟨4, ![256, 2, 1, 8]⟩
abbrev S256x1x1x8 : Shape := ⟨4, ![256, 1, 1, 8]⟩
abbrev S256x1x8 : Shape := ⟨3, ![256, 1, 8]⟩
abbrev S1024x8 : Shape := ⟨2, ![1024, 8]⟩
abbrev S1x2x512x8 : Shape := ⟨4, ![1, 2, 512, 8]⟩
abbrev S1x1x512x8 : Shape := ⟨4, ![1, 1, 512, 8]⟩
abbrev S1x512x8 : Shape := ⟨3, ![1, 512, 8]⟩
abbrev S2x2x256x8 : Shape := ⟨4, ![2, 2, 256, 8]⟩
abbrev S2x1x256x8 : Shape := ⟨4, ![2, 1, 256, 8]⟩
abbrev S2x256x8 : Shape := ⟨3, ![2, 256, 8]⟩
abbrev S4x2x128x8 : Shape := ⟨4, ![4, 2, 128, 8]⟩
abbrev S4x1x128x8 : Shape := ⟨4, ![4, 1, 128, 8]⟩
abbrev S4x128x8 : Shape := ⟨3, ![4, 128, 8]⟩
abbrev S8x2x64x8 : Shape := ⟨4, ![8, 2, 64, 8]⟩
abbrev S8x1x64x8 : Shape := ⟨4, ![8, 1, 64, 8]⟩
abbrev S8x64x8 : Shape := ⟨3, ![8, 64, 8]⟩
abbrev S16x2x32x8 : Shape := ⟨4, ![16, 2, 32, 8]⟩
abbrev S16x1x32x8 : Shape := ⟨4, ![16, 1, 32, 8]⟩
abbrev S16x32x8 : Shape := ⟨3, ![16, 32, 8]⟩
abbrev S32x2x16x8 : Shape := ⟨4, ![32, 2, 16, 8]⟩
abbrev S32x1x16x8 : Shape := ⟨4, ![32, 1, 16, 8]⟩
abbrev S32x16x8 : Shape := ⟨3, ![32, 16, 8]⟩
abbrev S64x2x8x8 : Shape := ⟨4, ![64, 2, 8, 8]⟩
abbrev S64x1x8x8 : Shape := ⟨4, ![64, 1, 8, 8]⟩
abbrev S64x8x8 : Shape := ⟨3, ![64, 8, 8]⟩
abbrev S128x2x4x8 : Shape := ⟨4, ![128, 2, 4, 8]⟩
abbrev S128x1x4x8 : Shape := ⟨4, ![128, 1, 4, 8]⟩
abbrev S128x4x8 : Shape := ⟨3, ![128, 4, 8]⟩
abbrev S256x2x2x8 : Shape := ⟨4, ![256, 2, 2, 8]⟩
abbrev S256x1x2x8 : Shape := ⟨4, ![256, 1, 2, 8]⟩
abbrev S256x2x8 : Shape := ⟨3, ![256, 2, 8]⟩
abbrev S512x2x1x8 : Shape := ⟨4, ![512, 2, 1, 8]⟩
abbrev S512x1x1x8 : Shape := ⟨4, ![512, 1, 1, 8]⟩
abbrev S512x1x8 : Shape := ⟨3, ![512, 1, 8]⟩
abbrev S512x4 : Shape := ⟨2, ![512, 4]⟩
abbrev S1x2x256x4 : Shape := ⟨4, ![1, 2, 256, 4]⟩
abbrev S1x1x256x4 : Shape := ⟨4, ![1, 1, 256, 4]⟩
abbrev S1x256x4 : Shape := ⟨3, ![1, 256, 4]⟩
abbrev S2x2x128x4 : Shape := ⟨4, ![2, 2, 128, 4]⟩
abbrev S2x1x128x4 : Shape := ⟨4, ![2, 1, 128, 4]⟩
abbrev S2x128x4 : Shape := ⟨3, ![2, 128, 4]⟩
abbrev S4x2x64x4 : Shape := ⟨4, ![4, 2, 64, 4]⟩
abbrev S4x1x64x4 : Shape := ⟨4, ![4, 1, 64, 4]⟩
abbrev S4x64x4 : Shape := ⟨3, ![4, 64, 4]⟩
abbrev S8x2x32x4 : Shape := ⟨4, ![8, 2, 32, 4]⟩
abbrev S8x1x32x4 : Shape := ⟨4, ![8, 1, 32, 4]⟩
abbrev S8x32x4 : Shape := ⟨3, ![8, 32, 4]⟩
abbrev S16x2x16x4 : Shape := ⟨4, ![16, 2, 16, 4]⟩
abbrev S16x1x16x4 : Shape := ⟨4, ![16, 1, 16, 4]⟩
abbrev S16x16x4 : Shape := ⟨3, ![16, 16, 4]⟩
abbrev S32x2x8x4 : Shape := ⟨4, ![32, 2, 8, 4]⟩
abbrev S32x1x8x4 : Shape := ⟨4, ![32, 1, 8, 4]⟩
abbrev S32x8x4 : Shape := ⟨3, ![32, 8, 4]⟩
abbrev S64x2x4x4 : Shape := ⟨4, ![64, 2, 4, 4]⟩
abbrev S64x1x4x4 : Shape := ⟨4, ![64, 1, 4, 4]⟩
abbrev S64x4x4 : Shape := ⟨3, ![64, 4, 4]⟩
abbrev S128x2x2x4 : Shape := ⟨4, ![128, 2, 2, 4]⟩
abbrev S128x1x2x4 : Shape := ⟨4, ![128, 1, 2, 4]⟩
abbrev S128x2x4 : Shape := ⟨3, ![128, 2, 4]⟩
abbrev S256x2x1x4 : Shape := ⟨4, ![256, 2, 1, 4]⟩
abbrev S256x1x1x4 : Shape := ⟨4, ![256, 1, 1, 4]⟩
abbrev S256x1x4 : Shape := ⟨3, ![256, 1, 4]⟩
abbrev S1024x4 : Shape := ⟨2, ![1024, 4]⟩
abbrev S1x2x512x4 : Shape := ⟨4, ![1, 2, 512, 4]⟩
abbrev S1x1x512x4 : Shape := ⟨4, ![1, 1, 512, 4]⟩
abbrev S1x512x4 : Shape := ⟨3, ![1, 512, 4]⟩
abbrev S2x2x256x4 : Shape := ⟨4, ![2, 2, 256, 4]⟩
abbrev S2x1x256x4 : Shape := ⟨4, ![2, 1, 256, 4]⟩
abbrev S2x256x4 : Shape := ⟨3, ![2, 256, 4]⟩
abbrev S4x2x128x4 : Shape := ⟨4, ![4, 2, 128, 4]⟩
abbrev S4x1x128x4 : Shape := ⟨4, ![4, 1, 128, 4]⟩
abbrev S4x128x4 : Shape := ⟨3, ![4, 128, 4]⟩
abbrev S8x2x64x4 : Shape := ⟨4, ![8, 2, 64, 4]⟩
abbrev S8x1x64x4 : Shape := ⟨4, ![8, 1, 64, 4]⟩
abbrev S8x64x4 : Shape := ⟨3, ![8, 64, 4]⟩
abbrev S16x2x32x4 : Shape := ⟨4, ![16, 2, 32, 4]⟩
abbrev S16x1x32x4 : Shape := ⟨4, ![16, 1, 32, 4]⟩
abbrev S16x32x4 : Shape := ⟨3, ![16, 32, 4]⟩
abbrev S32x2x16x4 : Shape := ⟨4, ![32, 2, 16, 4]⟩
abbrev S32x1x16x4 : Shape := ⟨4, ![32, 1, 16, 4]⟩
abbrev S32x16x4 : Shape := ⟨3, ![32, 16, 4]⟩
abbrev S64x2x8x4 : Shape := ⟨4, ![64, 2, 8, 4]⟩
abbrev S64x1x8x4 : Shape := ⟨4, ![64, 1, 8, 4]⟩
abbrev S64x8x4 : Shape := ⟨3, ![64, 8, 4]⟩
abbrev S128x2x4x4 : Shape := ⟨4, ![128, 2, 4, 4]⟩
abbrev S128x1x4x4 : Shape := ⟨4, ![128, 1, 4, 4]⟩
abbrev S128x4x4 : Shape := ⟨3, ![128, 4, 4]⟩
abbrev S256x2x2x4 : Shape := ⟨4, ![256, 2, 2, 4]⟩
abbrev S256x1x2x4 : Shape := ⟨4, ![256, 1, 2, 4]⟩
abbrev S256x2x4 : Shape := ⟨3, ![256, 2, 4]⟩
abbrev S512x2x1x4 : Shape := ⟨4, ![512, 2, 1, 4]⟩
abbrev S512x1x1x4 : Shape := ⟨4, ![512, 1, 1, 4]⟩
abbrev S512x1x4 : Shape := ⟨3, ![512, 1, 4]⟩
abbrev S512x2 : Shape := ⟨2, ![512, 2]⟩
abbrev S1x2x256x2 : Shape := ⟨4, ![1, 2, 256, 2]⟩
abbrev S1x1x256x2 : Shape := ⟨4, ![1, 1, 256, 2]⟩
abbrev S1x256x2 : Shape := ⟨3, ![1, 256, 2]⟩
abbrev S2x2x128x2 : Shape := ⟨4, ![2, 2, 128, 2]⟩
abbrev S2x1x128x2 : Shape := ⟨4, ![2, 1, 128, 2]⟩
abbrev S2x128x2 : Shape := ⟨3, ![2, 128, 2]⟩
abbrev S4x2x64x2 : Shape := ⟨4, ![4, 2, 64, 2]⟩
abbrev S4x1x64x2 : Shape := ⟨4, ![4, 1, 64, 2]⟩
abbrev S4x64x2 : Shape := ⟨3, ![4, 64, 2]⟩
abbrev S8x2x32x2 : Shape := ⟨4, ![8, 2, 32, 2]⟩
abbrev S8x1x32x2 : Shape := ⟨4, ![8, 1, 32, 2]⟩
abbrev S8x32x2 : Shape := ⟨3, ![8, 32, 2]⟩
abbrev S16x2x16x2 : Shape := ⟨4, ![16, 2, 16, 2]⟩
abbrev S16x1x16x2 : Shape := ⟨4, ![16, 1, 16, 2]⟩
abbrev S16x16x2 : Shape := ⟨3, ![16, 16, 2]⟩
abbrev S32x2x8x2 : Shape := ⟨4, ![32, 2, 8, 2]⟩
abbrev S32x1x8x2 : Shape := ⟨4, ![32, 1, 8, 2]⟩
abbrev S32x8x2 : Shape := ⟨3, ![32, 8, 2]⟩
abbrev S64x2x4x2 : Shape := ⟨4, ![64, 2, 4, 2]⟩
abbrev S64x1x4x2 : Shape := ⟨4, ![64, 1, 4, 2]⟩
abbrev S64x4x2 : Shape := ⟨3, ![64, 4, 2]⟩
abbrev S128x2x2x2 : Shape := ⟨4, ![128, 2, 2, 2]⟩
abbrev S128x1x2x2 : Shape := ⟨4, ![128, 1, 2, 2]⟩
abbrev S128x2x2 : Shape := ⟨3, ![128, 2, 2]⟩
abbrev S256x2x1x2 : Shape := ⟨4, ![256, 2, 1, 2]⟩
abbrev S256x1x1x2 : Shape := ⟨4, ![256, 1, 1, 2]⟩
abbrev S256x1x2 : Shape := ⟨3, ![256, 1, 2]⟩
abbrev S1024x2 : Shape := ⟨2, ![1024, 2]⟩
abbrev S1x2x512x2 : Shape := ⟨4, ![1, 2, 512, 2]⟩
abbrev S1x1x512x2 : Shape := ⟨4, ![1, 1, 512, 2]⟩
abbrev S1x512x2 : Shape := ⟨3, ![1, 512, 2]⟩
abbrev S2x2x256x2 : Shape := ⟨4, ![2, 2, 256, 2]⟩
abbrev S2x1x256x2 : Shape := ⟨4, ![2, 1, 256, 2]⟩
abbrev S2x256x2 : Shape := ⟨3, ![2, 256, 2]⟩
abbrev S4x2x128x2 : Shape := ⟨4, ![4, 2, 128, 2]⟩
abbrev S4x1x128x2 : Shape := ⟨4, ![4, 1, 128, 2]⟩
abbrev S4x128x2 : Shape := ⟨3, ![4, 128, 2]⟩
abbrev S8x2x64x2 : Shape := ⟨4, ![8, 2, 64, 2]⟩
abbrev S8x1x64x2 : Shape := ⟨4, ![8, 1, 64, 2]⟩
abbrev S8x64x2 : Shape := ⟨3, ![8, 64, 2]⟩
abbrev S16x2x32x2 : Shape := ⟨4, ![16, 2, 32, 2]⟩
abbrev S16x1x32x2 : Shape := ⟨4, ![16, 1, 32, 2]⟩
abbrev S16x32x2 : Shape := ⟨3, ![16, 32, 2]⟩
abbrev S32x2x16x2 : Shape := ⟨4, ![32, 2, 16, 2]⟩
abbrev S32x1x16x2 : Shape := ⟨4, ![32, 1, 16, 2]⟩
abbrev S32x16x2 : Shape := ⟨3, ![32, 16, 2]⟩
abbrev S64x2x8x2 : Shape := ⟨4, ![64, 2, 8, 2]⟩
abbrev S64x1x8x2 : Shape := ⟨4, ![64, 1, 8, 2]⟩
abbrev S64x8x2 : Shape := ⟨3, ![64, 8, 2]⟩
abbrev S128x2x4x2 : Shape := ⟨4, ![128, 2, 4, 2]⟩
abbrev S128x1x4x2 : Shape := ⟨4, ![128, 1, 4, 2]⟩
abbrev S128x4x2 : Shape := ⟨3, ![128, 4, 2]⟩
abbrev S256x2x2x2 : Shape := ⟨4, ![256, 2, 2, 2]⟩
abbrev S256x1x2x2 : Shape := ⟨4, ![256, 1, 2, 2]⟩
abbrev S256x2x2 : Shape := ⟨3, ![256, 2, 2]⟩
abbrev S512x2x1x2 : Shape := ⟨4, ![512, 2, 1, 2]⟩
abbrev S512x1x1x2 : Shape := ⟨4, ![512, 1, 1, 2]⟩
abbrev S512x1x2 : Shape := ⟨3, ![512, 1, 2]⟩
abbrev S1x2x256x1 : Shape := ⟨4, ![1, 2, 256, 1]⟩
abbrev S1x1x256x1 : Shape := ⟨4, ![1, 1, 256, 1]⟩
abbrev S1x256x1 : Shape := ⟨3, ![1, 256, 1]⟩
abbrev S2x2x128x1 : Shape := ⟨4, ![2, 2, 128, 1]⟩
abbrev S2x1x128x1 : Shape := ⟨4, ![2, 1, 128, 1]⟩
abbrev S2x128x1 : Shape := ⟨3, ![2, 128, 1]⟩
abbrev S4x2x64x1 : Shape := ⟨4, ![4, 2, 64, 1]⟩
abbrev S4x1x64x1 : Shape := ⟨4, ![4, 1, 64, 1]⟩
abbrev S4x64x1 : Shape := ⟨3, ![4, 64, 1]⟩
abbrev S8x2x32x1 : Shape := ⟨4, ![8, 2, 32, 1]⟩
abbrev S8x1x32x1 : Shape := ⟨4, ![8, 1, 32, 1]⟩
abbrev S8x32x1 : Shape := ⟨3, ![8, 32, 1]⟩
abbrev S16x2x16x1 : Shape := ⟨4, ![16, 2, 16, 1]⟩
abbrev S16x1x16x1 : Shape := ⟨4, ![16, 1, 16, 1]⟩
abbrev S16x16x1 : Shape := ⟨3, ![16, 16, 1]⟩
abbrev S32x2x8x1 : Shape := ⟨4, ![32, 2, 8, 1]⟩
abbrev S32x1x8x1 : Shape := ⟨4, ![32, 1, 8, 1]⟩
abbrev S32x8x1 : Shape := ⟨3, ![32, 8, 1]⟩
abbrev S64x2x4x1 : Shape := ⟨4, ![64, 2, 4, 1]⟩
abbrev S64x1x4x1 : Shape := ⟨4, ![64, 1, 4, 1]⟩
abbrev S64x4x1 : Shape := ⟨3, ![64, 4, 1]⟩
abbrev S128x2x2x1 : Shape := ⟨4, ![128, 2, 2, 1]⟩
abbrev S128x1x2x1 : Shape := ⟨4, ![128, 1, 2, 1]⟩
abbrev S128x2x1 : Shape := ⟨3, ![128, 2, 1]⟩
abbrev S256x2x1x1 : Shape := ⟨4, ![256, 2, 1, 1]⟩
abbrev S256x1x1x1 : Shape := ⟨4, ![256, 1, 1, 1]⟩
abbrev S256x1x1 : Shape := ⟨3, ![256, 1, 1]⟩
abbrev S1024x1 : Shape := ⟨2, ![1024, 1]⟩
abbrev S1x2x512x1 : Shape := ⟨4, ![1, 2, 512, 1]⟩
abbrev S1x1x512x1 : Shape := ⟨4, ![1, 1, 512, 1]⟩
abbrev S1x512x1 : Shape := ⟨3, ![1, 512, 1]⟩
abbrev S2x2x256x1 : Shape := ⟨4, ![2, 2, 256, 1]⟩
abbrev S2x1x256x1 : Shape := ⟨4, ![2, 1, 256, 1]⟩
abbrev S2x256x1 : Shape := ⟨3, ![2, 256, 1]⟩
abbrev S4x2x128x1 : Shape := ⟨4, ![4, 2, 128, 1]⟩
abbrev S4x1x128x1 : Shape := ⟨4, ![4, 1, 128, 1]⟩
abbrev S4x128x1 : Shape := ⟨3, ![4, 128, 1]⟩
abbrev S8x2x64x1 : Shape := ⟨4, ![8, 2, 64, 1]⟩
abbrev S8x1x64x1 : Shape := ⟨4, ![8, 1, 64, 1]⟩
abbrev S8x64x1 : Shape := ⟨3, ![8, 64, 1]⟩
abbrev S16x2x32x1 : Shape := ⟨4, ![16, 2, 32, 1]⟩
abbrev S16x1x32x1 : Shape := ⟨4, ![16, 1, 32, 1]⟩
abbrev S16x32x1 : Shape := ⟨3, ![16, 32, 1]⟩
abbrev S32x2x16x1 : Shape := ⟨4, ![32, 2, 16, 1]⟩
abbrev S32x1x16x1 : Shape := ⟨4, ![32, 1, 16, 1]⟩
abbrev S32x16x1 : Shape := ⟨3, ![32, 16, 1]⟩
abbrev S64x2x8x1 : Shape := ⟨4, ![64, 2, 8, 1]⟩
abbrev S64x1x8x1 : Shape := ⟨4, ![64, 1, 8, 1]⟩
abbrev S64x8x1 : Shape := ⟨3, ![64, 8, 1]⟩
abbrev S128x2x4x1 : Shape := ⟨4, ![128, 2, 4, 1]⟩
abbrev S128x1x4x1 : Shape := ⟨4, ![128, 1, 4, 1]⟩
abbrev S128x4x1 : Shape := ⟨3, ![128, 4, 1]⟩
abbrev S256x2x2x1 : Shape := ⟨4, ![256, 2, 2, 1]⟩
abbrev S256x1x2x1 : Shape := ⟨4, ![256, 1, 2, 1]⟩
abbrev S256x2x1 : Shape := ⟨3, ![256, 2, 1]⟩
abbrev S512x2x1x1 : Shape := ⟨4, ![512, 2, 1, 1]⟩
abbrev S512x1x1x1 : Shape := ⟨4, ![512, 1, 1, 1]⟩
abbrev S512x1x1 : Shape := ⟨3, ![512, 1, 1]⟩
abbrev S1664x256 : Shape := ⟨2, ![1664, 256]⟩
abbrev S512x1664 : Shape := ⟨2, ![512, 1664]⟩

abbrev nBuf : Space → Nat
  | .hbm => 85
  | .vmem => 49
  | .smem => 0
  | _ => 0

abbrev bufTy : (tb : Table) → Fin (tcTables nBuf tb) → BufTy
  | .hbm, ⟨0, _⟩ => ⟨S41538, .f32⟩
  | .hbm, ⟨1, _⟩ => ⟨S41538x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S42050x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x512, .f32⟩
  | .hbm, ⟨12, _⟩ => ⟨S512, .f32⟩
  | .hbm, ⟨13, _⟩ => ⟨S42562x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x512, .f32⟩
  | .hbm, ⟨18, _⟩ => ⟨S512, .f32⟩
  | .hbm, ⟨19, _⟩ => ⟨S1x41538, .f32⟩
  | .hbm, ⟨20, _⟩ => ⟨S578, .f32⟩
  | .hbm, ⟨21, _⟩ => ⟨S_, .f32⟩
  | .hbm, ⟨22, _⟩ => ⟨S62, .f32⟩
  | .hbm, ⟨23, _⟩ => ⟨S640, .f32⟩
  | .hbm, ⟨24, _⟩ => ⟨S1x640, .f32⟩
  | .hbm, ⟨25, _⟩ => ⟨S41538x256, .f32⟩
  | .hbm, ⟨26, _⟩ => ⟨S41538x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S578x256, .f32⟩
  | .hbm, ⟨31, _⟩ => ⟨S_, .f32⟩
  | .hbm, ⟨32, _⟩ => ⟨S62x256, .f32⟩
  | .hbm, ⟨33, _⟩ => ⟨S640x256, .f32⟩
  | .hbm, ⟨34, _⟩ => ⟨S1x256, .f32⟩
  | .hbm, ⟨35, _⟩ => ⟨S1x256, .f32⟩
  | .hbm, ⟨36, _⟩ => ⟨S1x512, .f32⟩
  | .hbm, ⟨37, _⟩ => ⟨S1x512, .f32⟩
  | .hbm, ⟨38, _⟩ => ⟨S1x512, .i32⟩
  | .hbm, ⟨39, _⟩ => ⟨S578x256, .f32⟩
  | .hbm, ⟨40, _⟩ => ⟨S_, .f32⟩
  | .hbm, ⟨41, _⟩ => ⟨S62x256, .f32⟩
  | .hbm, ⟨42, _⟩ => ⟨S512x256, .f32⟩
  | .hbm, ⟨43, _⟩ => ⟨S1152x256, .f32⟩
  | .hbm, ⟨44, _⟩ => ⟨S1x256, .f32⟩
  | .hbm, ⟨45, _⟩ => ⟨S1x256, .f32⟩
  | .hbm, ⟨46, _⟩ => ⟨S1x512, .f32⟩
  | .hbm, ⟨47, _⟩ => ⟨S512x128, .f32⟩
  | .hbm, ⟨48, _⟩ => ⟨S512x128, .f32⟩
  | .hbm, ⟨49, _⟩ => ⟨S512x128, .f32⟩
  | .hbm, ⟨50, _⟩ => ⟨S578x256, .f32⟩
  | .hbm, ⟨51, _⟩ => ⟨S_, .f32⟩
  | .hbm, ⟨52, _⟩ => ⟨S62x256, .f32⟩
  | .hbm, ⟨53, _⟩ => ⟨S512x256, .f32⟩
  | .hbm, ⟨54, _⟩ => ⟨S512x256, .f32⟩
  | .hbm, ⟨55, _⟩ => ⟨S1664x256, .f32⟩
  | .hbm, ⟨56, _⟩ => ⟨S1x256, .f32⟩
  | .hbm, ⟨57, _⟩ => ⟨S1x256, .f32⟩
  | .hbm, ⟨58, _⟩ => ⟨S1x512, .f32⟩
  | .hbm, ⟨59, _⟩ => ⟨S512x1, .f32⟩
  | .hbm, ⟨60, _⟩ => ⟨S512, .f32⟩
  | .hbm, ⟨61, _⟩ => ⟨S1x512, .f32⟩
  | .hbm, ⟨62, _⟩ => ⟨S512x1, .f32⟩
  | .hbm, ⟨63, _⟩ => ⟨S512, .f32⟩
  | .hbm, ⟨64, _⟩ => ⟨S1x512, .f32⟩
  | .hbm, ⟨65, _⟩ => ⟨S512x1, .f32⟩
  | .hbm, ⟨66, _⟩ => ⟨S512, .f32⟩
  | .hbm, ⟨67, _⟩ => ⟨S1x512, .f32⟩
  | .hbm, ⟨68, _⟩ => ⟨S512x128, .f32⟩
  | .hbm, ⟨69, _⟩ => ⟨S512x128, .f32⟩
  | .hbm, ⟨70, _⟩ => ⟨S512x128, .f32⟩
  | .hbm, ⟨71, _⟩ => ⟨S512x128, .f32⟩
  | .hbm, ⟨72, _⟩ => ⟨S512x1, .f32⟩
  | .hbm, ⟨73, _⟩ => ⟨S512, .f32⟩
  | .hbm, ⟨74, _⟩ => ⟨S512x1, .f32⟩
  | .hbm, ⟨75, _⟩ => ⟨S512, .f32⟩
  | .hbm, ⟨76, _⟩ => ⟨S512x1, .f32⟩
  | .hbm, ⟨77, _⟩ => ⟨S512, .f32⟩
  | .hbm, ⟨78, _⟩ => ⟨S512x1, .f32⟩
  | .hbm, ⟨79, _⟩ => ⟨S512, .f32⟩
  | .hbm, ⟨80, _⟩ => ⟨S512x1, .f32⟩
  | .hbm, ⟨81, _⟩ => ⟨S512x1, .f32⟩
  | .hbm, ⟨82, _⟩ => ⟨S512x1, .f32⟩
  | .hbm, ⟨83, _⟩ => ⟨S512x1, .f32⟩
  | .hbm, ⟨84, _⟩ => ⟨S512x4, .f32⟩
  | .local _ .vmem, ⟨0, _⟩ => ⟨S1x8192, .f32⟩
  | .local _ .vmem, ⟨1, _⟩ => ⟨S1x8192, .f32⟩
  | .local _ .vmem, ⟨2, _⟩ => ⟨S8192x256, .f32⟩
  | .local _ .vmem, ⟨3, _⟩ => ⟨S8192x256, .f32⟩
  | .local _ .vmem, ⟨4, _⟩ => ⟨S8192x256, .f32⟩
  | .local _ .vmem, ⟨5, _⟩ => ⟨S8192x256, .f32⟩
  | .local _ .vmem, ⟨6, _⟩ => ⟨S8192x256, .f32⟩
  | .local _ .vmem, ⟨7, _⟩ => ⟨S8192x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x640, .f32⟩
  | .local _ .vmem, ⟨13, _⟩ => ⟨S640x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S256x512, .f32⟩
  | .local _ .vmem, ⟨18, _⟩ => ⟨S1x512, .f32⟩
  | .local _ .vmem, ⟨19, _⟩ => ⟨S1x512, .f32⟩
  | .local _ .vmem, ⟨20, _⟩ => ⟨S1x512, .i32⟩
  | .local _ .vmem, ⟨21, _⟩ => ⟨S1x256, .f32⟩
  | .local _ .vmem, ⟨22, _⟩ => ⟨S1x640, .f32⟩
  | .local _ .vmem, ⟨23, _⟩ => ⟨S1152x256, .f32⟩
  | .local _ .vmem, ⟨24, _⟩ => ⟨S1x256, .f32⟩
  | .local _ .vmem, ⟨25, _⟩ => ⟨S256x256, .f32⟩
  | .local _ .vmem, ⟨26, _⟩ => ⟨S1x256, .f32⟩
  | .local _ .vmem, ⟨27, _⟩ => ⟨S256x512, .f32⟩
  | .local _ .vmem, ⟨28, _⟩ => ⟨S1x512, .f32⟩
  | .local _ .vmem, ⟨29, _⟩ => ⟨S1x512, .f32⟩
  | .local _ .vmem, ⟨30, _⟩ => ⟨S1x512, .i32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S1x256, .f32⟩
  | .local _ .vmem, ⟨35, _⟩ => ⟨S1x640, .f32⟩
  | .local _ .vmem, ⟨36, _⟩ => ⟨S1664x256, .f32⟩
  | .local _ .vmem, ⟨37, _⟩ => ⟨S1x256, .f32⟩
  | .local _ .vmem, ⟨38, _⟩ => ⟨S256x256, .f32⟩
  | .local _ .vmem, ⟨39, _⟩ => ⟨S1x256, .f32⟩
  | .local _ .vmem, ⟨40, _⟩ => ⟨S256x512, .f32⟩
  | .local _ .vmem, ⟨41, _⟩ => ⟨S1x512, .f32⟩
  | .local _ .vmem, ⟨42, _⟩ => ⟨S1x512, .f32⟩
  | .local _ .vmem, ⟨43, _⟩ => ⟨S1x512, .f32⟩
  | .local _ .vmem, ⟨44, _⟩ => ⟨S1x512, .f32⟩
  | .local _ .vmem, ⟨45, _⟩ => ⟨S512x128, .f32⟩
  | .local _ .vmem, ⟨46, _⟩ => ⟨S512x128, .f32⟩
  | .local _ .vmem, ⟨47, _⟩ => ⟨S512x128, .f32⟩
  | .local _ .vmem, ⟨48, _⟩ => ⟨S512x128, .f32⟩
  | _, _ => ⟨S41538, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7_0 : Ref sig .tc := ⟨.hbm, 27, rfl⟩
abbrev main_v7_1 : Ref sig .tc := ⟨.hbm, 28, rfl⟩
abbrev main_v7_2 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14_0 : Ref sig .tc := ⟨.hbm, 37, rfl⟩
abbrev main_v14_1 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22_0 : Ref sig .tc := ⟨.hbm, 47, rfl⟩
abbrev main_v22_1 : Ref sig .tc := ⟨.hbm, 48, rfl⟩
abbrev main_v22_2 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40_0 : Ref sig .tc := ⟨.hbm, 68, rfl⟩
abbrev main_v40_1 : Ref sig .tc := ⟨.hbm, 69, rfl⟩
abbrev main_v40_2 : Ref sig .tc := ⟨.hbm, 70, rfl⟩
abbrev main_v40_3 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg11_0 : Ref sig .tc := ⟨.vmem, 32, rfl⟩
abbrev cc2_stg12_0 : Ref sig .tc := ⟨.vmem, 33, rfl⟩
abbrev cc3_stg0_0 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg10_0 : Ref sig .tc := ⟨.vmem, 44, rfl⟩
abbrev cc3_stg11_0 : Ref sig .tc := ⟨.vmem, 45, rfl⟩
abbrev cc3_stg12_0 : Ref sig .tc := ⟨.vmem, 46, rfl⟩
abbrev cc3_stg13_0 : Ref sig .tc := ⟨.vmem, 47, rfl⟩
abbrev cc3_stg14_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc2_sem0_0 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem11_0 : DmaSem sig := 32
abbrev cc2_sem12_0 : DmaSem sig := 33
abbrev cc3_sem0_0 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem11_0 : DmaSem sig := 45
abbrev cc3_sem12_0 : DmaSem sig := 46
abbrev cc3_sem13_0 : DmaSem sig := 47
abbrev cc3_sem14_0 : DmaSem sig := 48

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := .none

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S640x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x512 .i32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := .none

abbrev stage2_0 : Fin 1 → Memref sig .tc .vmem S1x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x640 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1152x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S256x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x512 .i32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S512x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S512x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev stage2_12 : Fin 1 → Memref sig .tc .vmem S512x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))

abbrev grid3 : Pipeline.Grid := .none

abbrev stage3_0 : Fin 1 → Memref sig .tc .vmem S1x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x640 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1664x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S256x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S512x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))

abbrev stage3_12 : Fin 1 → Memref sig .tc .vmem S512x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))

abbrev stage3_13 : Fin 1 → Memref sig .tc .vmem S512x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))

abbrev stage3_14 : Fin 1 → Memref sig .tc .vmem S512x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
-- ==== KernelIdeal.lean ====
variable {F : FTy → Type} [FloatOps F] [Named F]
def κ : String → Option EReal := fun
  | "selu_scale_alpha" => some ((123715243141731 / 70368744177664 : ℝ) : EReal)
  | _ => none
-- ==== ReferenceIdeal.lean ====
abbrev S41538 : Shape := ⟨1, ![41538]⟩
abbrev S41538x256 : Shape := ⟨2, ![41538, 256]⟩
abbrev S256 : Shape := ⟨1, ![256]⟩
abbrev S256x256 : Shape := ⟨2, ![256, 256]⟩
abbrev S256x512 : Shape := ⟨2, ![256, 512]⟩
abbrev S512 : Shape := ⟨1, ![512]⟩
abbrev S42050x256 : Shape := ⟨2, ![42050, 256]⟩
abbrev S42562x256 : Shape := ⟨2, ![42562, 256]⟩
abbrev S_ : Shape := ⟨0, ![]⟩
abbrev S1 : Shape := ⟨1, ![1]⟩
abbrev S512x1 : Shape := ⟨2, ![512, 1]⟩
abbrev S1x41538 : Shape := ⟨2, ![1, 41538]⟩
abbrev S1x1x1x41538 : Shape := ⟨4, ![1, 1, 1, 41538]⟩
abbrev S512x1x1x41538 : Shape := ⟨4, ![512, 1, 1, 41538]⟩
abbrev S512x41538 : Shape := ⟨2, ![512, 41538]⟩
abbrev S1x512 : Shape := ⟨2, ![1, 512]⟩
abbrev S512x512 : Shape := ⟨2, ![512, 512]⟩
abbrev S512x42050 : Shape := ⟨2, ![512, 42050]⟩
abbrev S512x256 : Shape := ⟨2, ![512, 256]⟩
abbrev S1x256 : Shape := ⟨2, ![1, 256]⟩
abbrev S262144 : Shape := ⟨1, ![262144]⟩
abbrev S262144x1 : Shape := ⟨2, ![262144, 1]⟩
abbrev S512x42562 : Shape := ⟨2, ![512, 42562]⟩
abbrev S512x4 : Shape := ⟨2, ![512, 4]⟩

abbrev nBuf : Space → Nat
  | .hbm => 403
  | .vmem => 0
  | .smem => 0
  | _ => 0

abbrev hbmTy0_0 (i : Nat) : BufTy := match i % 128 with
  | 0 => ⟨S41538, .f32⟩
  | 1 => ⟨S41538x256, .f32⟩
  | 2 => ⟨S256, .f32⟩
  | 3 => ⟨S256x256, .f32⟩
  | 4 => ⟨S256, .f32⟩
  | 5 => ⟨S256x512, .f32⟩
  | 6 => ⟨S512, .f32⟩
  | 7 => ⟨S42050x256, .f32⟩
  | 8 => ⟨S256, .f32⟩
  | 9 => ⟨S256x256, .f32⟩
  | 10 => ⟨S256, .f32⟩
  | 11 => ⟨S256x512, .f32⟩
  | 12 => ⟨S512, .f32⟩
  | 13 => ⟨S42562x256, .f32⟩
  | 14 => ⟨S256, .f32⟩
  | 15 => ⟨S256x256, .f32⟩
  | 16 => ⟨S256, .f32⟩
  | 17 => ⟨S256x512, .f32⟩
  | 18 => ⟨S512, .f32⟩
  | 19 => ⟨S256, .f32⟩
  | 20 => ⟨S256, .f32⟩
  | 21 => ⟨S_, .f32⟩
  | 22 => ⟨S_, .f32⟩
  | 23 => ⟨S256, .f32⟩
  | 24 => ⟨S256, .i1⟩
  | 25 => ⟨S_, .f32⟩
  | 26 => ⟨S256, .f32⟩
  | 27 => ⟨S256, .i1⟩
  | 28 => ⟨S_, .f32⟩
  | 29 => ⟨S_, .f32⟩
  | 30 => ⟨S256, .f32⟩
  | 31 => ⟨S256, .f32⟩
  | 32 => ⟨S256, .f32⟩
  | 33 => ⟨S_, .f32⟩
  | 34 => ⟨S256, .f32⟩
  | 35 => ⟨S256, .f32⟩
  | 36 => ⟨S256, .f32⟩
  | 37 => ⟨S_, .f32⟩
  | 38 => ⟨S256, .f32⟩
  | 39 => ⟨S256, .f32⟩
  | 40 => ⟨S256, .f32⟩
  | 41 => ⟨S256, .f32⟩
  | 42 => ⟨S_, .f32⟩
  | 43 => ⟨S_, .f32⟩
  | 44 => ⟨S256, .f32⟩
  | 45 => ⟨S256, .i1⟩
  | 46 => ⟨S_, .f32⟩
  | 47 => ⟨S256, .f32⟩
  | 48 => ⟨S256, .i1⟩
  | 49 => ⟨S_, .f32⟩
  | 50 => ⟨S_, .f32⟩
  | 51 => ⟨S256, .f32⟩
  | 52 => ⟨S256, .f32⟩
  | 53 => ⟨S256, .f32⟩
  | 54 => ⟨S_, .f32⟩
  | 55 => ⟨S256, .f32⟩
  | 56 => ⟨S256, .f32⟩
  | 57 => ⟨S256, .f32⟩
  | 58 => ⟨S_, .f32⟩
  | 59 => ⟨S256, .f32⟩
  | 60 => ⟨S256, .f32⟩
  | 61 => ⟨S512, .f32⟩
  | 62 => ⟨S512, .f32⟩
  | 63 => ⟨S_, .f32⟩
  | 64 => ⟨S_, .f32⟩
  | 65 => ⟨S_, .f32⟩
  | 66 => ⟨S_, .f32⟩
  | 67 => ⟨S1, .f32⟩
  | 68 => ⟨S512, .f32⟩
  | 69 => ⟨S512, .f32⟩
  | 70 => ⟨S512, .f32⟩
  | 71 => ⟨S_, .f32⟩
  | 72 => ⟨S_, .f32⟩
  | 73 => ⟨S1, .f32⟩
  | 74 => ⟨S512, .f32⟩
  | 75 => ⟨S512, .f32⟩
  | 76 => ⟨S512, .f32⟩
  | 77 => ⟨S512, .f32⟩
  | 78 => ⟨S512, .i32⟩
  | 79 => ⟨S512, .f32⟩
  | 80 => ⟨S512, .i32⟩
  | 81 => ⟨S_, .i32⟩
  | 82 => ⟨S512, .i32⟩
  | 83 => ⟨S512, .i1⟩
  | 84 => ⟨S_, .i32⟩
  | 85 => ⟨S512, .i32⟩
  | 86 => ⟨S512, .i32⟩
  | 87 => ⟨S512, .i32⟩
  | 88 => ⟨S512x1, .i32⟩
  | 89 => ⟨S512, .f32⟩
  | 90 => ⟨S512, .f32⟩
  | 91 => ⟨S1x41538, .f32⟩
  | 92 => ⟨S1x1x1x41538, .f32⟩
  | 93 => ⟨S512x1x1x41538, .f32⟩
  | 94 => ⟨S512x41538, .f32⟩
  | 95 => ⟨S512, .i32⟩
  | 96 => ⟨S512x1, .i32⟩
  | 97 => ⟨S1x512, .i32⟩
  | 98 => ⟨S512x512, .i32⟩
  | 99 => ⟨S512x512, .i32⟩
  | 100 => ⟨S512x512, .i1⟩
  | 101 => ⟨S512x512, .f32⟩
  | 102 => ⟨S512x42050, .f32⟩
  | 103 => ⟨S512x256, .f32⟩
  | 104 => ⟨S1x256, .f32⟩
  | 105 => ⟨S512x256, .f32⟩
  | 106 => ⟨S512x256, .f32⟩
  | 107 => ⟨S_, .f32⟩
  | 108 => ⟨S_, .f32⟩
  | 109 => ⟨S512x256, .f32⟩
  | 110 => ⟨S512x256, .i1⟩
  | 111 => ⟨S_, .f32⟩
  | 112 => ⟨S512x256, .f32⟩
  | 113 => ⟨S512x256, .i1⟩
  | 114 => ⟨S_, .f32⟩
  | 115 => ⟨S_, .f32⟩
  | 116 => ⟨S512x256, .f32⟩
  | 117 => ⟨S512x256, .f32⟩
  | 118 => ⟨S512x256, .f32⟩
  | 119 => ⟨S_, .f32⟩
  | 120 => ⟨S512x256, .f32⟩
  | 121 => ⟨S512x256, .f32⟩
  | 122 => ⟨S512x256, .f32⟩
  | 123 => ⟨S_, .f32⟩
  | 124 => ⟨S512x256, .f32⟩
  | 125 => ⟨S512x256, .f32⟩
  | 126 => ⟨S512x256, .f32⟩
  | 127 => ⟨S1x256, .f32⟩
  | _ => ⟨S41538, .f32⟩

abbrev hbmTy0_1 (i : Nat) : BufTy := match i % 128 with
  | 0 => ⟨S512x256, .f32⟩
  | 1 => ⟨S512x256, .f32⟩
  | 2 => ⟨S_, .f32⟩
  | 3 => ⟨S_, .f32⟩
  | 4 => ⟨S512x256, .f32⟩
  | 5 => ⟨S512x256, .i1⟩
  | 6 => ⟨S_, .f32⟩
  | 7 => ⟨S512x256, .f32⟩
  | 8 => ⟨S512x256, .i1⟩
  | 9 => ⟨S_, .f32⟩
  | 10 => ⟨S_, .f32⟩
  | 11 => ⟨S512x256, .f32⟩
  | 12 => ⟨S512x256, .f32⟩
  | 13 => ⟨S512x256, .f32⟩
  | 14 => ⟨S_, .f32⟩
  | 15 => ⟨S512x256, .f32⟩
  | 16 => ⟨S512x256, .f32⟩
  | 17 => ⟨S512x256, .f32⟩
  | 18 => ⟨S_, .f32⟩
  | 19 => ⟨S512x256, .f32⟩
  | 20 => ⟨S512x256, .f32⟩
  | 21 => ⟨S512x512, .f32⟩
  | 22 => ⟨S1x512, .f32⟩
  | 23 => ⟨S512x512, .f32⟩
  | 24 => ⟨S512x512, .f32⟩
  | 25 => ⟨S_, .f32⟩
  | 26 => ⟨S512, .f32⟩
  | 27 => ⟨S_, .f32⟩
  | 28 => ⟨S512, .f32⟩
  | 29 => ⟨S512, .f32⟩
  | 30 => ⟨S512x1, .f32⟩
  | 31 => ⟨S512x512, .f32⟩
  | 32 => ⟨S512x512, .f32⟩
  | 33 => ⟨S512x512, .f32⟩
  | 34 => ⟨S_, .f32⟩
  | 35 => ⟨S512, .f32⟩
  | 36 => ⟨S512x1, .f32⟩
  | 37 => ⟨S512x512, .f32⟩
  | 38 => ⟨S512x512, .f32⟩
  | 39 => ⟨S512x512, .f32⟩
  | 40 => ⟨S512x1, .f32⟩
  | 41 => ⟨S512x512, .f32⟩
  | 42 => ⟨S512x512, .f32⟩
  | 43 => ⟨S262144, .f32⟩
  | 44 => ⟨S262144, .f32⟩
  | 45 => ⟨S262144, .i32⟩
  | 46 => ⟨S262144, .f32⟩
  | 47 => ⟨S262144, .i32⟩
  | 48 => ⟨S_, .i32⟩
  | 49 => ⟨S262144, .i32⟩
  | 50 => ⟨S262144, .i1⟩
  | 51 => ⟨S_, .i32⟩
  | 52 => ⟨S262144, .i32⟩
  | 53 => ⟨S262144, .i32⟩
  | 54 => ⟨S262144, .i32⟩
  | 55 => ⟨S262144x1, .i32⟩
  | 56 => ⟨S262144, .f32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S262144, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i1⟩
  | 71 => ⟨S_, .i32⟩
  | 72 => ⟨S_, .i1⟩
  | 73 => ⟨S262144, .i1⟩
  | 74 => ⟨S262144, .i1⟩
  | 75 => ⟨S262144, .i1⟩
  | 76 => ⟨S262144, .i32⟩
  | 77 => ⟨S262144, .i32⟩
  | 78 => ⟨S262144, .i32⟩
  | 79 => ⟨S262144, .f32⟩
  | 80 => ⟨S_, .i32⟩
  | 81 => ⟨S_, .i32⟩
  | 82 => ⟨S262144, .i32⟩
  | 83 => ⟨S262144, .i32⟩
  | 84 => ⟨S262144, .i32⟩
  | 85 => ⟨S_, .i32⟩
  | 86 => ⟨S262144, .i32⟩
  | 87 => ⟨S262144, .i1⟩
  | 88 => ⟨S262144, .i32⟩
  | 89 => ⟨S262144, .i32⟩
  | 90 => ⟨S_, .i32⟩
  | 91 => ⟨S262144, .i32⟩
  | 92 => ⟨S262144, .i1⟩
  | 93 => ⟨S262144, .i1⟩
  | 94 => ⟨S_, .i32⟩
  | 95 => ⟨S262144, .i32⟩
  | 96 => ⟨S262144, .i32⟩
  | 97 => ⟨S262144, .i32⟩
  | 98 => ⟨S_, .i32⟩
  | 99 => ⟨S262144, .i32⟩
  | 100 => ⟨S262144, .i1⟩
  | 101 => ⟨S_, .i32⟩
  | 102 => ⟨S262144, .i32⟩
  | 103 => ⟨S262144, .i32⟩
  | 104 => ⟨S262144, .i32⟩
  | 105 => ⟨S262144x1, .i32⟩
  | 106 => ⟨S262144, .f32⟩
  | 107 => ⟨S512, .f32⟩
  | 108 => ⟨S512, .f32⟩
  | 109 => ⟨S512, .f32⟩
  | 110 => ⟨S512, .i32⟩
  | 111 => ⟨S512x1, .i32⟩
  | 112 => ⟨S1x512, .i32⟩
  | 113 => ⟨S512x512, .i32⟩
  | 114 => ⟨S512x512, .i32⟩
  | 115 => ⟨S512x512, .i1⟩
  | 116 => ⟨S512x512, .f32⟩
  | 117 => ⟨S512, .i32⟩
  | 118 => ⟨S512x1, .i32⟩
  | 119 => ⟨S1x512, .i32⟩
  | 120 => ⟨S512x512, .i32⟩
  | 121 => ⟨S512x512, .i32⟩
  | 122 => ⟨S512x512, .i1⟩
  | 123 => ⟨S512x512, .f32⟩
  | 124 => ⟨S512x42562, .f32⟩
  | 125 => ⟨S512x256, .f32⟩
  | 126 => ⟨S1x256, .f32⟩
  | 127 => ⟨S512x256, .f32⟩
  | _ => ⟨S41538, .f32⟩

abbrev hbmTy0_2 (i : Nat) : BufTy := match i % 128 with
  | 0 => ⟨S512x256, .f32⟩
  | 1 => ⟨S_, .f32⟩
  | 2 => ⟨S_, .f32⟩
  | 3 => ⟨S512x256, .f32⟩
  | 4 => ⟨S512x256, .i1⟩
  | 5 => ⟨S_, .f32⟩
  | 6 => ⟨S512x256, .f32⟩
  | 7 => ⟨S512x256, .i1⟩
  | 8 => ⟨S_, .f32⟩
  | 9 => ⟨S_, .f32⟩
  | 10 => ⟨S512x256, .f32⟩
  | 11 => ⟨S512x256, .f32⟩
  | 12 => ⟨S512x256, .f32⟩
  | 13 => ⟨S_, .f32⟩
  | 14 => ⟨S512x256, .f32⟩
  | 15 => ⟨S512x256, .f32⟩
  | 16 => ⟨S512x256, .f32⟩
  | 17 => ⟨S_, .f32⟩
  | 18 => ⟨S512x256, .f32⟩
  | 19 => ⟨S512x256, .f32⟩
  | 20 => ⟨S512x256, .f32⟩
  | 21 => ⟨S1x256, .f32⟩
  | 22 => ⟨S512x256, .f32⟩
  | 23 => ⟨S512x256, .f32⟩
  | 24 => ⟨S_, .f32⟩
  | 25 => ⟨S_, .f32⟩
  | 26 => ⟨S512x256, .f32⟩
  | 27 => ⟨S512x256, .i1⟩
  | 28 => ⟨S_, .f32⟩
  | 29 => ⟨S512x256, .f32⟩
  | 30 => ⟨S512x256, .i1⟩
  | 31 => ⟨S_, .f32⟩
  | 32 => ⟨S_, .f32⟩
  | 33 => ⟨S512x256, .f32⟩
  | 34 => ⟨S512x256, .f32⟩
  | 35 => ⟨S512x256, .f32⟩
  | 36 => ⟨S_, .f32⟩
  | 37 => ⟨S512x256, .f32⟩
  | 38 => ⟨S512x256, .f32⟩
  | 39 => ⟨S512x256, .f32⟩
  | 40 => ⟨S_, .f32⟩
  | 41 => ⟨S512x256, .f32⟩
  | 42 => ⟨S512x256, .f32⟩
  | 43 => ⟨S512x512, .f32⟩
  | 44 => ⟨S1x512, .f32⟩
  | 45 => ⟨S512x512, .f32⟩
  | 46 => ⟨S512x512, .f32⟩
  | 47 => ⟨S_, .f32⟩
  | 48 => ⟨S512, .f32⟩
  | 49 => ⟨S_, .f32⟩
  | 50 => ⟨S512, .f32⟩
  | 51 => ⟨S512, .f32⟩
  | 52 => ⟨S512x1, .f32⟩
  | 53 => ⟨S512x512, .f32⟩
  | 54 => ⟨S512x512, .f32⟩
  | 55 => ⟨S512x512, .f32⟩
  | 56 => ⟨S_, .f32⟩
  | 57 => ⟨S512, .f32⟩
  | 58 => ⟨S512x1, .f32⟩
  | 59 => ⟨S512x512, .f32⟩
  | 60 => ⟨S512x512, .f32⟩
  | 61 => ⟨S512x512, .f32⟩
  | 62 => ⟨S512x1, .f32⟩
  | 63 => ⟨S512x512, .f32⟩
  | 64 => ⟨S512x512, .f32⟩
  | 65 => ⟨S262144, .f32⟩
  | 66 => ⟨S262144, .f32⟩
  | 67 => ⟨S262144, .i32⟩
  | 68 => ⟨S262144, .f32⟩
  | 69 => ⟨S262144, .i32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S262144, .f32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S262144, .i32⟩
  | 86 => ⟨S262144, .i32⟩
  | 87 => ⟨S_, .i32⟩
  | 88 => ⟨S262144, .i32⟩
  | 89 => ⟨S262144, .i1⟩
  | 90 => ⟨S_, .i32⟩
  | 91 => ⟨S262144, .i32⟩
  | 92 => ⟨S262144, .i1⟩
  | 93 => ⟨S_, .i32⟩
  | 94 => ⟨S_, .i1⟩
  | 95 => ⟨S262144, .i1⟩
  | 96 => ⟨S262144, .i1⟩
  | 97 => ⟨S262144, .i1⟩
  | 98 => ⟨S262144, .i32⟩
  | 99 => ⟨S262144, .i32⟩
  | 100 => ⟨S262144, .i32⟩
  | 101 => ⟨S262144, .f32⟩
  | 102 => ⟨S_, .i32⟩
  | 103 => ⟨S_, .i32⟩
  | 104 => ⟨S262144, .i32⟩
  | 105 => ⟨S262144, .i32⟩
  | 106 => ⟨S262144, .i32⟩
  | 107 => ⟨S_, .i32⟩
  | 108 => ⟨S262144, .i32⟩
  | 109 => ⟨S262144, .i1⟩
  | 110 => ⟨S262144, .i32⟩
  | 111 => ⟨S262144, .i32⟩
  | 112 => ⟨S_, .i32⟩
  | 113 => ⟨S262144, .i32⟩
  | 114 => ⟨S262144, .i1⟩
  | 115 => ⟨S262144, .i1⟩
  | 116 => ⟨S_, .i32⟩
  | 117 => ⟨S262144, .i32⟩
  | 118 => ⟨S262144, .i32⟩
  | 119 => ⟨S262144, .i32⟩
  | 120 => ⟨S_, .i32⟩
  | 121 => ⟨S262144, .i32⟩
  | 122 => ⟨S262144, .i1⟩
  | 123 => ⟨S_, .i32⟩
  | 124 => ⟨S262144, .i32⟩
  | 125 => ⟨S262144, .i32⟩
  | 126 => ⟨S262144, .i32⟩
  | 127 => ⟨S262144x1, .i32⟩
  | _ => ⟨S41538, .f32⟩

abbrev hbmTy0_3 (i : Nat) : BufTy := match i % 128 with
  | 0 => ⟨S262144, .f32⟩
  | 1 => ⟨S512, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S262144, .f32⟩
  | 11 => ⟨S512, .f32⟩
  | 12 => ⟨S512, .f32⟩
  | 13 => ⟨S512, .f32⟩
  | 14 => ⟨S512x1, .f32⟩
  | 15 => ⟨S512x1, .f32⟩
  | 16 => ⟨S512x1, .f32⟩
  | 17 => ⟨S512x1, .f32⟩
  | 18 => ⟨S512x4, .f32⟩
  | _ => ⟨S41538, .f32⟩

abbrev hbmTy (i : Nat) : BufTy := match i / 128 with
  | 0 => hbmTy0_0 i
  | 1 => hbmTy0_1 i
  | 2 => hbmTy0_2 i
  | 3 => hbmTy0_3 i
  | _ => ⟨S41538, .f32⟩

abbrev bufTy : (tb : Table) → Fin (tcTables nBuf tb) → BufTy
  | .hbm, ⟨i, _⟩ => hbmTy i
  | _, _ => ⟨S41538, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_cst : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_cst_0 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_cst_1 : Ref sig .tc := ⟨.hbm, 28, rfl⟩
abbrev main_call0_call0_call0_v0 : Ref sig .tc := ⟨.hbm, 29, rfl⟩
abbrev main_call0_call0_call0_v1 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_v0 : Ref sig .tc := ⟨.hbm, 36, rfl⟩
abbrev main_call0_cst_0 : Ref sig .tc := ⟨.hbm, 37, rfl⟩
abbrev main_call0_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_call1_cst : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_cst_0 : Ref sig .tc := ⟨.hbm, 46, rfl⟩
abbrev main_call1_call0_v2 : Ref sig .tc := ⟨.hbm, 47, rfl⟩
abbrev main_call1_call0_v3 : Ref sig .tc := ⟨.hbm, 48, rfl⟩
abbrev main_call1_call0_cst_1 : Ref sig .tc := ⟨.hbm, 49, rfl⟩
abbrev main_call1_call0_call0_v0 : Ref sig .tc := ⟨.hbm, 50, rfl⟩
abbrev main_call1_call0_call0_v1 : Ref sig .tc := ⟨.hbm, 51, rfl⟩
abbrev main_call1_call0_v4 : Ref sig .tc := ⟨.hbm, 52, rfl⟩
abbrev main_call1_call0_v5 : Ref sig .tc := ⟨.hbm, 53, rfl⟩
abbrev main_call1_call0_v6 : Ref sig .tc := ⟨.hbm, 54, rfl⟩
abbrev main_call1_call0_v7 : Ref sig .tc := ⟨.hbm, 55, rfl⟩
abbrev main_call1_call0_v8 : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_cst : Ref sig .tc := ⟨.hbm, 63, rfl⟩
abbrev main_v8 : Ref sig .tc := ⟨.hbm, 64, rfl⟩
abbrev main_cst_0 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_cst_1 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_call2_v0 : Ref sig .tc := ⟨.hbm, 78, rfl⟩
abbrev main_call2_v1_0 : Ref sig .tc := ⟨.hbm, 79, rfl⟩
abbrev main_v20 : Ref sig .tc := ⟨.hbm, 80, rfl⟩
abbrev main_c : Ref sig .tc := ⟨.hbm, 81, rfl⟩
abbrev main_v21 : Ref sig .tc := ⟨.hbm, 82, rfl⟩
abbrev main_v22 : Ref sig .tc := ⟨.hbm, 83, rfl⟩
abbrev main_c_2 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_call4_cst : Ref sig .tc := ⟨.hbm, 107, rfl⟩
abbrev main_call4_call0_cst : Ref sig .tc := ⟨.hbm, 108, rfl⟩
abbrev main_call4_call0_v0 : Ref sig .tc := ⟨.hbm, 109, rfl⟩
abbrev main_call4_call0_v1 : Ref sig .tc := ⟨.hbm, 110, rfl⟩
abbrev main_call4_call0_cst_0 : Ref sig .tc := ⟨.hbm, 111, rfl⟩
abbrev main_call4_call0_v2 : Ref sig .tc := ⟨.hbm, 112, rfl⟩
abbrev main_call4_call0_v3 : Ref sig .tc := ⟨.hbm, 113, rfl⟩
abbrev main_call4_call0_cst_1 : Ref sig .tc := ⟨.hbm, 114, rfl⟩
abbrev main_call4_call0_call0_v0 : Ref sig .tc := ⟨.hbm, 115, rfl⟩
abbrev main_call4_call0_call0_v1 : Ref sig .tc := ⟨.hbm, 116, rfl⟩
abbrev main_call4_call0_v4 : Ref sig .tc := ⟨.hbm, 117, rfl⟩
abbrev main_call4_call0_v5 : Ref sig .tc := ⟨.hbm, 118, rfl⟩
abbrev main_call4_call0_v6 : Ref sig .tc := ⟨.hbm, 119, rfl⟩
abbrev main_call4_call0_v7 : Ref sig .tc := ⟨.hbm, 120, rfl⟩
abbrev main_call4_call0_v8 : Ref sig .tc := ⟨.hbm, 121, rfl⟩
abbrev main_call4_v0 : Ref sig .tc := ⟨.hbm, 122, rfl⟩
abbrev main_call4_cst_0 : Ref sig .tc := ⟨.hbm, 123, rfl⟩
abbrev main_call4_v1 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_call5_cst : Ref sig .tc := ⟨.hbm, 130, rfl⟩
abbrev main_call5_call0_cst : Ref sig .tc := ⟨.hbm, 131, rfl⟩
abbrev main_call5_call0_v0 : Ref sig .tc := ⟨.hbm, 132, rfl⟩
abbrev main_call5_call0_v1 : Ref sig .tc := ⟨.hbm, 133, rfl⟩
abbrev main_call5_call0_cst_0 : Ref sig .tc := ⟨.hbm, 134, rfl⟩
abbrev main_call5_call0_v2 : Ref sig .tc := ⟨.hbm, 135, rfl⟩
abbrev main_call5_call0_v3 : Ref sig .tc := ⟨.hbm, 136, rfl⟩
abbrev main_call5_call0_cst_1 : Ref sig .tc := ⟨.hbm, 137, rfl⟩
abbrev main_call5_call0_call0_v0 : Ref sig .tc := ⟨.hbm, 138, rfl⟩
abbrev main_call5_call0_call0_v1 : Ref sig .tc := ⟨.hbm, 139, rfl⟩
abbrev main_call5_call0_v4 : Ref sig .tc := ⟨.hbm, 140, rfl⟩
abbrev main_call5_call0_v5 : Ref sig .tc := ⟨.hbm, 141, rfl⟩
abbrev main_call5_call0_v6 : Ref sig .tc := ⟨.hbm, 142, rfl⟩
abbrev main_call5_call0_v7 : Ref sig .tc := ⟨.hbm, 143, rfl⟩
abbrev main_call5_call0_v8 : Ref sig .tc := ⟨.hbm, 144, rfl⟩
abbrev main_call5_v0 : Ref sig .tc := ⟨.hbm, 145, rfl⟩
abbrev main_call5_cst_0 : Ref sig .tc := ⟨.hbm, 146, rfl⟩
abbrev main_call5_v1 : Ref sig .tc := ⟨.hbm, 147, rfl⟩
abbrev main_v45 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_cst_3 : Ref sig .tc := ⟨.hbm, 153, rfl⟩
abbrev main_v50 : Ref sig .tc := ⟨.hbm, 154, rfl⟩
abbrev main_cst_4 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_cst_5 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_call6_v0 : Ref sig .tc := ⟨.hbm, 173, rfl⟩
abbrev main_call6_v1_0 : Ref sig .tc := ⟨.hbm, 174, rfl⟩
abbrev main_v67 : Ref sig .tc := ⟨.hbm, 175, rfl⟩
abbrev main_c_6 : Ref sig .tc := ⟨.hbm, 176, rfl⟩
abbrev main_v68 : Ref sig .tc := ⟨.hbm, 177, rfl⟩
abbrev main_v69 : Ref sig .tc := ⟨.hbm, 178, rfl⟩
abbrev main_c_7 : Ref sig .tc := ⟨.hbm, 179, rfl⟩
abbrev main_v70 : Ref sig .tc := ⟨.hbm, 180, rfl⟩
abbrev main_v71 : Ref sig .tc := ⟨.hbm, 181, rfl⟩
abbrev main_v72 : Ref sig .tc := ⟨.hbm, 182, rfl⟩
abbrev main_v73 : Ref sig .tc := ⟨.hbm, 183, rfl⟩
abbrev main_v74 : Ref sig .tc := ⟨.hbm, 184, rfl⟩
abbrev main_c_8 : Ref sig .tc := ⟨.hbm, 185, rfl⟩
abbrev main_call7_v0 : Ref sig .tc := ⟨.hbm, 186, rfl⟩
abbrev main_call7_c : Ref sig .tc := ⟨.hbm, 187, rfl⟩
abbrev main_call7_v1 : Ref sig .tc := ⟨.hbm, 188, rfl⟩
abbrev main_call7_c_0 : Ref sig .tc := ⟨.hbm, 189, rfl⟩
abbrev main_call7_v2 : Ref sig .tc := ⟨.hbm, 190, rfl⟩
abbrev main_call7_v3 : Ref sig .tc := ⟨.hbm, 191, rfl⟩
abbrev main_call7_v4 : Ref sig .tc := ⟨.hbm, 192, rfl⟩
abbrev main_call7_c_1 : Ref sig .tc := ⟨.hbm, 193, rfl⟩
abbrev main_call7_v5 : Ref sig .tc := ⟨.hbm, 194, rfl⟩
abbrev main_call7_v6 : Ref sig .tc := ⟨.hbm, 195, rfl⟩
abbrev main_call7_c_2 : Ref sig .tc := ⟨.hbm, 196, rfl⟩
abbrev main_call7_v7 : Ref sig .tc := ⟨.hbm, 197, rfl⟩
abbrev main_call7_v8 : Ref sig .tc := ⟨.hbm, 198, rfl⟩
abbrev main_call7_c_3 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_v12 : Ref sig .tc := ⟨.hbm, 203, rfl⟩
abbrev main_call7_v13 : Ref sig .tc := ⟨.hbm, 204, rfl⟩
abbrev main_call7_v14 : Ref sig .tc := ⟨.hbm, 205, rfl⟩
abbrev main_v75 : Ref sig .tc := ⟨.hbm, 206, rfl⟩
abbrev main_v76 : Ref sig .tc := ⟨.hbm, 207, rfl⟩
abbrev main_c_9 : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_call8_v5 : Ref sig .tc := ⟨.hbm, 214, rfl⟩
abbrev main_call8_v6 : Ref sig .tc := ⟨.hbm, 215, rfl⟩
abbrev main_call8_v7 : Ref sig .tc := ⟨.hbm, 216, rfl⟩
abbrev main_call8_v8 : Ref sig .tc := ⟨.hbm, 217, rfl⟩
abbrev main_call8_c : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_0 : Ref sig .tc := ⟨.hbm, 222, rfl⟩
abbrev main_call8_v12 : Ref sig .tc := ⟨.hbm, 223, rfl⟩
abbrev main_call8_v13 : Ref sig .tc := ⟨.hbm, 224, rfl⟩
abbrev main_v77 : Ref sig .tc := ⟨.hbm, 225, rfl⟩
abbrev main_c_10 : Ref sig .tc := ⟨.hbm, 226, rfl⟩
abbrev main_v78 : Ref sig .tc := ⟨.hbm, 227, rfl⟩
abbrev main_v79 : Ref sig .tc := ⟨.hbm, 228, rfl⟩
abbrev main_c_11 : Ref sig .tc := ⟨.hbm, 229, rfl⟩
abbrev main_v80 : Ref sig .tc := ⟨.hbm, 230, rfl⟩
abbrev main_v81 : Ref sig .tc := ⟨.hbm, 231, rfl⟩
abbrev main_v82 : Ref sig .tc := ⟨.hbm, 232, rfl⟩
abbrev main_v83 : Ref sig .tc := ⟨.hbm, 233, rfl⟩
abbrev main_v84 : Ref sig .tc := ⟨.hbm, 234, rfl⟩
abbrev main_v85 : Ref sig .tc := ⟨.hbm, 235, rfl⟩
abbrev main_v86 : Ref sig .tc := ⟨.hbm, 236, rfl⟩
abbrev main_v87 : Ref sig .tc := ⟨.hbm, 237, rfl⟩
abbrev main_v88 : Ref sig .tc := ⟨.hbm, 238, rfl⟩
abbrev main_call9_v0 : Ref sig .tc := ⟨.hbm, 239, rfl⟩
abbrev main_call9_v1 : Ref sig .tc := ⟨.hbm, 240, rfl⟩
abbrev main_call9_v2 : Ref sig .tc := ⟨.hbm, 241, rfl⟩
abbrev main_call9_v3 : Ref sig .tc := ⟨.hbm, 242, rfl⟩
abbrev main_call9_v4 : Ref sig .tc := ⟨.hbm, 243, rfl⟩
abbrev main_v89 : Ref sig .tc := ⟨.hbm, 244, rfl⟩
abbrev main_v90 : Ref sig .tc := ⟨.hbm, 245, rfl⟩
abbrev main_call10_v0 : Ref sig .tc := ⟨.hbm, 246, rfl⟩
abbrev main_call10_v1 : Ref sig .tc := ⟨.hbm, 247, rfl⟩
abbrev main_call10_v2 : Ref sig .tc := ⟨.hbm, 248, rfl⟩
abbrev main_call10_v3 : Ref sig .tc := ⟨.hbm, 249, rfl⟩
abbrev main_call10_v4 : Ref sig .tc := ⟨.hbm, 250, rfl⟩
abbrev main_v91 : Ref sig .tc := ⟨.hbm, 251, rfl⟩
abbrev main_v92 : Ref sig .tc := ⟨.hbm, 252, rfl⟩
abbrev main_v93 : Ref sig .tc := ⟨.hbm, 253, rfl⟩
abbrev main_v94 : Ref sig .tc := ⟨.hbm, 254, rfl⟩
abbrev main_v95 : Ref sig .tc := ⟨.hbm, 255, rfl⟩
abbrev main_v96 : Ref sig .tc := ⟨.hbm, 256, rfl⟩
abbrev main_call11_cst : Ref sig .tc := ⟨.hbm, 257, rfl⟩
abbrev main_call11_call0_cst : Ref sig .tc := ⟨.hbm, 258, rfl⟩
abbrev main_call11_call0_v0 : Ref sig .tc := ⟨.hbm, 259, rfl⟩
abbrev main_call11_call0_v1 : Ref sig .tc := ⟨.hbm, 260, rfl⟩
abbrev main_call11_call0_cst_0 : Ref sig .tc := ⟨.hbm, 261, rfl⟩
abbrev main_call11_call0_v2 : Ref sig .tc := ⟨.hbm, 262, rfl⟩
abbrev main_call11_call0_v3 : Ref sig .tc := ⟨.hbm, 263, rfl⟩
abbrev main_call11_call0_cst_1 : Ref sig .tc := ⟨.hbm, 264, rfl⟩
abbrev main_call11_call0_call0_v0 : Ref sig .tc := ⟨.hbm, 265, rfl⟩
abbrev main_call11_call0_call0_v1 : Ref sig .tc := ⟨.hbm, 266, rfl⟩
abbrev main_call11_call0_v4 : Ref sig .tc := ⟨.hbm, 267, rfl⟩
abbrev main_call11_call0_v5 : Ref sig .tc := ⟨.hbm, 268, rfl⟩
abbrev main_call11_call0_v6 : Ref sig .tc := ⟨.hbm, 269, rfl⟩
abbrev main_call11_call0_v7 : Ref sig .tc := ⟨.hbm, 270, rfl⟩
abbrev main_call11_call0_v8 : Ref sig .tc := ⟨.hbm, 271, rfl⟩
abbrev main_call11_v0 : Ref sig .tc := ⟨.hbm, 272, rfl⟩
abbrev main_call11_cst_0 : Ref sig .tc := ⟨.hbm, 273, rfl⟩
abbrev main_call11_v1 : Ref sig .tc := ⟨.hbm, 274, rfl⟩
abbrev main_v97 : Ref sig .tc := ⟨.hbm, 275, rfl⟩
abbrev main_v98 : Ref sig .tc := ⟨.hbm, 276, rfl⟩
abbrev main_v99 : Ref sig .tc := ⟨.hbm, 277, rfl⟩
abbrev main_v100 : Ref sig .tc := ⟨.hbm, 278, rfl⟩
abbrev main_v101 : Ref sig .tc := ⟨.hbm, 279, rfl⟩
abbrev main_call12_cst : Ref sig .tc := ⟨.hbm, 280, rfl⟩
abbrev main_call12_call0_cst : Ref sig .tc := ⟨.hbm, 281, rfl⟩
abbrev main_call12_call0_v0 : Ref sig .tc := ⟨.hbm, 282, rfl⟩
abbrev main_call12_call0_v1 : Ref sig .tc := ⟨.hbm, 283, rfl⟩
abbrev main_call12_call0_cst_0 : Ref sig .tc := ⟨.hbm, 284, rfl⟩
abbrev main_call12_call0_v2 : Ref sig .tc := ⟨.hbm, 285, rfl⟩
abbrev main_call12_call0_v3 : Ref sig .tc := ⟨.hbm, 286, rfl⟩
abbrev main_call12_call0_cst_1 : Ref sig .tc := ⟨.hbm, 287, rfl⟩
abbrev main_call12_call0_call0_v0 : Ref sig .tc := ⟨.hbm, 288, rfl⟩
abbrev main_call12_call0_call0_v1 : Ref sig .tc := ⟨.hbm, 289, rfl⟩
abbrev main_call12_call0_v4 : Ref sig .tc := ⟨.hbm, 290, rfl⟩
abbrev main_call12_call0_v5 : Ref sig .tc := ⟨.hbm, 291, rfl⟩
abbrev main_call12_call0_v6 : Ref sig .tc := ⟨.hbm, 292, rfl⟩
abbrev main_call12_call0_v7 : Ref sig .tc := ⟨.hbm, 293, rfl⟩
abbrev main_call12_call0_v8 : Ref sig .tc := ⟨.hbm, 294, rfl⟩
abbrev main_call12_v0 : Ref sig .tc := ⟨.hbm, 295, rfl⟩
abbrev main_call12_cst_0 : Ref sig .tc := ⟨.hbm, 296, rfl⟩
abbrev main_call12_v1 : Ref sig .tc := ⟨.hbm, 297, rfl⟩
abbrev main_v102 : Ref sig .tc := ⟨.hbm, 298, rfl⟩
abbrev main_v103 : Ref sig .tc := ⟨.hbm, 299, rfl⟩
abbrev main_v104 : Ref sig .tc := ⟨.hbm, 300, rfl⟩
abbrev main_v105 : Ref sig .tc := ⟨.hbm, 301, rfl⟩
abbrev main_v106 : Ref sig .tc := ⟨.hbm, 302, rfl⟩
abbrev main_cst_12 : Ref sig .tc := ⟨.hbm, 303, rfl⟩
abbrev main_v107 : Ref sig .tc := ⟨.hbm, 304, rfl⟩
abbrev main_cst_13 : Ref sig .tc := ⟨.hbm, 305, rfl⟩
abbrev main_v108 : Ref sig .tc := ⟨.hbm, 306, rfl⟩
abbrev main_v109 : Ref sig .tc := ⟨.hbm, 307, rfl⟩
abbrev main_v110 : Ref sig .tc := ⟨.hbm, 308, rfl⟩
abbrev main_v111 : Ref sig .tc := ⟨.hbm, 309, rfl⟩
abbrev main_v112 : Ref sig .tc := ⟨.hbm, 310, rfl⟩
abbrev main_v113 : Ref sig .tc := ⟨.hbm, 311, rfl⟩
abbrev main_cst_14 : Ref sig .tc := ⟨.hbm, 312, rfl⟩
abbrev main_v114 : Ref sig .tc := ⟨.hbm, 313, rfl⟩
abbrev main_v115 : Ref sig .tc := ⟨.hbm, 314, rfl⟩
abbrev main_v116 : Ref sig .tc := ⟨.hbm, 315, rfl⟩
abbrev main_v117 : Ref sig .tc := ⟨.hbm, 316, rfl⟩
abbrev main_v118 : Ref sig .tc := ⟨.hbm, 317, rfl⟩
abbrev main_v119 : Ref sig .tc := ⟨.hbm, 318, rfl⟩
abbrev main_v120 : Ref sig .tc := ⟨.hbm, 319, rfl⟩
abbrev main_v121 : Ref sig .tc := ⟨.hbm, 320, rfl⟩
abbrev main_v122 : Ref sig .tc := ⟨.hbm, 321, rfl⟩
abbrev main_v123 : Ref sig .tc := ⟨.hbm, 322, rfl⟩
abbrev main_call13_v0 : Ref sig .tc := ⟨.hbm, 323, rfl⟩
abbrev main_call13_v1_0 : Ref sig .tc := ⟨.hbm, 324, rfl⟩
abbrev main_v124 : Ref sig .tc := ⟨.hbm, 325, rfl⟩
abbrev main_c_15 : Ref sig .tc := ⟨.hbm, 326, rfl⟩
abbrev main_v125 : Ref sig .tc := ⟨.hbm, 327, rfl⟩
abbrev main_v126 : Ref sig .tc := ⟨.hbm, 328, rfl⟩
abbrev main_c_16 : Ref sig .tc := ⟨.hbm, 329, rfl⟩
abbrev main_v127 : Ref sig .tc := ⟨.hbm, 330, rfl⟩
abbrev main_v128 : Ref sig .tc := ⟨.hbm, 331, rfl⟩
abbrev main_v129 : Ref sig .tc := ⟨.hbm, 332, rfl⟩
abbrev main_v130 : Ref sig .tc := ⟨.hbm, 333, rfl⟩
abbrev main_v131 : Ref sig .tc := ⟨.hbm, 334, rfl⟩
abbrev main_c_17 : Ref sig .tc := ⟨.hbm, 335, rfl⟩
abbrev main_call14_v0 : Ref sig .tc := ⟨.hbm, 336, rfl⟩
abbrev main_call14_c : Ref sig .tc := ⟨.hbm, 337, rfl⟩
abbrev main_call14_v1 : Ref sig .tc := ⟨.hbm, 338, rfl⟩
abbrev main_call14_c_0 : Ref sig .tc := ⟨.hbm, 339, rfl⟩
abbrev main_call14_v2 : Ref sig .tc := ⟨.hbm, 340, rfl⟩
abbrev main_call14_v3 : Ref sig .tc := ⟨.hbm, 341, rfl⟩
abbrev main_call14_v4 : Ref sig .tc := ⟨.hbm, 342, rfl⟩
abbrev main_call14_c_1 : Ref sig .tc := ⟨.hbm, 343, rfl⟩
abbrev main_call14_v5 : Ref sig .tc := ⟨.hbm, 344, rfl⟩
abbrev main_call14_v6 : Ref sig .tc := ⟨.hbm, 345, rfl⟩
abbrev main_call14_c_2 : Ref sig .tc := ⟨.hbm, 346, rfl⟩
abbrev main_call14_v7 : Ref sig .tc := ⟨.hbm, 347, rfl⟩
abbrev main_call14_v8 : Ref sig .tc := ⟨.hbm, 348, rfl⟩
abbrev main_call14_c_3 : Ref sig .tc := ⟨.hbm, 349, rfl⟩
abbrev main_call14_v9 : Ref sig .tc := ⟨.hbm, 350, rfl⟩
abbrev main_call14_v10 : Ref sig .tc := ⟨.hbm, 351, rfl⟩
abbrev main_call14_v11 : Ref sig .tc := ⟨.hbm, 352, rfl⟩
abbrev main_call14_v12 : Ref sig .tc := ⟨.hbm, 353, rfl⟩
abbrev main_call14_v13 : Ref sig .tc := ⟨.hbm, 354, rfl⟩
abbrev main_call14_v14 : Ref sig .tc := ⟨.hbm, 355, rfl⟩
abbrev main_v132 : Ref sig .tc := ⟨.hbm, 356, rfl⟩
abbrev main_v133 : Ref sig .tc := ⟨.hbm, 357, rfl⟩
abbrev main_c_18 : Ref sig .tc := ⟨.hbm, 358, rfl⟩
abbrev main_call15_v0 : Ref sig .tc := ⟨.hbm, 359, rfl⟩
abbrev main_call15_v1 : Ref sig .tc := ⟨.hbm, 360, rfl⟩
abbrev main_call15_v2 : Ref sig .tc := ⟨.hbm, 361, rfl⟩
abbrev main_call15_v3 : Ref sig .tc := ⟨.hbm, 362, rfl⟩
abbrev main_call15_v4 : Ref sig .tc := ⟨.hbm, 363, rfl⟩
abbrev main_call15_v5 : Ref sig .tc := ⟨.hbm, 364, rfl⟩
abbrev main_call15_v6 : Ref sig .tc := ⟨.hbm, 365, rfl⟩
abbrev main_call15_v7 : Ref sig .tc := ⟨.hbm, 366, rfl⟩
abbrev main_call15_v8 : Ref sig .tc := ⟨.hbm, 367, rfl⟩
abbrev main_call15_c : Ref sig .tc := ⟨.hbm, 368, rfl⟩
abbrev main_call15_v9 : Ref sig .tc := ⟨.hbm, 369, rfl⟩
abbrev main_call15_v10 : Ref sig .tc := ⟨.hbm, 370, rfl⟩
abbrev main_call15_v11 : Ref sig .tc := ⟨.hbm, 371, rfl⟩
abbrev main_call15_c_0 : Ref sig .tc := ⟨.hbm, 372, rfl⟩
abbrev main_call15_v12 : Ref sig .tc := ⟨.hbm, 373, rfl⟩
abbrev main_call15_v13 : Ref sig .tc := ⟨.hbm, 374, rfl⟩
abbrev main_v134 : Ref sig .tc := ⟨.hbm, 375, rfl⟩
abbrev main_c_19 : Ref sig .tc := ⟨.hbm, 376, rfl⟩
abbrev main_v135 : Ref sig .tc := ⟨.hbm, 377, rfl⟩
abbrev main_v136 : Ref sig .tc := ⟨.hbm, 378, rfl⟩
abbrev main_c_20 : Ref sig .tc := ⟨.hbm, 379, rfl⟩
abbrev main_v137 : Ref sig .tc := ⟨.hbm, 380, rfl⟩
abbrev main_v138 : Ref sig .tc := ⟨.hbm, 381, rfl⟩
abbrev main_v139 : Ref sig .tc := ⟨.hbm, 382, rfl⟩
abbrev main_v140 : Ref sig .tc := ⟨.hbm, 383, rfl⟩
abbrev main_v141 : Ref sig .tc := ⟨.hbm, 384, rfl⟩
abbrev main_v142 : Ref sig .tc := ⟨.hbm, 385, rfl⟩
abbrev main_c_21 : Ref sig .tc := ⟨.hbm, 386, rfl⟩
abbrev main_v143 : Ref sig .tc := ⟨.hbm, 387, rfl⟩
abbrev main_v144 : Ref sig .tc := ⟨.hbm, 388, rfl⟩
abbrev main_c_22 : Ref sig .tc := ⟨.hbm, 389, rfl⟩
abbrev main_v145 : Ref sig .tc := ⟨.hbm, 390, rfl⟩
abbrev main_v146 : Ref sig .tc := ⟨.hbm, 391, rfl⟩
abbrev main_v147 : Ref sig .tc := ⟨.hbm, 392, rfl⟩
abbrev main_v148 : Ref sig .tc := ⟨.hbm, 393, rfl⟩
abbrev main_v149 : Ref sig .tc := ⟨.hbm, 394, rfl⟩
abbrev main_v150 : Ref sig .tc := ⟨.hbm, 395, rfl⟩
abbrev main_v151 : Ref sig .tc := ⟨.hbm, 396, rfl⟩
abbrev main_v152 : Ref sig .tc := ⟨.hbm, 397, rfl⟩
abbrev main_v153 : Ref sig .tc := ⟨.hbm, 398, rfl⟩
abbrev main_v154 : Ref sig .tc := ⟨.hbm, 399, rfl⟩
abbrev main_v155 : Ref sig .tc := ⟨.hbm, 400, rfl⟩
abbrev main_v156 : Ref sig .tc := ⟨.hbm, 401, rfl⟩
abbrev main_v157 : Ref sig .tc := ⟨.hbm, 402, rfl⟩

abbrev nD : Nat := 1
abbrev τ : Topo := Topo.v7x

variable {F : FTy → Type} [FloatOps F]
-- ==== Proof.Stage.lean ====
/- The stages of the sorting networks, written once for every size. -/
module

public import Idealize.ShloMosaic.PureOps.Ideal
public import Idealize.ShloMosaic.Lib.MatmulPlain
public import Idealize.ShloMosaic.Lib.ValueIdx
public import Idealize.ShloMosaic.Lib.Tactic
public import Mathlib.Tactic.FinCases
public import Mathlib.Tactic.Linarith

@[expose] public section

noncomputable section

namespace Cert.Sorting

open Idealize.ShloMosaic

/-- A matrix of `n` rows and `L` columns. -/
abbrev Mat (n L : ℕ) : Shape := ⟨2, ![n, L]⟩
/-- `g` groups of `j` rows and `L` columns. -/
abbrev Grp (g j L : ℕ) : Shape := ⟨3, ![g, j, L]⟩
/-- `g` groups of `a` halves of `j` rows and `L` columns. -/
abbrev Hlf (g a j L : ℕ) : Shape := ⟨4, ![g, a, j, L]⟩

/-- The shapes of one column stage fit together. -/
structure ColFit (n L g j : ℕ) : Prop where
  split : (Mat n L).ShapeCasts (Hlf g 2 j L)
  lo : (Hlf g 2 j L).Slices ![0, 0, 0, 0] (Hlf g 1 j L)
  hi : (Hlf g 2 j L).Slices ![0, 1, 0, 0] (Hlf g 1 j L)
  drop : (Hlf g 1 j L).ShapeCasts (Grp g j L)
  add : (Grp g j L).ShapeCasts (Hlf g 1 j L)
  iota : (Grp g j L).Iotas .tc 32 [0]
  same : (Grp g j L).Broadcasts (Grp g j L)
  cat : Shape.Concatenates [Hlf g 1 j L, Hlf g 1 j L] (Hlf g 2 j L) 1
  join : (Hlf g 2 j L).ShapeCasts (Mat n L)

/-- The shapes of a column stage fit when the groups make up all the rows. -/
theorem ColFit.of {n L g j : ℕ} (h : n = g * (2 * j)) : ColFit n L g j where
  split := by
    simp only [Shape.ShapeCasts, Shape.numel, Fin.prod_univ_four, Fin.prod_univ_two]
    simp [h, mul_assoc]
  lo := ⟨rfl, by intro a; fin_cases a <;> simp⟩
  hi := ⟨rfl, by intro a; fin_cases a <;> simp⟩
  drop := by
    simp only [Shape.ShapeCasts, Shape.numel, Fin.prod_univ_four, Fin.prod_univ_three]
    simp
  add := by
    simp only [Shape.ShapeCasts, Shape.numel, Fin.prod_univ_four, Fin.prod_univ_three]
    simp
  iota := ⟨by simp, by simp, by simp⟩
  same := ⟨le_rfl, fun a => Or.inr fun _ => by fin_cases a <;> rfl⟩
  cat := by
    refine ⟨by simp, ?_, by simp⟩
    intro s hs
    simp only [List.mem_cons, List.not_mem_nil, or_false, or_self] at hs
    subst hs
    refine ⟨rfl, ?_⟩
    intro b hb
    fin_cases b <;> first | rfl | exact absurd rfl hb
  join := by
    simp only [Shape.ShapeCasts, Shape.numel, Fin.prod_univ_four, Fin.prod_univ_two]
    simp [h, mul_assoc]

section
variable {α : Type} {n L g j : ℕ}

/-- The first half of every group of `2 j` rows. -/
def loHalf (f : ColFit n L g j) (x : (Mat n L).Idx → α) : (Grp g j L).Idx → α :=
  shapeCast (Grp g j L)
    (extractStridedSlice (Hlf g 1 j L) ![0, 0, 0, 0] (shapeCast (Hlf g 2 j L) x f.split) f.lo) f.drop

/-- The second half of every group of `2 j` rows. -/
def hiHalf (f : ColFit n L g j) (x : (Mat n L).Idx → α) : (Grp g j L).Idx → α :=
  shapeCast (Grp g j L)
    (extractStridedSlice (Hlf g 1 j L) ![0, 1, 0, 0] (shapeCast (Hlf g 2 j L) x f.split) f.hi) f.drop

/-- The rows put together again from the halves of the groups. -/
def joinHalves (f : ColFit n L g j) (a b : (Grp g j L).Idx → α) : (Mat n L).Idx → α :=
  shapeCast (Mat n L)
    (concatenate (Hlf g 2 j L) 1 [⟨Hlf g 1 j L, shapeCast (Hlf g 1 j L) a f.add⟩,
      ⟨Hlf g 1 j L, shapeCast (Hlf g 1 j L) b f.add⟩] f.cat) f.join

/-- The halves of every group of `2 j` rows exchanged. -/
def swapHalves (f : ColFit n L g j) (x : (Mat n L).Idx → α) : (Mat n L).Idx → α :=
  joinHalves f (hiHalf f x) (loHalf f x)
end

section
variable {F : FTy → Type} [FloatOps F] {s : Shape}

/-- Which of two entries comes first: the larger value, and of equal values the smaller index. -/
def firstOf (av bv : FVec F s .f32) (ai bi : IVec s 32) : IVec s 1 :=
  ori (cmpf .ogt av bv) (andi (cmpf .oeq av bv) (cmpi .slt ai bi))

/-- The quotient of `x` by the number `k`, rounded down. -/
def floorDiv (s : Shape) (x : IVec s 32) (k : BitVec 32) : IVec s 32 :=
  select
    (andi
      (cmpi .ne
        (subi (extui 32 (cmpi .sgt x (broadcast s 0#32))) (extui 32 (cmpi .slt x (broadcast s 0#32))))
        (broadcast s (Scalar.subi (Scalar.extui (Scalar.cmpi .sgt k 0#32)) (Scalar.extui (Scalar.cmpi .slt k 0#32)))))
      (cmpi .ne (remsi x (broadcast s k)) (broadcast s 0#32)))
    (subi (divsi x (broadcast s k)) (broadcast s 1#32))
    (divsi x (broadcast s k))

/-- The divisor the remainder is taken by: `k`, or one in place of zero. -/
def divisor (k : BitVec 32) : BitVec 32 := Scalar.select (Scalar.cmpi .eq k 0#32) 1#32 k

/-- The remainder of `x` by the number `k`, of the sign of `k`. -/
def floorMod (s : Shape) (h : s.Broadcasts s) (x : IVec s 32) (k : BitVec 32) : IVec s 32 :=
  select
    (andi
      (xori (cmpi .slt (remsi x (broadcast s (divisor k))) (broadcast s 0#32))
        (broadcastTo s (broadcast s (Scalar.cmpi .slt (divisor k) 0#32)) h))
      (cmpi .ne (remsi x (broadcast s (divisor k))) (broadcast s 0#32)))
    (addi (remsi x (broadcast s (divisor k))) (broadcast s (divisor k)))
    (remsi x (broadcast s (divisor k)))
end

section
variable {F : FTy → Type} [FloatOps F] {n L g j : ℕ}

/-- Whether the first half keeps its entry: where the group is to be descending exactly when its entry
    comes first. -/
def keepLo (f : ColFit n L g j) (w k : BitVec 32) (first : IVec (Grp g j L) 1) : IVec (Grp g j L) 1 :=
  xori
    (xori
      (cmpi .eq
        (floorMod (Grp g j L) f.same
          (floorDiv (Grp g j L)
            (muli (iota .tc (Grp g j L) 32 [0] f.iota) (broadcast (Grp g j L) w)) k) 2#32)
        (broadcast (Grp g j L) 0#32))
      first)
    (constantI (Grp g j L) 1 1#1)

/-- The keep mask of a stage, from the values and the indices. -/
def keepOf (f : ColFit n L g j) (w k : BitVec 32) (p : FVec F (Mat n L) .f32 × IVec (Mat n L) 32) :
    IVec (Grp g j L) 1 :=
  keepLo f w k (firstOf (loHalf f p.1) (hiHalf f p.1) (loHalf f p.2) (hiHalf f p.2))

/-- One stage on the columns: rows `j` apart in a group of `2 j` are compared and exchanged. -/
def stage (f : ColFit n L g j) (w k : BitVec 32) (p : FVec F (Mat n L) .f32 × IVec (Mat n L) 32) :
    FVec F (Mat n L) .f32 × IVec (Mat n L) 32 :=
  (joinHalves f (select (keepOf f w k p) (loHalf f p.1) (hiHalf f p.1))
      (select (keepOf f w k p) (hiHalf f p.1) (loHalf f p.1)),
    joinHalves f (select (keepOf f w k p) (loHalf f p.2) (hiHalf f p.2))
      (select (keepOf f w k p) (hiHalf f p.2) (loHalf f p.2)))

/-- A stage's groups, distance, and the two numbers its direction is computed from. -/
structure Step (n : ℕ) where
  /-- the number of groups -/
  g : ℕ
  /-- half a group's rows -/
  j : ℕ
  /-- a group's rows, as the number the group's position is scaled by -/
  w : BitVec 32
  /-- the length of the runs the stage works towards -/
  k : BitVec 32
  /-- the groups make up all the rows -/
  rows : n = g * (2 * j)

/-- The stages of a list, one after another. -/
def run (L : ℕ) (steps : List (Step n)) (p : FVec F (Mat n L) .f32 × IVec (Mat n L) 32) :
    FVec F (Mat n L) .f32 × IVec (Mat n L) 32 :=
  steps.foldl (fun q s => stage (ColFit.of (L := L) s.rows) s.w s.k q) p

/-- The stages that sort 512 rows. -/
def sortSteps : List (Step 512) :=
  [⟨256, 1, 2#32, 2#32, rfl⟩, ⟨128, 2, 4#32, 4#32, rfl⟩, ⟨256, 1, 2#32, 4#32, rfl⟩, ⟨64, 4, 8#32, 8#32, rfl⟩,
   ⟨128, 2, 4#32, 8#32, rfl⟩, ⟨256, 1, 2#32, 8#32, rfl⟩, ⟨32, 8, 16#32, 16#32, rfl⟩,
   ⟨64, 4, 8#32, 16#32, rfl⟩, ⟨128, 2, 4#32, 16#32, rfl⟩, ⟨256, 1, 2#32, 16#32, rfl⟩,
   ⟨16, 16, 32#32, 32#32, rfl⟩, ⟨32, 8, 16#32, 32#32, rfl⟩, ⟨64, 4, 8#32, 32#32, rfl⟩,
   ⟨128, 2, 4#32, 32#32, rfl⟩, ⟨256, 1, 2#32, 32#32, rfl⟩, ⟨8, 32, 64#32, 64#32, rfl⟩,
   ⟨16, 16, 32#32, 64#32, rfl⟩, ⟨32, 8, 16#32, 64#32, rfl⟩, ⟨64, 4, 8#32, 64#32, rfl⟩,
   ⟨128, 2, 4#32, 64#32, rfl⟩, ⟨256, 1, 2#32, 64#32, rfl⟩, ⟨4, 64, 128#32, 128#32, rfl⟩,
   ⟨8, 32, 64#32, 128#32, rfl⟩, ⟨16, 16, 32#32, 128#32, rfl⟩, ⟨32, 8, 16#32, 128#32, rfl⟩,
   ⟨64, 4, 8#32, 128#32, rfl⟩, ⟨128, 2, 4#32, 128#32, rfl⟩, ⟨256, 1, 2#32, 128#32, rfl⟩,
   ⟨2, 128, 256#32, 256#32, rfl⟩, ⟨4, 64, 128#32, 256#32, rfl⟩, ⟨8, 32, 64#32, 256#32, rfl⟩,
   ⟨16, 16, 32#32, 256#32, rfl⟩, ⟨32, 8, 16#32, 256#32, rfl⟩, ⟨64, 4, 8#32, 256#32, rfl⟩,
   ⟨128, 2, 4#32, 256#32, rfl⟩, ⟨256, 1, 2#32, 256#32, rfl⟩, ⟨1, 256, 512#32, 512#32, rfl⟩,
   ⟨2, 128, 256#32, 512#32, rfl⟩, ⟨4, 64, 128#32, 512#32, rfl⟩, ⟨8, 32, 64#32, 512#32, rfl⟩,
   ⟨16, 16, 32#32, 512#32, rfl⟩, ⟨32, 8, 16#32, 512#32, rfl⟩, ⟨64, 4, 8#32, 512#32, rfl⟩,
   ⟨128, 2, 4#32, 512#32, rfl⟩, ⟨256, 1, 2#32, 512#32, rfl⟩]

/-- The stages that merge two runs of 512 rows. -/
def mergeSteps : List (Step 1024) :=
  [⟨1, 512, 1024#32, 2048#32, rfl⟩, ⟨2, 256, 512#32, 2048#32, rfl⟩, ⟨4, 128, 256#32, 2048#32, rfl⟩,
   ⟨8, 64, 128#32, 2048#32, rfl⟩, ⟨16, 32, 64#32, 2048#32, rfl⟩, ⟨32, 16, 32#32, 2048#32, rfl⟩,
   ⟨64, 8, 16#32, 2048#32, rfl⟩, ⟨128, 4, 8#32, 2048#32, rfl⟩, ⟨256, 2, 4#32, 2048#32, rfl⟩,
   ⟨512, 1, 2#32, 2048#32, rfl⟩]

/-- 512 rows in the opposite order. -/
def flip {α : Type} (L : ℕ) (x : (Mat 512 L).Idx → α) : (Mat 512 L).Idx → α :=
  swapHalves (ColFit.of (n := 512) (L := L) (g := 256) (j := 1) rfl)
    (swapHalves (ColFit.of (n := 512) (L := L) (g := 128) (j := 2) rfl)
    (swapHalves (ColFit.of (n := 512) (L := L) (g := 64) (j := 4) rfl)
    (swapHalves (ColFit.of (n := 512) (L := L) (g := 32) (j := 8) rfl)
    (swapHalves (ColFit.of (n := 512) (L := L) (g := 16) (j := 16) rfl)
    (swapHalves (ColFit.of (n := 512) (L := L) (g := 8) (j := 32) rfl)
    (swapHalves (ColFit.of (n := 512) (L := L) (g := 4) (j := 64) rfl)
    (swapHalves (ColFit.of (n := 512) (L := L) (g := 2) (j := 128) rfl)
    (swapHalves (ColFit.of (n := 512) (L := L) (g := 1) (j := 256) rfl) x))))))))

/-- The shapes of a merge fit together. -/
structure MergeFit (h : ℕ) : Prop where
  lo : (Mat 512 (2 * h)).Slices ![0, 0] (Mat 512 h)
  hi : (Mat 512 (2 * h)).Slices ![0, h] (Mat 512 h)
  cat : Shape.Concatenates [Mat 512 h, Mat 512 h] (Mat 1024 h) 0
  top : (Mat 1024 h).Slices ![0, 0] (Mat 512 h)

theorem MergeFit.of (h : ℕ) : MergeFit h where
  lo := ⟨rfl, by intro a; fin_cases a <;> simp <;> omega⟩
  hi := ⟨rfl, by intro a; fin_cases a <;> simp <;> omega⟩
  cat := by
    refine ⟨by simp, ?_, by simp⟩
    intro s hs
    simp only [List.mem_cons, List.not_mem_nil, or_false, or_self] at hs
    subst hs
    refine ⟨rfl, ?_⟩
    intro b hb
    fin_cases b <;> first | rfl | exact absurd rfl hb
  top := ⟨rfl, by intro a; fin_cases a <;> simp⟩

/-- The left columns above the right ones in the opposite order. -/
def fold {α : Type} (h : ℕ) (x : (Mat 512 (2 * h)).Idx → α) : (Mat 1024 h).Idx → α :=
  concatenate (Mat 1024 h) 0
    [⟨Mat 512 h, extractStridedSlice (Mat 512 h) ![0, 0] x (MergeFit.of h).lo⟩,
      ⟨Mat 512 h, flip h (extractStridedSlice (Mat 512 h) ![0, h] x (MergeFit.of h).hi)⟩] (MergeFit.of h).cat

/-- The first 512 rows. -/
def top {α : Type} (h : ℕ) (x : (Mat 1024 h).Idx → α) : (Mat 512 h).Idx → α :=
  extractStridedSlice (Mat 512 h) ![0, 0] x (MergeFit.of h).top

/-- Values and indices folded. -/
def folded (h : ℕ) (p : FVec F (Mat 512 (2 * h)) .f32 × IVec (Mat 512 (2 * h)) 32) :
    FVec F (Mat 1024 h) .f32 × IVec (Mat 1024 h) 32 := (fold h p.1, fold h p.2)

/-- Half as many columns, each the first 512 entries of two columns. -/
def merge (h : ℕ) (p : FVec F (Mat 512 (2 * h)) .f32 × IVec (Mat 512 (2 * h)) 32) :
    FVec F (Mat 512 h) .f32 × IVec (Mat 512 h) 32 :=
  (top h (run h mergeSteps (folded h p)).1, top h (run h mergeSteps (folded h p)).2)

end
end Cert.Sorting
-- ==== Proof.Heads.lean ====
/- The three calls after the products as functions of their operands: the scores of a head, the sort of one row of
   scores, the best entries of a square of scores, and the columns read back. -/
module

public import proofs.«01_k».proof.Proof.Stage

@[expose] public section

noncomputable section

namespace Cert.Sorting

open Idealize.ShloMosaic

/-- A row of `n` entries without a second axis. -/
abbrev Lst (n : ℕ) : Shape := ⟨1, ![n]⟩

/-- The shapes of a head on `n` rows fit together. -/
structure HeadFit (n : ℕ) : Prop where
  red : (Mat n 512).Reduces [1] (Lst n)
  col : (Lst n).ShapeCasts (Mat n 1)
  out : (Mat n 1).Broadcasts (Mat n 512)

theorem HeadFit.one : HeadFit 1 := ⟨by decide, by decide, by decide⟩
theorem HeadFit.many : HeadFit 512 := ⟨by decide, by decide, by decide⟩

/-- A matrix read in its own shape. -/
def self {α : Type} (n L : ℕ) (x : (Mat n L).Idx → α) : (Mat n L).Idx → α :=
  shapeCast (Mat n L) x rfl

/-- The shapes of one lane rotation fit together. -/
structure LaneFit (j : ℕ) : Prop where
  tail : (Mat 1 512).Slices ![0, j] (Mat 1 (512 - j))
  front : (Mat 1 512).Slices ![0, 0] (Mat 1 j)
  last : (Mat 1 512).Slices ![0, 512 - j] (Mat 1 j)
  init : (Mat 1 512).Slices ![0, 0] (Mat 1 (512 - j))
  left : Shape.Concatenates [Mat 1 (512 - j), Mat 1 j] (Mat 1 512) 1
  right : Shape.Concatenates [Mat 1 j, Mat 1 (512 - j)] (Mat 1 512) 1

theorem LaneFit.of {j : ℕ} (h : j ≤ 512) : LaneFit j where
  tail := ⟨rfl, by intro a; fin_cases a <;> simp; omega⟩
  front := ⟨rfl, by intro a; fin_cases a <;> simp; omega⟩
  last := ⟨rfl, by intro a; fin_cases a <;> simp; omega⟩
  init := ⟨rfl, by intro a; fin_cases a <;> simp⟩
  left := by
    refine ⟨by simp, ?_, by simp; omega⟩
    intro s hs
    simp only [List.mem_cons, List.not_mem_nil, or_false] at hs
    rcases hs with rfl | rfl <;> refine ⟨rfl, ?_⟩ <;> intro b hb <;> fin_cases b <;>
      first | rfl | exact absurd rfl hb
  right := by
    refine ⟨by simp, ?_, by simp; omega⟩
    intro s hs
    simp only [List.mem_cons, List.not_mem_nil, or_false] at hs
    rcases hs with rfl | rfl <;> refine ⟨rfl, ?_⟩ <;> intro b hb <;> fin_cases b <;>
      first | rfl | exact absurd rfl hb

section
variable {α : Type} {j : ℕ}

/-- The row moved `j` places to the left, round the end. -/
def rollLeft (f : LaneFit j) (x : (Mat 1 512).Idx → α) : (Mat 1 512).Idx → α :=
  concatenate (Mat 1 512) 1 [⟨Mat 1 (512 - j), extractStridedSlice (Mat 1 (512 - j)) ![0, j] x f.tail⟩,
    ⟨Mat 1 j, extractStridedSlice (Mat 1 j) ![0, 0] x f.front⟩] f.left

/-- The row moved `j` places to the right, round the end. -/
def rollRight (f : LaneFit j) (x : (Mat 1 512).Idx → α) : (Mat 1 512).Idx → α :=
  concatenate (Mat 1 512) 1 [⟨Mat 1 j, extractStridedSlice (Mat 1 j) ![0, 512 - j] x f.last⟩,
    ⟨Mat 1 (512 - j), extractStridedSlice (Mat 1 (512 - j)) ![0, 0] x f.init⟩] f.right
end

/-- The position of every lane. -/
def lane : IVec (Mat 1 512) 32 := iota .tc (Mat 1 512) 32 [1] (by decide)

/-- The lanes whose bit `j` is clear. -/
def clear (j : BitVec 32) : IVec (Mat 1 512) 1 :=
  cmpi .eq (andi lane (broadcast (Mat 1 512) j)) (broadcast (Mat 1 512) 0#32)

section
variable {α : Type}

/-- The entry of the lane that differs in the bit `j`. -/
def across {j : ℕ} (f : LaneFit j) (b : BitVec 32) (x : (Mat 1 512).Idx → α) : (Mat 1 512).Idx → α :=
  select (clear b) (rollLeft f x) (rollRight f x)
end

section
variable {F : FTy → Type} [FloatOps F]

/-- Whether a lane keeps its own entry. -/
def laneKeep {j : ℕ} (f : LaneFit j) (b k : BitVec 32)
    (p : FVec F (Mat 1 512) .f32 × IVec (Mat 1 512) 32) : IVec (Mat 1 512) 1 :=
  xori
    (xori (clear b)
      (xori
        (xori
          (cmpi .eq (floorMod (Mat 1 512) (by decide) (floorDiv (Mat 1 512) lane k) 2#32)
            (broadcast (Mat 1 512) 0#32))
          (firstOf p.1 (across f b p.1) p.2 (across f b p.2)))
        (constantI (Mat 1 512) 1 1#1)))
    (constantI (Mat 1 512) 1 1#1)

/-- One stage on the lanes of a row. -/
def laneStage {j : ℕ} (f : LaneFit j) (b k : BitVec 32)
    (p : FVec F (Mat 1 512) .f32 × IVec (Mat 1 512) 32) : FVec F (Mat 1 512) .f32 × IVec (Mat 1 512) 32 :=
  (select (laneKeep f b k p) p.1 (across f b p.1), select (laneKeep f b k p) p.2 (across f b p.2))

/-- A lane stage's distance and run length. -/
structure LaneStep where
  /-- the distance -/
  j : ℕ
  /-- the distance as a word -/
  b : BitVec 32
  /-- the length of the runs the stage works towards -/
  k : BitVec 32
  /-- the distance stays in the row -/
  le : j ≤ 512

/-- The stages of a list, one after another. -/
def laneRun (steps : List LaneStep) (p : FVec F (Mat 1 512) .f32 × IVec (Mat 1 512) 32) :
    FVec F (Mat 1 512) .f32 × IVec (Mat 1 512) 32 :=
  steps.foldl (fun q s => laneStage (LaneFit.of s.le) s.b s.k q) p

/-- The stages that sort a row of 512 lanes. -/
def laneSteps : List LaneStep :=
  [⟨1, 1#32, 2#32, by decide⟩, ⟨2, 2#32, 4#32, by decide⟩, ⟨1, 1#32, 4#32, by decide⟩,
   ⟨4, 4#32, 8#32, by decide⟩, ⟨2, 2#32, 8#32, by decide⟩, ⟨1, 1#32, 8#32, by decide⟩,
   ⟨8, 8#32, 16#32, by decide⟩, ⟨4, 4#32, 16#32, by decide⟩, ⟨2, 2#32, 16#32, by decide⟩,
   ⟨1, 1#32, 16#32, by decide⟩, ⟨16, 16#32, 32#32, by decide⟩, ⟨8, 8#32, 32#32, by decide⟩,
   ⟨4, 4#32, 32#32, by decide⟩, ⟨2, 2#32, 32#32, by decide⟩, ⟨1, 1#32, 32#32, by decide⟩,
   ⟨32, 32#32, 64#32, by decide⟩, ⟨16, 16#32, 64#32, by decide⟩, ⟨8, 8#32, 64#32, by decide⟩,
   ⟨4, 4#32, 64#32, by decide⟩, ⟨2, 2#32, 64#32, by decide⟩, ⟨1, 1#32, 64#32, by decide⟩,
   ⟨64, 64#32, 128#32, by decide⟩, ⟨32, 32#32, 128#32, by decide⟩, ⟨16, 16#32, 128#32, by decide⟩,
   ⟨8, 8#32, 128#32, by decide⟩, ⟨4, 4#32, 128#32, by decide⟩, ⟨2, 2#32, 128#32, by decide⟩,
   ⟨1, 1#32, 128#32, by decide⟩, ⟨128, 128#32, 256#32, by decide⟩, ⟨64, 64#32, 256#32, by decide⟩,
   ⟨32, 32#32, 256#32, by decide⟩, ⟨16, 16#32, 256#32, by decide⟩, ⟨8, 8#32, 256#32, by decide⟩,
   ⟨4, 4#32, 256#32, by decide⟩, ⟨2, 2#32, 256#32, by decide⟩, ⟨1, 1#32, 256#32, by decide⟩,
   ⟨256, 256#32, 512#32, by decide⟩, ⟨128, 128#32, 512#32, by decide⟩, ⟨64, 64#32, 512#32, by decide⟩,
   ⟨32, 32#32, 512#32, by decide⟩, ⟨16, 16#32, 512#32, by decide⟩, ⟨8, 8#32, 512#32, by decide⟩,
   ⟨4, 4#32, 512#32, by decide⟩, ⟨2, 2#32, 512#32, by decide⟩, ⟨1, 1#32, 512#32, by decide⟩]

/-! ## The scores of a head -/

/-- The activation, entry by entry; `a` is the scale of its exponential branch. -/
def selu (s : Shape) (a : F .f32) (x : FVec F s .f32) : FVec F s .f32 :=
  select (cmpf .ogt x (broadcast s (Scalar.ofBits .f32 0x00000000#32)))
    (mulf (broadcast s (Scalar.ofBits .f32 0x3F867D5F#32)) x)
    (mulf (broadcast s a) (subf (exp x) (broadcast s (Scalar.ofBits .f32 0x3F800000#32))))

/-- The logarithm of the soft maximum of every row. -/
def logSoft {n : ℕ} (f : HeadFit n) (x : FVec F (Mat n 512) .f32) : FVec F (Mat n 512) .f32 :=
  let e := exp (subf x (broadcastTo (Mat n 512)
    (shapeCast (Mat n 1) (multiReduction .maximumf [1] (Lst n) x 0xFF800000#32 f.red (.inl rfl) rfl) f.col) f.out))
  log (divf e (broadcastTo (Mat n 512)
    (shapeCast (Mat n 1) (multiReduction .add [1] (Lst n) e 0x00000000#32 f.red (.inl rfl) rfl) f.col) f.out))

/-- The product of two matrices. -/
def times (n K N : ℕ) (x : FVec F (Mat n K) .f32) (w : FVec F (Mat K N) .f32) : FVec F (Mat n N) .f32 :=
  matmul (DotDims.plain n K N) none x w (constant (Mat n N) .f32 0x00000000#32)

/-- The logits of a head from its first layer's sums: the activation, a layer, the activation, a layer. -/
def logits (n : ℕ) (a : F .f32) (h : FVec F (Mat n 256) .f32) (w2 : FVec F (Mat 256 256) .f32)
    (b2 : FVec F (Mat n 256) .f32) (w3 : FVec F (Mat 256 512) .f32) (b3 : FVec F (Mat n 512) .f32) :
    FVec F (Mat n 512) .f32 :=
  addf (times n 256 512 (selu (Mat n 256) a (addf (times n 256 256 (selu (Mat n 256) a h) w2) b2)) w3) b3

/-- The scores of the first head. -/
def startScores (a : F .f32) (v0 : Vec F (Mat 1 256) .f32) (v1 : Vec F (Mat 1 640) .f32)
    (v2 : Vec F (Mat 640 256) .f32) (v3 : Vec F (Mat 1 256) .f32) (v4 : Vec F (Mat 256 256) .f32)
    (v5 : Vec F (Mat 1 256) .f32) (v6 : Vec F (Mat 256 512) .f32) (v7 : Vec F (Mat 1 512) .f32) :
    FVec F (Mat 1 512) .f32 :=
  logSoft (F := F) HeadFit.one
    (logits 1 a (addf (addf (self 1 256 v0) (times 1 640 256 (self 1 640 v1) (self 640 256 v2))) (self 1 256 v3))
      v4 (self 1 256 v5) v6 (self 1 512 v7))

/-- What the first head's call stores: its scores in order, and where each was. -/
def startOut (a : F .f32) (v0 : Vec F (Mat 1 256) .f32) (v1 : Vec F (Mat 1 640) .f32)
    (v2 : Vec F (Mat 640 256) .f32) (v3 : Vec F (Mat 1 256) .f32) (v4 : Vec F (Mat 256 256) .f32)
    (v5 : Vec F (Mat 1 256) .f32) (v6 : Vec F (Mat 256 512) .f32) (v7 : Vec F (Mat 1 512) .f32) :
    Vec F (Mat 1 512) .f32 × Vec F (Mat 1 512) .i32 :=
  laneRun laneSteps (startScores a v0 v1 v2 v3 v4 v5 v6 v7, lane)

/-- The entries of a row named by the indices of a column. -/
def pick (i : IVec (Mat 512 1) 32) (x : FVec F (Mat 1 512) .f32) : FVec F (Mat 512 1) .f32 :=
  shapeCast (Mat 512 1)
    (multiReduction .add [1] (Lst 512)
      (select (cmpi .eq (iota .tc (Mat 512 512) 32 [1] (by decide)) (broadcastTo (Mat 512 512) i (by decide)))
        (broadcastTo (Mat 512 512) (self 1 512 x) (by decide))
        (broadcast (Mat 512 512) (Scalar.ofBits .f32 0x00000000#32)))
      0x00000000#32 HeadFit.many.red (.inl rfl) rfl) HeadFit.many.col

/-- The row of a position, in every column. -/
def rows : IVec (Mat 512 1) 32 := iota .tc (Mat 512 1) 32 [0] (by decide)

/-- The one-hot rows of a column of indices. -/
def oneHot (i : IVec (Mat 512 1) 32) : FVec F (Mat 512 512) .f32 :=
  select (cmpi .eq (iota .tc (Mat 512 512) 32 [1] (by decide)) (broadcastTo (Mat 512 512) i (by decide)))
    (broadcast (Mat 512 512) (Scalar.ofBits .f32 0x3F800000#32))
    (broadcast (Mat 512 512) (Scalar.ofBits .f32 0x00000000#32))

/-- A row repeated in 512 rows. -/
def repeated (L : ℕ) (h : (Mat 1 L).Broadcasts (Mat 512 L)) (x : FVec F (Mat 1 L) .f32) : FVec F (Mat 512 L) .f32 :=
  broadcastTo (Mat 512 L) x h

/-- The sums of the first layer of a head on 512 rows of `K` features. -/
def firstLayer (K : ℕ) (x : FVec F (Mat 512 K) .f32) (v0 : Vec F (Mat 1 256) .f32) (v2 : Vec F (Mat K 256) .f32)
    (v3 : Vec F (Mat 1 256) .f32) : FVec F (Mat 512 256) .f32 :=
  addf (addf (repeated 256 (by decide) (self 1 256 v0)) (times 512 K 256 x (self K 256 v2)))
    (repeated 256 (by decide) (self 1 256 v3))

/-- The candidates of 512 beams: the scores of a head on each, added to the beam's own. -/
def candidates (K : ℕ) (a : F .f32) (x : FVec F (Mat 512 K) .f32) (score : FVec F (Mat 512 1) .f32)
    (v0 : Vec F (Mat 1 256) .f32) (v2 : Vec F (Mat K 256) .f32) (v3 : Vec F (Mat 1 256) .f32)
    (v4 : Vec F (Mat 256 256) .f32) (v5 : Vec F (Mat 1 256) .f32) (v6 : Vec F (Mat 256 512) .f32)
    (v7 : Vec F (Mat 1 512) .f32) : FVec F (Mat 512 512) .f32 :=
  addf
    (logSoft HeadFit.many
      (logits 512 a (firstLayer K x v0 v2 v3) v4 (repeated 256 (by decide) (self 1 256 v5)) v6
        (repeated 512 (by decide) (self 1 512 v7))))
    (broadcastTo (Mat 512 512) score HeadFit.many.out)

/-- The place of every candidate when the rows are written one after another. -/
def places : IVec (Mat 512 512) 32 :=
  addi (muli (iota .tc (Mat 512 512) 32 [0] (by decide)) (broadcast (Mat 512 512) 512#32))
    (iota .tc (Mat 512 512) 32 [1] (by decide))

/-- The best 512 of 512 columns, in order. -/
def best (p : FVec F (Mat 512 512) .f32 × IVec (Mat 512 512) 32) : FVec F (Mat 512 1) .f32 × IVec (Mat 512 1) 32 :=
  merge 1 (merge 2 (merge 4 (merge 8 (merge 16 (merge 32 (merge 64 (merge 128 (merge 256
    (run 512 sortSteps p)))))))))

/-- A column repeated in 128 lanes. -/
def wide (x : FVec F (Mat 512 1) .f32) : FVec F (Mat 512 128) .f32 :=
  broadcastTo (Mat 512 128) (self 512 1 x) (by decide)

/-- The row a place lies in. -/
def beamOf (i : IVec (Mat 512 1) 32) : IVec (Mat 512 1) 32 := floorDiv (Mat 512 1) i 512#32
/-- The column a place lies in. -/
def noteOf (i : IVec (Mat 512 1) 32) : IVec (Mat 512 1) 32 := floorMod (Mat 512 1) (by decide) i 512#32

theorem concatenates_two : Shape.Concatenates [Mat 512 640, Mat 512 512] (Mat 512 1152) 1 := by decide
theorem concatenates_three : Shape.Concatenates [Mat 512 640, Mat 512 512, Mat 512 512] (Mat 512 1664) 1 := by decide

/-- The best candidates of the second head. -/
def sourceBest (a : F .f32) (w9 : Vec F (Mat 1 512) .i32) (w8 : Vec F (Mat 1 512) .f32)
    (v0 : Vec F (Mat 1 256) .f32) (v1 : Vec F (Mat 1 640) .f32) (v2 : Vec F (Mat 1152 256) .f32)
    (v3 : Vec F (Mat 1 256) .f32) (v4 : Vec F (Mat 256 256) .f32) (v5 : Vec F (Mat 1 256) .f32)
    (v6 : Vec F (Mat 256 512) .f32) (v7 : Vec F (Mat 1 512) .f32) :
    FVec F (Mat 512 1) .f32 × IVec (Mat 512 1) 32 :=
  best (F := F) (candidates 1152 a
    (concatenate (Mat 512 1152) 1
      [⟨Mat 512 640, repeated 640 (by decide) (self 1 640 (self 1 640 v1))⟩,
        ⟨Mat 512 512, oneHot (fptosi 32 (pick rows (sitofp (F := F) .f32 (self 1 512 w9))))⟩] concatenates_two)
    (pick rows (self 1 512 w8)) v0 v2 v3 v4 v5 v6 v7, places)

/-- What the second head's call stores: the best candidates' scores, first notes and second notes. -/
def sourceOut (a : F .f32) (w9 : Vec F (Mat 1 512) .i32) (w8 : Vec F (Mat 1 512) .f32)
    (v0 : Vec F (Mat 1 256) .f32) (v1 : Vec F (Mat 1 640) .f32) (v2 : Vec F (Mat 1152 256) .f32)
    (v3 : Vec F (Mat 1 256) .f32) (v4 : Vec F (Mat 256 256) .f32) (v5 : Vec F (Mat 1 256) .f32)
    (v6 : Vec F (Mat 256 512) .f32) (v7 : Vec F (Mat 1 512) .f32) (y9 : Vec F (Mat 1 512) .i32) :
    Vec F (Mat 512 128) .f32 × Vec F (Mat 512 128) .f32 × Vec F (Mat 512 128) .f32 :=
  let q := sourceBest a w9 w8 v0 v1 v2 v3 v4 v5 v6 v7
  (wide q.1, wide (pick (beamOf q.2) (sitofp .f32 (self 1 512 y9))), wide (sitofp .f32 (noteOf q.2)))

/-- The best candidates of the third head. -/
def targetBest (a : F .f32) (w8 w9 w10 : Vec F (Mat 1 512) .f32)
    (v0 : Vec F (Mat 1 256) .f32) (v1 : Vec F (Mat 1 640) .f32) (v2 : Vec F (Mat 1664 256) .f32)
    (v3 : Vec F (Mat 1 256) .f32) (v4 : Vec F (Mat 256 256) .f32) (v5 : Vec F (Mat 1 256) .f32)
    (v6 : Vec F (Mat 256 512) .f32) (v7 : Vec F (Mat 1 512) .f32) :
    FVec F (Mat 512 1) .f32 × IVec (Mat 512 1) 32 :=
  best (F := F) (candidates 1664 a
    (concatenate (Mat 512 1664) 1
      [⟨Mat 512 640, repeated 640 (by decide) (self 1 640 (self 1 640 v1))⟩,
        ⟨Mat 512 512, oneHot (fptosi 32 (pick rows (self 1 512 w9)))⟩,
        ⟨Mat 512 512, oneHot (fptosi 32 (pick rows (self 1 512 w10)))⟩] concatenates_three)
    (pick rows (self 1 512 w8)) v0 v2 v3 v4 v5 v6 v7, places)

/-- What the third head's call stores: the best candidates' scores and their three notes. -/
def targetOut (a : F .f32) (w8 w9 w10 : Vec F (Mat 1 512) .f32)
    (v0 : Vec F (Mat 1 256) .f32) (v1 : Vec F (Mat 1 640) .f32) (v2 : Vec F (Mat 1664 256) .f32)
    (v3 : Vec F (Mat 1 256) .f32) (v4 : Vec F (Mat 256 256) .f32) (v5 : Vec F (Mat 1 256) .f32)
    (v6 : Vec F (Mat 256 512) .f32) (v7 : Vec F (Mat 1 512) .f32) (y9 y10 : Vec F (Mat 1 512) .f32) :
    Vec F (Mat 512 128) .f32 × Vec F (Mat 512 128) .f32 × Vec F (Mat 512 128) .f32 × Vec F (Mat 512 128) .f32 :=
  let q := targetBest a w8 w9 w10 v0 v1 v2 v3 v4 v5 v6 v7
  (wide q.1, wide (pick (beamOf q.2) (self 1 512 y9)), wide (pick (beamOf q.2) (self 1 512 y10)),
    wide (sitofp .f32 (noteOf q.2)))

end
end Cert.Sorting
-- ==== Proof.IdealBodies.lean ====
/- What the four calls of the kernel do: which operands they load, and what they store. -/
module

public import proofs.«01_k».proof.Proof.Gen.KernelIdeal
public import proofs.«01_k».proof.Proof.Heads

@[expose] public section

set_option synthInstance.maxSize 4096
set_option maxRecDepth 16384

noncomputable section

namespace Cert.KernelIdeal.Work

open Idealize.ShloMosaic Idealize.SL.Sem
open Cert.KernelIdeal.Gen Cert.Sorting

variable {F : FTy → Type} [FloatOps F] [Named F]

/-- The scale of the exponential branch of the activation. -/
abbrev alpha : F .f32 := (Named.named κ "selu_scale_alpha" 0x3FE10966#32)

noncomputable def products1 : FVec F S1x256 .f32 :=
  have cst_22 : F .f32 := Scalar.ofBits .f32 0x00000000#32
  have v26 : FVec F S1x256 .f32 := broadcast S1x256 cst_22
  v26

noncomputable def products2 : FVec F S1x256 .f32 :=
  have cst_25 : F .f32 := Scalar.ofBits .f32 0x00000000#32
  have v28 : FVec F S1x256 .f32 := broadcast S1x256 cst_25
  v28

noncomputable def products3 : FVec F S1x256 .f32 :=
  have cst_28 : F .f32 := Scalar.ofBits .f32 0x00000000#32
  have v30 : FVec F S1x256 .f32 := broadcast S1x256 cst_28
  v30

noncomputable def products4 (v3 : Vec F S1x8192 .f32) : FVec F S1x8192 .f32 :=
  have v4 : FVec F S1x8192 .f32 := shapeCast S1x8192 v3 shapeCasts_S1x8192_S1x8192
  v4

noncomputable def products5 (v3 : Vec F S1x8192 .f32) (v5 : Vec F S1x256 .f32) (v7 : Vec F S8192x256 .f32) : FVec F S1x256 .f32 :=
  have v6 : FVec F S1x256 .f32 := shapeCast S1x256 v5 shapeCasts_S1x256_S1x256
  have cst : FVec F S1x256 .f32 := constant S1x256 .f32 0x00000000#32
  have v9 : FVec F S1x256 .f32 := matmul dot_S1x8192_S8192x256_S1x256_1_0_0_1_n_n none (products4 v3) v7 cst
  have v10 : FVec F S1x256 .f32 := addf v6 v9
  v10

noncomputable def products6 (v3 : Vec F S1x8192 .f32) (v12 : Vec F S1x256 .f32) (v14 : Vec F S8192x256 .f32) : FVec F S1x256 .f32 :=
  have v13 : FVec F S1x256 .f32 := shapeCast S1x256 v12 shapeCasts_S1x256_S1x256
  have v15 : FVec F S8192x256 .f32 := shapeCast S8192x256 v14 shapeCasts_S8192x256_S8192x256
  have cst_12 : FVec F S1x256 .f32 := constant S1x256 .f32 0x00000000#32
  have v16 : FVec F S1x256 .f32 := matmul dot_S1x8192_S8192x256_S1x256_1_0_0_1_n_n none (products4 v3) v15 cst_12
  have v17 : FVec F S1x256 .f32 := addf v13 v16
  v17

noncomputable def products7 (v3 : Vec F S1x8192 .f32) (v19 : Vec F S1x256 .f32) (v21 : Vec F S8192x256 .f32) : FVec F S1x256 .f32 :=
  have v20 : FVec F S1x256 .f32 := shapeCast S1x256 v19 shapeCasts_S1x256_S1x256
  have v22 : FVec F S8192x256 .f32 := shapeCast S8192x256 v21 shapeCasts_S8192x256_S8192x256
  have cst_19 : FVec F S1x256 .f32 := constant S1x256 .f32 0x00000000#32
  have v23 : FVec F S1x256 .f32 := matmul dot_S1x8192_S8192x256_S1x256_1_0_0_1_n_n none (products4 v3) v22 cst_19
  have v24 : FVec F S1x256 .f32 := addf v20 v23
  v24

noncomputable def productsSteps (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) :
    Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if productsCond1 : v2 = 1#1 then do
    let v27 : Vec F S1x256 .f32 ← Prog.lift (.load arg5 (Rect.unit (s := S1x256) ![0, 0] S1x256.size inb_S1x256_S1x256_0_0).toLoadRect (View.loadsAt_vmem h_S1x256))
    Prog.lift (.store arg5 (Rect.unit (s := S1x256) ![0, 0] S1x256.size inb_S1x256_S1x256_0_0) (products1 (F := F)) Finset.univ (View.stores_vmem_bits_univ h_S1x256 rfl) (.inl rfl))
    let v29 : Vec F S1x256 .f32 ← Prog.lift (.load arg6 (Rect.unit (s := S1x256) ![0, 0] S1x256.size inb_S1x256_S1x256_0_0).toLoadRect (View.loadsAt_vmem h_S1x256))
    Prog.lift (.store arg6 (Rect.unit (s := S1x256) ![0, 0] S1x256.size inb_S1x256_S1x256_0_0) (products2 (F := F)) Finset.univ (View.stores_vmem_bits_univ h_S1x256 rfl) (.inl rfl))
    let v31 : Vec F S1x256 .f32 ← Prog.lift (.load arg7 (Rect.unit (s := S1x256) ![0, 0] S1x256.size inb_S1x256_S1x256_0_0).toLoadRect (View.loadsAt_vmem h_S1x256))
    Prog.lift (.store arg7 (Rect.unit (s := S1x256) ![0, 0] S1x256.size inb_S1x256_S1x256_0_0) (products3 (F := F)) Finset.univ (View.stores_vmem_bits_univ h_S1x256 rfl) (.inl rfl))
    pure ⟨⟩
  else do
    pure ⟨⟩
  let v3 : Vec F S1x8192 .f32 ← Prog.lift (.load arg1 (Rect.unit (s := S1x8192) ![0, 0] S1x8192.size inb_S1x8192_S1x8192_0_0).toLoadRect (View.loadsAt_vmem h_S1x8192))
  let v5 : Vec F S1x256 .f32 ← Prog.lift (.load arg5 (Rect.unit (s := S1x256) ![0, 0] S1x256.size inb_S1x256_S1x256_0_0).toLoadRect (View.loadsAt_vmem h_S1x256))
  let v7 : Vec F S8192x256 .f32 ← Prog.lift (.load arg2 (Rect.unit (s := S8192x256) ![0, 0] S8192x256.size inb_S8192x256_S8192x256_0_0).toLoadRect (View.loadsAt_vmem h_S8192x256))
  let v11 : Vec F S1x256 .f32 ← Prog.lift (.load arg5 (Rect.unit (s := S1x256) ![0, 0] S1x256.size inb_S1x256_S1x256_0_0).toLoadRect (View.loadsAt_vmem h_S1x256))
  Prog.lift (.store arg5 (Rect.unit (s := S1x256) ![0, 0] S1x256.size inb_S1x256_S1x256_0_0) (products5 v3 v5 v7) Finset.univ (View.stores_vmem_bits_univ h_S1x256 rfl) (.inl rfl))
  let v12 : Vec F S1x256 .f32 ← Prog.lift (.load arg6 (Rect.unit (s := S1x256) ![0, 0] S1x256.size inb_S1x256_S1x256_0_0).toLoadRect (View.loadsAt_vmem h_S1x256))
  let v14 : Vec F S8192x256 .f32 ← Prog.lift (.load arg3 (Rect.unit (s := S8192x256) ![0, 0] S8192x256.size inb_S8192x256_S8192x256_0_0).toLoadRect (View.loadsAt_vmem h_S8192x256))
  let v18 : Vec F S1x256 .f32 ← Prog.lift (.load arg6 (Rect.unit (s := S1x256) ![0, 0] S1x256.size inb_S1x256_S1x256_0_0).toLoadRect (View.loadsAt_vmem h_S1x256))
  Prog.lift (.store arg6 (Rect.unit (s := S1x256) ![0, 0] S1x256.size inb_S1x256_S1x256_0_0) (products6 v3 v12 v14) Finset.univ (View.stores_vmem_bits_univ h_S1x256 rfl) (.inl rfl))
  let v19 : Vec F S1x256 .f32 ← Prog.lift (.load arg7 (Rect.unit (s := S1x256) ![0, 0] S1x256.size inb_S1x256_S1x256_0_0).toLoadRect (View.loadsAt_vmem h_S1x256))
  let v21 : Vec F S8192x256 .f32 ← Prog.lift (.load arg4 (Rect.unit (s := S8192x256) ![0, 0] S8192x256.size inb_S8192x256_S8192x256_0_0).toLoadRect (View.loadsAt_vmem h_S8192x256))
  let v25 : Vec F S1x256 .f32 ← Prog.lift (.load arg7 (Rect.unit (s := S1x256) ![0, 0] S1x256.size inb_S1x256_S1x256_0_0).toLoadRect (View.loadsAt_vmem h_S1x256))
  Prog.lift (.store arg7 (Rect.unit (s := S1x256) ![0, 0] S1x256.size inb_S1x256_S1x256_0_0) (products7 v3 v19 v21) Finset.univ (View.stores_vmem_bits_univ h_S1x256 rfl) (.inl rfl))
  pure ⟨⟩

set_option maxRecDepth 65536 in
/-- The first call is these loads and stores. -/
theorem productsSteps_eq : cc0__pc1_body (F := F) = productsSteps (F := F) := rfl

attribute [local irreducible] shapeCast extractStridedSlice concatenate select cmpf cmpi andi ori xori muli divsi remsi subi addi extui broadcast broadcastTo constantI iota addf subf mulf divf exp log multiReduction transpose sitofp fptosi

/-- What the call `cc1__pc2_body` does: it loads its operands, and it stores what `startOut` makes of them. -/
noncomputable def startSteps (arg0 : Memref sig .tc .vmem S1x256 .f32) (harg0 : arg0.IsWhole) (arg1 : Memref sig .tc .vmem S1x640 .f32) (harg1 : arg1.IsWhole) (arg2 : Memref sig .tc .vmem S640x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .i32) (harg9 : arg9.IsWhole) :
    Prog (TpuEff nD τ sig (Elt F) Λ₀ .tc) PUnit := do
  let v0 : Vec F S1x256 .f32 ← Prog.lift (.load arg0 (Rect.unit (s := S1x256) ![0, 0] S1x256.size inb_S1x256_S1x256_0_0).toLoadRect (View.loadsAt_vmem h_S1x256))
  let v1 : Vec F S1x640 .f32 ← Prog.lift (.load arg1 (Rect.unit (s := S1x640) ![0, 0] S1x640.size inb_S1x640_S1x640_0_0).toLoadRect (View.loadsAt_vmem h_S1x640))
  let v2 : Vec F S640x256 .f32 ← Prog.lift (.load arg2 (Rect.unit (s := S640x256) ![0, 0] S640x256.size inb_S640x256_S640x256_0_0).toLoadRect (View.loadsAt_vmem h_S640x256))
  let v3 : Vec F S1x256 .f32 ← Prog.lift (.load arg3 (Rect.unit (s := S1x256) ![0, 0] S1x256.size inb_S1x256_S1x256_0_0).toLoadRect (View.loadsAt_vmem h_S1x256))
  let v4 : Vec F S256x256 .f32 ← Prog.lift (.load arg4 (Rect.unit (s := S256x256) ![0, 0] S256x256.size inb_S256x256_S256x256_0_0).toLoadRect (View.loadsAt_vmem h_S256x256))
  let v5 : Vec F S1x256 .f32 ← Prog.lift (.load arg5 (Rect.unit (s := S1x256) ![0, 0] S1x256.size inb_S1x256_S1x256_0_0).toLoadRect (View.loadsAt_vmem h_S1x256))
  let v6 : Vec F S256x512 .f32 ← Prog.lift (.load arg6 (Rect.unit (s := S256x512) ![0, 0] S256x512.size inb_S256x512_S256x512_0_0).toLoadRect (View.loadsAt_vmem h_S256x512))
  let v7 : Vec F S1x512 .f32 ← Prog.lift (.load arg7 (Rect.unit (s := S1x512) ![0, 0] S1x512.size inb_S1x512_S1x512_0_0).toLoadRect (View.loadsAt_vmem h_S1x512))
  let _w0 : Vec F S1x512 .f32 ← Prog.lift (.load arg8 (Rect.unit (s := S1x512) ![0, 0] S1x512.size inb_S1x512_S1x512_0_0).toLoadRect (View.loadsAt_vmem h_S1x512))
  Prog.lift (.store arg8 (Rect.unit (s := S1x512) ![0, 0] S1x512.size inb_S1x512_S1x512_0_0) (startOut alpha v0 v1 v2 v3 v4 v5 v6 v7).1 Finset.univ (View.stores_vmem_bits_univ h_S1x512 rfl) (.inl rfl))
  let _w1 : Vec F S1x512 .i32 ← Prog.lift (.load arg9 (Rect.unit (s := S1x512) ![0, 0] S1x512.size inb_S1x512_S1x512_0_0).toLoadRect (View.loadsAt_vmem h_S1x512))
  Prog.lift (.store arg9 (Rect.unit (s := S1x512) ![0, 0] S1x512.size inb_S1x512_S1x512_0_0) (startOut alpha v0 v1 v2 v3 v4 v5 v6 v7).2 Finset.univ (View.stores_vmem_bits_univ h_S1x512 rfl) (.inl rfl))
  pure ⟨⟩

set_option maxRecDepth 1000000 in
set_option maxHeartbeats 40000000 in
/-- The call is these loads and stores. -/
theorem startSteps_eq : cc1__pc2_body (F := F) = startSteps (F := F) := rfl

/-- What the call `cc2__pc3_body` does: it loads its operands, and it stores what `sourceOut` makes of them. -/
noncomputable def sourceSteps (arg0 : Memref sig .tc .vmem S1x256 .f32) (harg0 : arg0.IsWhole) (arg1 : Memref sig .tc .vmem S1x640 .f32) (harg1 : arg1.IsWhole) (arg2 : Memref sig .tc .vmem S1152x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .i32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole) :
    Prog (TpuEff nD τ sig (Elt F) Λ₀ .tc) PUnit := do
  let v0 : Vec F S1x512 .i32 ← Prog.lift (.load arg9 (Rect.unit (s := S1x512) ![0, 0] S1x512.size inb_S1x512_S1x512_0_0).toLoadRect (View.loadsAt_vmem h_S1x512))
  let v1 : Vec F S1x512 .f32 ← Prog.lift (.load arg8 (Rect.unit (s := S1x512) ![0, 0] S1x512.size inb_S1x512_S1x512_0_0).toLoadRect (View.loadsAt_vmem h_S1x512))
  let v2 : Vec F S1x256 .f32 ← Prog.lift (.load arg0 (Rect.unit (s := S1x256) ![0, 0] S1x256.size inb_S1x256_S1x256_0_0).toLoadRect (View.loadsAt_vmem h_S1x256))
  let v3 : Vec F S1x640 .f32 ← Prog.lift (.load arg1 (Rect.unit (s := S1x640) ![0, 0] S1x640.size inb_S1x640_S1x640_0_0).toLoadRect (View.loadsAt_vmem h_S1x640))
  let v4 : Vec F S1152x256 .f32 ← Prog.lift (.load arg2 (Rect.unit (s := S1152x256) ![0, 0] S1152x256.size inb_S1152x256_S1152x256_0_0).toLoadRect (View.loadsAt_vmem h_S1152x256))
  let v5 : Vec F S1x256 .f32 ← Prog.lift (.load arg3 (Rect.unit (s := S1x256) ![0, 0] S1x256.size inb_S1x256_S1x256_0_0).toLoadRect (View.loadsAt_vmem h_S1x256))
  let v6 : Vec F S256x256 .f32 ← Prog.lift (.load arg4 (Rect.unit (s := S256x256) ![0, 0] S256x256.size inb_S256x256_S256x256_0_0).toLoadRect (View.loadsAt_vmem h_S256x256))
  let v7 : Vec F S1x256 .f32 ← Prog.lift (.load arg5 (Rect.unit (s := S1x256) ![0, 0] S1x256.size inb_S1x256_S1x256_0_0).toLoadRect (View.loadsAt_vmem h_S1x256))
  let v8 : Vec F S256x512 .f32 ← Prog.lift (.load arg6 (Rect.unit (s := S256x512) ![0, 0] S256x512.size inb_S256x512_S256x512_0_0).toLoadRect (View.loadsAt_vmem h_S256x512))
  let v9 : Vec F S1x512 .f32 ← Prog.lift (.load arg7 (Rect.unit (s := S1x512) ![0, 0] S1x512.size inb_S1x512_S1x512_0_0).toLoadRect (View.loadsAt_vmem h_S1x512))
  let v10 : Vec F S1x512 .i32 ← Prog.lift (.load arg9 (Rect.unit (s := S1x512) ![0, 0] S1x512.size inb_S1x512_S1x512_0_0).toLoadRect (View.loadsAt_vmem h_S1x512))
  let _w0 : Vec F S512x128 .f32 ← Prog.lift (.load arg10 (Rect.unit (s := S512x128) ![0, 0] S512x128.size inb_S512x128_S512x128_0_0).toLoadRect (View.loadsAt_vmem h_S512x128))
  Prog.lift (.store arg10 (Rect.unit (s := S512x128) ![0, 0] S512x128.size inb_S512x128_S512x128_0_0) (sourceOut alpha v0 v1 v2 v3 v4 v5 v6 v7 v8 v9 v10).1 Finset.univ (View.stores_vmem_bits_univ h_S512x128 rfl) (.inl rfl))
  let _w1 : Vec F S512x128 .f32 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (sourceOut alpha v0 v1 v2 v3 v4 v5 v6 v7 v8 v9 v10).2.1 Finset.univ (View.stores_vmem_bits_univ h_S512x128 rfl) (.inl rfl))
  let _w2 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (sourceOut alpha v0 v1 v2 v3 v4 v5 v6 v7 v8 v9 v10).2.2 Finset.univ (View.stores_vmem_bits_univ h_S512x128 rfl) (.inl rfl))
  pure ⟨⟩

set_option maxRecDepth 1000000 in
set_option maxHeartbeats 40000000 in
/-- The call is these loads and stores. -/
theorem sourceSteps_eq : cc2__pc3_body (F := F) = sourceSteps (F := F) := rfl

/-- What the call `cc3__pc4_body` does: it loads its operands, and it stores what `targetOut` makes of them. -/
noncomputable def targetSteps (arg0 : Memref sig .tc .vmem S1x256 .f32) (harg0 : arg0.IsWhole) (arg1 : Memref sig .tc .vmem S1x640 .f32) (harg1 : arg1.IsWhole) (arg2 : Memref sig .tc .vmem S1664x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) :
    Prog (TpuEff nD τ sig (Elt F) Λ₀ .tc) PUnit := do
  let v0 : Vec F S1x512 .f32 ← Prog.lift (.load arg8 (Rect.unit (s := S1x512) ![0, 0] S1x512.size inb_S1x512_S1x512_0_0).toLoadRect (View.loadsAt_vmem h_S1x512))
  let v1 : Vec F S1x512 .f32 ← Prog.lift (.load arg9 (Rect.unit (s := S1x512) ![0, 0] S1x512.size inb_S1x512_S1x512_0_0).toLoadRect (View.loadsAt_vmem h_S1x512))
  let v2 : Vec F S1x512 .f32 ← Prog.lift (.load arg10 (Rect.unit (s := S1x512) ![0, 0] S1x512.size inb_S1x512_S1x512_0_0).toLoadRect (View.loadsAt_vmem h_S1x512))
  let v3 : Vec F S1x256 .f32 ← Prog.lift (.load arg0 (Rect.unit (s := S1x256) ![0, 0] S1x256.size inb_S1x256_S1x256_0_0).toLoadRect (View.loadsAt_vmem h_S1x256))
  let v4 : Vec F S1x640 .f32 ← Prog.lift (.load arg1 (Rect.unit (s := S1x640) ![0, 0] S1x640.size inb_S1x640_S1x640_0_0).toLoadRect (View.loadsAt_vmem h_S1x640))
  let v5 : Vec F S1664x256 .f32 ← Prog.lift (.load arg2 (Rect.unit (s := S1664x256) ![0, 0] S1664x256.size inb_S1664x256_S1664x256_0_0).toLoadRect (View.loadsAt_vmem h_S1664x256))
  let v6 : Vec F S1x256 .f32 ← Prog.lift (.load arg3 (Rect.unit (s := S1x256) ![0, 0] S1x256.size inb_S1x256_S1x256_0_0).toLoadRect (View.loadsAt_vmem h_S1x256))
  let v7 : Vec F S256x256 .f32 ← Prog.lift (.load arg4 (Rect.unit (s := S256x256) ![0, 0] S256x256.size inb_S256x256_S256x256_0_0).toLoadRect (View.loadsAt_vmem h_S256x256))
  let v8 : Vec F S1x256 .f32 ← Prog.lift (.load arg5 (Rect.unit (s := S1x256) ![0, 0] S1x256.size inb_S1x256_S1x256_0_0).toLoadRect (View.loadsAt_vmem h_S1x256))
  let v9 : Vec F S256x512 .f32 ← Prog.lift (.load arg6 (Rect.unit (s := S256x512) ![0, 0] S256x512.size inb_S256x512_S256x512_0_0).toLoadRect (View.loadsAt_vmem h_S256x512))
  let v10 : Vec F S1x512 .f32 ← Prog.lift (.load arg7 (Rect.unit (s := S1x512) ![0, 0] S1x512.size inb_S1x512_S1x512_0_0).toLoadRect (View.loadsAt_vmem h_S1x512))
  let v11 : Vec F S1x512 .f32 ← Prog.lift (.load arg9 (Rect.unit (s := S1x512) ![0, 0] S1x512.size inb_S1x512_S1x512_0_0).toLoadRect (View.loadsAt_vmem h_S1x512))
  let v12 : Vec F S1x512 .f32 ← Prog.lift (.load arg10 (Rect.unit (s := S1x512) ![0, 0] S1x512.size inb_S1x512_S1x512_0_0).toLoadRect (View.loadsAt_vmem h_S1x512))
  let _w0 : Vec F S512x128 .f32 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (targetOut alpha v0 v1 v2 v3 v4 v5 v6 v7 v8 v9 v10 v11 v12).1 Finset.univ (View.stores_vmem_bits_univ h_S512x128 rfl) (.inl rfl))
  let _w1 : Vec F S512x128 .f32 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (targetOut alpha v0 v1 v2 v3 v4 v5 v6 v7 v8 v9 v10 v11 v12).2.1 Finset.univ (View.stores_vmem_bits_univ h_S512x128 rfl) (.inl rfl))
  let _w2 : Vec F S512x128 .f32 ← Prog.lift (.load arg13 (Rect.unit (s := S512x128) ![0, 0] S512x128.size inb_S512x128_S512x128_0_0).toLoadRect (View.loadsAt_vmem h_S512x128))
  Prog.lift (.store arg13 (Rect.unit (s := S512x128) ![0, 0] S512x128.size inb_S512x128_S512x128_0_0) (targetOut alpha v0 v1 v2 v3 v4 v5 v6 v7 v8 v9 v10 v11 v12).2.2.1 Finset.univ (View.stores_vmem_bits_univ h_S512x128 rfl) (.inl rfl))
  let _w3 : Vec F S512x128 .f32 ← Prog.lift (.load arg14 (Rect.unit (s := S512x128) ![0, 0] S512x128.size inb_S512x128_S512x128_0_0).toLoadRect (View.loadsAt_vmem h_S512x128))
  Prog.lift (.store arg14 (Rect.unit (s := S512x128) ![0, 0] S512x128.size inb_S512x128_S512x128_0_0) (targetOut alpha v0 v1 v2 v3 v4 v5 v6 v7 v8 v9 v10 v11 v12).2.2.2 Finset.univ (View.stores_vmem_bits_univ h_S512x128 rfl) (.inl rfl))
  pure ⟨⟩

set_option maxRecDepth 1000000 in
set_option maxHeartbeats 40000000 in
/-- The call is these loads and stores. -/
theorem targetSteps_eq : cc3__pc4_body (F := F) = targetSteps (F := F) := rfl

end Cert.KernelIdeal.Work

end
-- ==== Proof.IdealCalls.lean ====
/- Each call of the kernel run on the arrays it finds: what it leaves in its outputs. -/
module

public import proofs.«01_k».proof.Proof.Gen.KernelIdeal.Launch
public import proofs.«01_k».proof.Proof.Gen.KernelIdeal.Points
public import proofs.«01_k».proof.Proof.IdealBodies
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option synthInstance.maxSize 4096
set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Sorting

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dflt0_0 : (cfg0.win 0).block.Idx → Elt F (cfg0.win 0).elt := fun _ => Classical.choice inferInstance
def X0_0 (c : Dev nD) (t : Fin cfg0.N) : (cfg0.win 0).block.Idx → Elt F (cfg0.win 0).elt :=
  (cfg0.win 0).fill (cfg0.grid.coords t) dflt0_0 (iblk0 V c 0 t)
theorem xsize0_0 : ∀ t : Fin cfg0.N, ∀ a, (cfg0.win 0).xsize (cfg0.grid.coords t) a = (cfg0.win 0).size a := by decide +kernel
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S1x41538.size a)) (congrFun h a))
      (fun t => by rw [hafter]; unfold X0_0; rw [Pipeline.Window.cut_fill]; unfold Dat.blockOf iblk0; rw [hA]; try rfl) t d).trans
    (by unfold Dat.fetched X0_0; rw [fill0_0 t d dflt0_0]; unfold Dat.blockOf iblk0; rw [hA]; try rfl)
def dflt0_1 : (cfg0.win 1).block.Idx → Elt F (cfg0.win 1).elt := fun _ => Classical.choice inferInstance
def X0_1 (c : Dev nD) (t : Fin cfg0.N) : (cfg0.win 1).block.Idx → Elt F (cfg0.win 1).elt :=
  (cfg0.win 1).fill (cfg0.grid.coords t) dflt0_1 (iblk0 V c 1 t)
theorem xsize0_1 : ∀ t : Fin cfg0.N, ∀ a, (cfg0.win 1).xsize (cfg0.grid.coords t) a = (cfg0.win 1).size a := by decide +kernel
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
theorem before0_1_of {c : Dev nD} (dat : Dat τ (Elt F) Unit ℕ (UR sig nD τ) ℕ cfg0 c) (hA : dat.A 1 = V c (Pipeline.arrRef spec0 1))
    (hafter : ∀ t, dat.after 1 t = X0_1 V c t) (t : Fin cfg0.N) (d) : dat.before 1 t d = X0_1 V c t :=
  (dat.before_in_eq_fetched 1 rfl (fun _ => rfl)
      (fun t t' h => funext fun a => congrArg (fun n => Pipeline.Clip.of n ((cfg0.win 1).size a) (S41538x256.size a)) (congrFun h a))
      (fun t => by rw [hafter]; unfold X0_1; rw [Pipeline.Window.cut_fill]; unfold Dat.blockOf iblk0; rw [hA]; try rfl) t d).trans
    (by unfold Dat.fetched X0_1; rw [fill0_1 t d dflt0_1]; unfold Dat.blockOf iblk0; rw [hA]; try rfl)
def dflt0_2 : (cfg0.win 2).block.Idx → Elt F (cfg0.win 2).elt := fun _ => Classical.choice inferInstance
def X0_2 (c : Dev nD) (t : Fin cfg0.N) : (cfg0.win 2).block.Idx → Elt F (cfg0.win 2).elt :=
  (cfg0.win 2).fill (cfg0.grid.coords t) dflt0_2 (iblk0 V c 2 t)
theorem xsize0_2 : ∀ t : Fin cfg0.N, ∀ a, (cfg0.win 2).xsize (cfg0.grid.coords t) a = (cfg0.win 2).size a := by decide +kernel
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
theorem before0_2_of {c : Dev nD} (dat : Dat τ (Elt F) Unit ℕ (UR sig nD τ) ℕ cfg0 c) (hA : dat.A 2 = V c (Pipeline.arrRef spec0 2))
    (hafter : ∀ t, dat.after 2 t = X0_2 V c t) (t : Fin cfg0.N) (d) : dat.before 2 t d = X0_2 V c t :=
  (dat.before_in_eq_fetched 2 rfl (fun _ => rfl)
      (fun t t' h => funext fun a => congrArg (fun n => Pipeline.Clip.of n ((cfg0.win 2).size a) (S41538x256.size a)) (congrFun h a))
      (fun t => by rw [hafter]; unfold X0_2; rw [Pipeline.Window.cut_fill]; unfold Dat.blockOf iblk0; rw [hA]; try rfl) t d).trans
    (by unfold Dat.fetched X0_2; rw [fill0_2 t d dflt0_2]; unfold Dat.blockOf iblk0; rw [hA]; try rfl)
def dflt0_3 : (cfg0.win 3).block.Idx → Elt F (cfg0.win 3).elt := fun _ => Classical.choice inferInstance
def X0_3 (c : Dev nD) (t : Fin cfg0.N) : (cfg0.win 3).block.Idx → Elt F (cfg0.win 3).elt :=
  (cfg0.win 3).fill (cfg0.grid.coords t) dflt0_3 (iblk0 V c 3 t)
theorem xsize0_3 : ∀ t : Fin cfg0.N, ∀ a, (cfg0.win 3).xsize (cfg0.grid.coords t) a = (cfg0.win 3).size a := by decide +kernel
theorem moved0_3 (t : Fin cfg0.N) (j : (cfg0.win 3).block.Idx) : (cfg0.win 3).moved (cfg0.grid.coords t) j = true :=
  ((cfg0.win 3).moved_iff _ j).mpr fun a => by rw [xsize0_3 t a]; exact (j a).isLt
theorem fill0_3 (t : Fin cfg0.N) (d d' : (cfg0.win 3).block.Idx → Elt F (cfg0.win 3).elt) (g) :
    (cfg0.win 3).fill (cfg0.grid.coords t) d g = (cfg0.win 3).fill (cfg0.grid.coords t) d' g := by
  funext j; unfold Pipeline.Window.fill; rw [dif_pos (moved0_3 t j), dif_pos (moved0_3 t j)]
theorem before0_3_of {c : Dev nD} (dat : Dat τ (Elt F) Unit ℕ (UR sig nD τ) ℕ cfg0 c) (hA : dat.A 3 = V c (Pipeline.arrRef spec0 3))
    (hafter : ∀ t, dat.after 3 t = X0_3 V c t) (t : Fin cfg0.N) (d) : dat.before 3 t d = X0_3 V c t :=
  (dat.before_in_eq_fetched 3 rfl (fun _ => rfl)
      (fun t t' h => funext fun a => congrArg (fun n => Pipeline.Clip.of n ((cfg0.win 3).size a) (S41538x256.size a)) (congrFun h a))
      (fun t => by rw [hafter]; unfold X0_3; rw [Pipeline.Window.cut_fill]; unfold Dat.blockOf iblk0; rw [hA]; try rfl) t d).trans
    (by unfold Dat.fetched X0_3; rw [fill0_3 t d dflt0_3]; unfold Dat.blockOf iblk0; rw [hA]; try rfl)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

abbrev VO0_4 : View sig .tc .vmem S1x256 .f32 := (Memref.whole cc0_stg4_0 : Memref sig .tc .vmem S1x256 .f32).view
abbrev VO0_5 : View sig .tc .vmem S1x256 .f32 := (Memref.whole cc0_stg5_0 : Memref sig .tc .vmem S1x256 .f32).view
abbrev VO0_6 : View sig .tc .vmem S1x256 .f32 := (Memref.whole cc0_stg6_0 : Memref sig .tc .vmem S1x256 .f32).view
abbrev ms0_0 (t : Fin cfg0.N) : Memref sig .tc .vmem S1x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)

set_option maxHeartbeats 1000000 in
noncomputable def kernelRun0_A (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) :
    Σ' (L4 : List (View.Piece (Elt F) S1x256 .f32)), Σ' (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__pc1_body i arg1 harg1 arg2 harg2 arg3 harg3 arg4 harg4 arg5 harg5 arg6 harg6 arg7 harg7) K } := by
  refine ⟨?_, ?_, ?_, fun E K => ?run⟩
  case run =>
    simp only [productsSteps_eq]; unfold productsSteps
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

theorem cover0_A_4 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) (y : S1x256.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledL (kernelRun0_A c i arg1 harg1 arg2 harg2 arg3 harg3 arg4 harg4 arg5 harg5 arg6 harg6 arg7 harg7 hc0 x0 x1 x2 x3).1 S1x256.size (by sl_kernel_rfl) y

def out0_A_4 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) : Vec F S1x256 .f32 :=
  VO0_4.read (Elt F) (VO0_4.writes (Elt F) VO0_4.junk (kernelRun0_A c i arg1 harg1 arg2 harg2 arg3 harg3 arg4 harg4 arg5 harg5 arg6 harg6 arg7 harg7 hc0 x0 x1 x2 x3).1)

theorem cover0_A_5 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) (y : S1x256.Idx) :
    ∃ pc ∈ (kernelRun0_A c i arg1 harg1 arg2 harg2 arg3 harg3 arg4 harg4 arg5 harg5 arg6 harg6 arg7 harg7 hc0 x0 x1 x2 x3).2.1, y ∈ pc.1.set :=
  View.cover_of_tiledL (kernelRun0_A c i arg1 harg1 arg2 harg2 arg3 harg3 arg4 harg4 arg5 harg5 arg6 harg6 arg7 harg7 hc0 x0 x1 x2 x3).2.1 S1x256.size (by sl_kernel_rfl) y

def out0_A_5 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) : Vec F S1x256 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3).2.1)

theorem cover0_A_6 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) (y : S1x256.Idx) :
    ∃ pc ∈ (kernelRun0_A c i arg1 harg1 arg2 harg2 arg3 harg3 arg4 harg4 arg5 harg5 arg6 harg6 arg7 harg7 hc0 x0 x1 x2 x3).2.2.1, y ∈ pc.1.set :=
  View.cover_of_tiledL (kernelRun0_A c i arg1 harg1 arg2 harg2 arg3 harg3 arg4 harg4 arg5 harg5 arg6 harg6 arg7 harg7 hc0 x0 x1 x2 x3).2.2.1 S1x256.size (by sl_kernel_rfl) y

def out0_A_6 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : cond0_0 i)
    (x0 : Vec F S1x8192 .f32) (x1 : Vec F S8192x256 .f32) (x2 : Vec F S8192x256 .f32) (x3 : Vec F S8192x256 .f32) : Vec F S1x256 .f32 :=
  VO0_6.read (Elt F) (VO0_6.writes (Elt F) VO0_6.junk (kernelRun0_A c i arg1 harg1 arg2 harg2 arg3 harg3 arg4 harg4 arg5 harg5 arg6 harg6 arg7 harg7 hc0 x0 x1 x2 x3).2.2.1)

set_option maxHeartbeats 1000000 in
noncomputable def kernelRun0_B (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) :
    Σ' (L4 : List (View.Piece (Elt F) S1x256 .f32)), Σ' (L5 : List (View.Piece (Elt F) S1x256 .f32)), { L6 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xo4 ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0__pc1_body i arg1 harg1 arg2 harg2 arg3 harg3 arg4 harg4 arg5 harg5 arg6 harg6 arg7 harg7) K } := by
  refine ⟨?_, ?_, ?_, fun E K => ?run⟩
  case run =>
    simp only [productsSteps_eq]; unfold productsSteps
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

theorem cover0_B_4 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) (y : S1x256.Idx) :
    ∃ pc ∈ (kernelRun0_B c i arg1 harg1 arg2 harg2 arg3 harg3 arg4 harg4 arg5 harg5 arg6 harg6 arg7 harg7 hc0 x0 x1 x2 x3 xo4 xo5 xo6).1, y ∈ pc.1.set :=
  View.cover_of_tiledL (kernelRun0_B c i arg1 harg1 arg2 harg2 arg3 harg3 arg4 harg4 arg5 harg5 arg6 harg6 arg7 harg7 hc0 x0 x1 x2 x3 xo4 xo5 xo6).1 S1x256.size (by sl_kernel_rfl) y

def out0_B_4 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) : Vec F S1x256 .f32 :=
  VO0_4.read (Elt F) (VO0_4.writes (Elt F) VO0_4.junk (kernelRun0_B c i arg1 harg1 arg2 harg2 arg3 harg3 arg4 harg4 arg5 harg5 arg6 harg6 arg7 harg7 hc0 x0 x1 x2 x3 xo4 xo5 xo6).1)

theorem cover0_B_5 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) (y : S1x256.Idx) :
    ∃ pc ∈ (kernelRun0_B c i arg1 harg1 arg2 harg2 arg3 harg3 arg4 harg4 arg5 harg5 arg6 harg6 arg7 harg7 hc0 x0 x1 x2 x3 xo4 xo5 xo6).2.1, y ∈ pc.1.set :=
  View.cover_of_tiledL (kernelRun0_B c i arg1 harg1 arg2 harg2 arg3 harg3 arg4 harg4 arg5 harg5 arg6 harg6 arg7 harg7 hc0 x0 x1 x2 x3 xo4 xo5 xo6).2.1 S1x256.size (by sl_kernel_rfl) y

def out0_B_5 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) : Vec F S1x256 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 xo4 xo5 xo6).2.1)

theorem cover0_B_6 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) (y : S1x256.Idx) :
    ∃ pc ∈ (kernelRun0_B c i arg1 harg1 arg2 harg2 arg3 harg3 arg4 harg4 arg5 harg5 arg6 harg6 arg7 harg7 hc0 x0 x1 x2 x3 xo4 xo5 xo6).2.2.1, y ∈ pc.1.set :=
  View.cover_of_tiledL (kernelRun0_B c i arg1 harg1 arg2 harg2 arg3 harg3 arg4 harg4 arg5 harg5 arg6 harg6 arg7 harg7 hc0 x0 x1 x2 x3 xo4 xo5 xo6).2.2.1 S1x256.size (by sl_kernel_rfl) y

def out0_B_6 (c : Dev nD) (i : grid0.Coords) (arg1 : Memref sig .tc .vmem S1x8192 .f32) (harg1 : arg1.IsWhole) (arg2 : Memref sig .tc .vmem S8192x256 .f32) (harg2 : arg2.IsWhole) (arg3 : Memref sig .tc .vmem S8192x256 .f32) (harg3 : arg3.IsWhole) (arg4 : Memref sig .tc .vmem S8192x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (hc0 : ¬cond0_0 i)
    (x0 : Vec F S1x8192 .f32) (x1 : Vec F S8192x256 .f32) (x2 : Vec F S8192x256 .f32) (x3 : Vec F S8192x256 .f32) (xo4 : Vec F S1x256 .f32) (xo5 : Vec F S1x256 .f32) (xo6 : Vec F S1x256 .f32) : Vec F S1x256 .f32 :=
  VO0_6.read (Elt F) (VO0_6.writes (Elt F) VO0_6.junk (kernelRun0_B c i arg1 harg1 arg2 harg2 arg3 harg3 arg4 harg4 arg5 harg5 arg6 harg6 arg7 harg7 hc0 x0 x1 x2 x3 xo4 xo5 xo6).2.2.1)

def outsAt0 (c : Dev nD) : (n : ℕ) → n < cfg0.N → Vec F S1x256 .f32 × Vec F S1x256 .f32 × Vec F S1x256 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 V c ⟨0, hn⟩) (X0_1 V c ⟨0, hn⟩) (X0_2 V c ⟨0, hn⟩) (X0_3 V c ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 V c ⟨0, hn⟩) (X0_1 V c ⟨0, hn⟩) (X0_2 V c ⟨0, hn⟩) (X0_3 V c ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (X0_0 V c ⟨0, hn⟩) (X0_1 V c ⟨0, hn⟩) (X0_2 V c ⟨0, hn⟩) (X0_3 V c ⟨0, hn⟩))
  | n + 1, hn =>
    if h0 : (n + 1) % 5 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 V c ⟨n + 1, hn⟩) (X0_1 V c ⟨n + 1, hn⟩) (X0_2 V c ⟨n + 1, hn⟩) (X0_3 V c ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 V c ⟨n + 1, hn⟩) (X0_1 V c ⟨n + 1, hn⟩) (X0_2 V c ⟨n + 1, hn⟩) (X0_3 V c ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (X0_0 V c ⟨n + 1, hn⟩) (X0_1 V c ⟨n + 1, hn⟩) (X0_2 V c ⟨n + 1, hn⟩) (X0_3 V c ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 V c ⟨n + 1, hn⟩) (X0_1 V c ⟨n + 1, hn⟩) (X0_2 V c ⟨n + 1, hn⟩) (X0_3 V c ⟨n + 1, hn⟩) (outsAt0 c n (Nat.lt_of_succ_lt hn)).1 (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 V c ⟨n + 1, hn⟩) (X0_1 V c ⟨n + 1, hn⟩) (X0_2 V c ⟨n + 1, hn⟩) (X0_3 V c ⟨n + 1, hn⟩) (outsAt0 c n (Nat.lt_of_succ_lt hn)).1 (outsAt0 c n (Nat.lt_of_succ_lt hn)).2.1 (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (X0_0 V c ⟨n + 1, hn⟩) (X0_1 V c ⟨n + 1, hn⟩) (X0_2 V c ⟨n + 1, hn⟩) (X0_3 V c ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 5 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 V c t) (X0_1 V c t) (X0_2 V c t) (X0_3 V c t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 V c t) (X0_1 V c t) (X0_2 V c t) (X0_3 V c t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (X0_0 V c t) (X0_1 V c t) (X0_2 V c t) (X0_3 V c t)) := by
  obtain ⟨n, hn⟩ := t
  cases n with
  | zero => exact rfl
  | succ n => exact (dif_pos h0).trans rfl

theorem outsAt0_B (c : Dev nD) (t : Fin cfg0.N) (h0 : ¬t.val % 5 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 V c t) (X0_1 V c t) (X0_2 V c t) (X0_3 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 V c t) (X0_1 V c t) (X0_2 V c t) (X0_3 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (X0_0 V c t) (X0_1 V c t) (X0_2 V c t) (X0_3 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => X0_1 V c t
    | ⟨2, _⟩ => X0_2 V c t
    | ⟨3, _⟩ => X0_3 V c t
    | ⟨4, _⟩ => (outsAt0 V c t.val t.isLt).1
    | ⟨5, _⟩ => (outsAt0 V c t.val t.isLt).2.1
    | ⟨6, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = X0_0 V c t := by dsimp only [dat0]
theorem after0_1 (c : Dev nD) (t : Fin cfg0.N) : (dat0 V c).after 1 t = X0_1 V c t := by dsimp only [dat0]
theorem after0_2 (c : Dev nD) (t : Fin cfg0.N) : (dat0 V c).after 2 t = X0_2 V c t := by dsimp only [dat0]
theorem after0_3 (c : Dev nD) (t : Fin cfg0.N) : (dat0 V c).after 3 t = X0_3 V c t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]
theorem after0_6 (c : Dev nD) (t : Fin cfg0.N) : (dat0 V c).after 6 t = (outsAt0 V c t.val t.isLt).2.2 := by dsimp only [dat0]

theorem before0_0 (c : Dev nD) (t : Fin cfg0.N) (d) : (dat0 V c).before 0 t d = X0_0 V c t :=
  before0_0_of V (dat0 V c) (A_eq0 V c 0) (after0_0 V c) t d
theorem before0_1 (c : Dev nD) (t : Fin cfg0.N) (d) : (dat0 V c).before 1 t d = X0_1 V c t :=
  before0_1_of V (dat0 V c) (A_eq0 V c 1) (after0_1 V c) t d
theorem before0_2 (c : Dev nD) (t : Fin cfg0.N) (d) : (dat0 V c).before 2 t d = X0_2 V c t :=
  before0_2_of V (dat0 V c) (A_eq0 V c 2) (after0_2 V c) t d
theorem before0_3 (c : Dev nD) (t : Fin cfg0.N) (d) : (dat0 V c).before 3 t d = X0_3 V c t :=
  before0_3_of V (dat0 V c) (A_eq0 V c 3) (after0_3 V c) t d
theorem before0_4_B (c : Dev nD) (t : Fin cfg0.N) (h0 : ¬t.val % 5 = 0) (d) :
    (dat0 V c).before 4 t d = (outsAt0 V c (t.val - 1) (Nat.lt_of_le_of_lt (Nat.sub_le _ _) t.isLt)).1 := by
  have hN : t.val < 5 := lt_of_lt_of_eq t.isLt (show cfg0.N = 5 from N_0)
  rw [Dat.before_out_kept _ 4 rfl t (by omega) (Bool.eq_false_iff.mpr fun h => by have := (flush0_4 _).mp h; dsimp only at this; omega)
    (fun _ => rfl) (fun _ _ => rfl)]
  dsimp only [dat0]
theorem before0_5_B (c : Dev nD) (t : Fin cfg0.N) (h0 : ¬t.val % 5 = 0) (d) :
    (dat0 V c).before 5 t d = (outsAt0 V c (t.val - 1) (Nat.lt_of_le_of_lt (Nat.sub_le _ _) t.isLt)).2.1 := by
  have hN : t.val < 5 := lt_of_lt_of_eq t.isLt (show cfg0.N = 5 from N_0)
  rw [Dat.before_out_kept _ 5 rfl t (by omega) (Bool.eq_false_iff.mpr fun h => by have := (flush0_5 _).mp h; dsimp only at this; omega)
    (fun _ => rfl) (fun _ _ => rfl)]
  dsimp only [dat0]
theorem before0_6_B (c : Dev nD) (t : Fin cfg0.N) (h0 : ¬t.val % 5 = 0) (d) :
    (dat0 V c).before 6 t d = (outsAt0 V c (t.val - 1) (Nat.lt_of_le_of_lt (Nat.sub_le _ _) t.isLt)).2.2 := by
  have hN : t.val < 5 := lt_of_lt_of_eq t.isLt (show cfg0.N = 5 from N_0)
  rw [Dat.before_out_kept _ 6 rfl t (by omega) (Bool.eq_false_iff.mpr fun h => by have := (flush0_6 _).mp h; dsimp only at this; omega)
    (fun _ => rfl) (fun _ _ => rfl)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 5 := lt_of_lt_of_eq t.isLt (show cfg0.N = 5 from N_0)
  by_cases h0 : t.val % 5 = 0
  · rw [outsAt0_A V c t h0]
    unfold out0_A_4 out0_A_5 out0_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (X0_0 V c t) (X0_1 V c t) (X0_2 V c t) (X0_3 V c t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_A_4 c _ _ _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _)
  · rw [outsAt0_B V c t h0]
    simp only [before0_4_B V c t h0, before0_5_B V c t h0, before0_6_B V c t h0]
    unfold out0_B_4 out0_B_5 out0_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (X0_0 V c t) (X0_1 V c t) (X0_2 V c t) (X0_3 V c t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x256 := Rect.unit (s := S1x256) ![0, 0] S1x256.size inb_S1x256_S1x256_0_0
abbrev r1_1 : Rect S1x640 := Rect.unit (s := S1x640) ![0, 0] S1x640.size inb_S1x640_S1x640_0_0
abbrev r1_2 : Rect S640x256 := Rect.unit (s := S640x256) ![0, 0] S640x256.size inb_S640x256_S640x256_0_0
abbrev r1_3 : Rect S256x256 := Rect.unit (s := S256x256) ![0, 0] S256x256.size inb_S256x256_S256x256_0_0
abbrev r1_4 : Rect S256x512 := Rect.unit (s := S256x512) ![0, 0] S256x512.size inb_S256x512_S256x512_0_0
abbrev r1_5 : Rect S1x512 := Rect.unit (s := S1x512) ![0, 0] S1x512.size inb_S1x512_S1x512_0_0

def out1_8 (x0 : Vec F S1x256 .f32) (x1 : Vec F S1x640 .f32) (x2 : Vec F S640x256 .f32) (x3 : Vec F S1x256 .f32) (x4 : Vec F S256x256 .f32) (x5 : Vec F S1x256 .f32) (x6 : Vec F S256x512 .f32) (x7 : Vec F S1x512 .f32) : Vec F S1x512 .f32 :=
  View.canon [⟨r1_5, (startOut alpha (View.ld x0 r1_0) (View.ld x1 r1_1) (View.ld x2 r1_2) (View.ld x3 r1_0) (View.ld x4 r1_3) (View.ld x5 r1_0) (View.ld x6 r1_4) (View.ld x7 r1_5)).1⟩]

theorem cover1_8 (p0 : Vec F S1x512 .f32) (y : S1x512.Idx) :
    ∃ pc ∈ ([⟨r1_5, p0⟩] : List (View.Piece (Elt F) S1x512 .f32)), y ∈ pc.1.set :=
  View.cover_of_tiled [⟨r1_5, p0⟩] S1x512.size (by rfl) y

def out1_9 (x0 : Vec F S1x256 .f32) (x1 : Vec F S1x640 .f32) (x2 : Vec F S640x256 .f32) (x3 : Vec F S1x256 .f32) (x4 : Vec F S256x256 .f32) (x5 : Vec F S1x256 .f32) (x6 : Vec F S256x512 .f32) (x7 : Vec F S1x512 .f32) : Vec F S1x512 .i32 :=
  View.canon [⟨r1_5, (startOut alpha (View.ld x0 r1_0) (View.ld x1 r1_1) (View.ld x2 r1_2) (View.ld x3 r1_0) (View.ld x4 r1_3) (View.ld x5 r1_0) (View.ld x6 r1_4) (View.ld x7 r1_5)).2⟩]

theorem cover1_9 (p0 : Vec F S1x512 .i32) (y : S1x512.Idx) :
    ∃ pc ∈ ([⟨r1_5, p0⟩] : List (View.Piece (Elt F) S1x512 .i32)), y ∈ pc.1.set :=
  View.cover_of_tiled [⟨r1_5, p0⟩] S1x512.size (by rfl) y

set_option maxHeartbeats 1000000 in
theorem sound_kernel1 (c : Dev nD) (E : Set ℕ) (arg0 : Memref sig .tc .vmem S1x256 .f32) (harg0 : arg0.IsWhole) (arg1 : Memref sig .tc .vmem S1x640 .f32) (harg1 : arg1.IsWhole) (arg2 : Memref sig .tc .vmem S640x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .i32) (harg9 : arg9.IsWhole)
    (x0 : Vec F S1x256 .f32) (x1 : Vec F S1x640 .f32) (x2 : Vec F S640x256 .f32) (x3 : Vec F S1x256 .f32) (x4 : Vec F S256x256 .f32) (x5 : Vec F S1x256 .f32) (x6 : Vec F S256x512 .f32) (x7 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out1_8 x0 x1 x2 x3 x4 x5 x6 x7) ∗ owns (c : Thread nD τ) arg9 fullShare (out1_9 x0 x1 x2 x3 x4 x5 x6 x7)) -∗ K ⟨⟩))
      ⊢ wp frame (wpE (defs₀ (F := F)) Variants.none c none) E (cc1__pc2_body arg0 harg0 arg1 harg1 arg2 harg2 arg3 harg3 arg4 harg4 arg5 harg5 arg6 harg6 arg7 harg7 arg8 harg8 arg9 harg9) K := by
  simp only [startSteps_eq]; unfold startSteps
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover1_8 _)
  iexists _; isplitr
  swap; · iexact H9
  ipureintro
  exact View.read_writes_eq_canon _ _ _ (cover1_9 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x512 := Rect.unit (s := S1x512) ![0, 0] S1x512.size inb_S1x512_S1x512_0_0
abbrev r2_1 : Rect S1x256 := Rect.unit (s := S1x256) ![0, 0] S1x256.size inb_S1x256_S1x256_0_0
abbrev r2_2 : Rect S1x640 := Rect.unit (s := S1x640) ![0, 0] S1x640.size inb_S1x640_S1x640_0_0
abbrev r2_3 : Rect S1152x256 := Rect.unit (s := S1152x256) ![0, 0] S1152x256.size inb_S1152x256_S1152x256_0_0
abbrev r2_4 : Rect S256x256 := Rect.unit (s := S256x256) ![0, 0] S256x256.size inb_S256x256_S256x256_0_0
abbrev r2_5 : Rect S256x512 := Rect.unit (s := S256x512) ![0, 0] S256x512.size inb_S256x512_S256x512_0_0
abbrev r2_6 : Rect S512x128 := Rect.unit (s := S512x128) ![0, 0] S512x128.size inb_S512x128_S512x128_0_0

def out2_10 (x0 : Vec F S1x256 .f32) (x1 : Vec F S1x640 .f32) (x2 : Vec F S1152x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .i32) : Vec F S512x128 .f32 :=
  View.canon [⟨r2_6, (sourceOut alpha (View.ld x9 r2_0) (View.ld x8 r2_0) (View.ld x0 r2_1) (View.ld x1 r2_2) (View.ld x2 r2_3) (View.ld x3 r2_1) (View.ld x4 r2_4) (View.ld x5 r2_1) (View.ld x6 r2_5) (View.ld x7 r2_0) (View.ld x9 r2_0)).1⟩]

theorem cover2_10 (p0 : Vec F S512x128 .f32) (y : S512x128.Idx) :
    ∃ pc ∈ ([⟨r2_6, p0⟩] : List (View.Piece (Elt F) S512x128 .f32)), y ∈ pc.1.set :=
  View.cover_of_tiled [⟨r2_6, p0⟩] S512x128.size (by rfl) y

def out2_11 (x0 : Vec F S1x256 .f32) (x1 : Vec F S1x640 .f32) (x2 : Vec F S1152x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .i32) : Vec F S512x128 .f32 :=
  View.canon [⟨r2_6, (sourceOut alpha (View.ld x9 r2_0) (View.ld x8 r2_0) (View.ld x0 r2_1) (View.ld x1 r2_2) (View.ld x2 r2_3) (View.ld x3 r2_1) (View.ld x4 r2_4) (View.ld x5 r2_1) (View.ld x6 r2_5) (View.ld x7 r2_0) (View.ld x9 r2_0)).2.1⟩]

theorem cover2_11 (p0 : Vec F S512x128 .f32) (y : S512x128.Idx) :
    ∃ pc ∈ ([⟨r2_6, p0⟩] : List (View.Piece (Elt F) S512x128 .f32)), y ∈ pc.1.set :=
  View.cover_of_tiled [⟨r2_6, p0⟩] S512x128.size (by rfl) y

def out2_12 (x0 : Vec F S1x256 .f32) (x1 : Vec F S1x640 .f32) (x2 : Vec F S1152x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .i32) : Vec F S512x128 .f32 :=
  View.canon [⟨r2_6, (sourceOut alpha (View.ld x9 r2_0) (View.ld x8 r2_0) (View.ld x0 r2_1) (View.ld x1 r2_2) (View.ld x2 r2_3) (View.ld x3 r2_1) (View.ld x4 r2_4) (View.ld x5 r2_1) (View.ld x6 r2_5) (View.ld x7 r2_0) (View.ld x9 r2_0)).2.2⟩]

theorem cover2_12 (p0 : Vec F S512x128 .f32) (y : S512x128.Idx) :
    ∃ pc ∈ ([⟨r2_6, p0⟩] : List (View.Piece (Elt F) S512x128 .f32)), y ∈ pc.1.set :=
  View.cover_of_tiled [⟨r2_6, p0⟩] S512x128.size (by rfl) y

set_option maxHeartbeats 1000000 in
theorem sound_kernel2 (c : Dev nD) (E : Set ℕ) (arg0 : Memref sig .tc .vmem S1x256 .f32) (harg0 : arg0.IsWhole) (arg1 : Memref sig .tc .vmem S1x640 .f32) (harg1 : arg1.IsWhole) (arg2 : Memref sig .tc .vmem S1152x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .i32) (harg9 : arg9.IsWhole) (arg10 : Memref sig .tc .vmem S512x128 .f32) (harg10 : arg10.IsWhole) (arg11 : Memref sig .tc .vmem S512x128 .f32) (harg11 : arg11.IsWhole) (arg12 : Memref sig .tc .vmem S512x128 .f32) (harg12 : arg12.IsWhole)
    (x0 : Vec F S1x256 .f32) (x1 : Vec F S1x640 .f32) (x2 : Vec F S1152x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (out2_10 x0 x1 x2 x3 x4 x5 x6 x7 x8 x9) ∗ owns (c : Thread nD τ) arg11 fullShare (out2_11 x0 x1 x2 x3 x4 x5 x6 x7 x8 x9) ∗ owns (c : Thread nD τ) arg12 fullShare (out2_12 x0 x1 x2 x3 x4 x5 x6 x7 x8 x9)) -∗ K ⟨⟩))
      ⊢ wp frame (wpE (defs₀ (F := F)) Variants.none c none) E (cc2__pc3_body arg0 harg0 arg1 harg1 arg2 harg2 arg3 harg3 arg4 harg4 arg5 harg5 arg6 harg6 arg7 harg7 arg8 harg8 arg9 harg9 arg10 harg10 arg11 harg11 arg12 harg12) K := by
  simp only [sourceSteps_eq]; unfold sourceSteps
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (cover2_10 _)).trans ?_
    rfl
  isplitl [H11]
  · iexists _; isplitr
    swap; · iexact H11
    ipureintro
    refine (View.read_writes_eq_canon _ _ _ (cover2_11 _)).trans ?_
    rfl
  iexists _; isplitr
  swap; · iexact H12
  ipureintro
  refine (View.read_writes_eq_canon _ _ _ (cover2_12 _)).trans ?_
  rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x512 := Rect.unit (s := S1x512) ![0, 0] S1x512.size inb_S1x512_S1x512_0_0
abbrev r3_1 : Rect S1x256 := Rect.unit (s := S1x256) ![0, 0] S1x256.size inb_S1x256_S1x256_0_0
abbrev r3_2 : Rect S1x640 := Rect.unit (s := S1x640) ![0, 0] S1x640.size inb_S1x640_S1x640_0_0
abbrev r3_3 : Rect S1664x256 := Rect.unit (s := S1664x256) ![0, 0] S1664x256.size inb_S1664x256_S1664x256_0_0
abbrev r3_4 : Rect S256x256 := Rect.unit (s := S256x256) ![0, 0] S256x256.size inb_S256x256_S256x256_0_0
abbrev r3_5 : Rect S256x512 := Rect.unit (s := S256x512) ![0, 0] S256x512.size inb_S256x512_S256x512_0_0
abbrev r3_6 : Rect S512x128 := Rect.unit (s := S512x128) ![0, 0] S512x128.size inb_S512x128_S512x128_0_0

def out3_11 (x0 : Vec F S1x256 .f32) (x1 : Vec F S1x640 .f32) (x2 : Vec F S1664x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .f32) (x10 : Vec F S1x512 .f32) : Vec F S512x128 .f32 :=
  View.canon [⟨r3_6, (targetOut alpha (View.ld x8 r3_0) (View.ld x9 r3_0) (View.ld x10 r3_0) (View.ld x0 r3_1) (View.ld x1 r3_2) (View.ld x2 r3_3) (View.ld x3 r3_1) (View.ld x4 r3_4) (View.ld x5 r3_1) (View.ld x6 r3_5) (View.ld x7 r3_0) (View.ld x9 r3_0) (View.ld x10 r3_0)).1⟩]

theorem cover3_11 (p0 : Vec F S512x128 .f32) (y : S512x128.Idx) :
    ∃ pc ∈ ([⟨r3_6, p0⟩] : List (View.Piece (Elt F) S512x128 .f32)), y ∈ pc.1.set :=
  View.cover_of_tiled [⟨r3_6, p0⟩] S512x128.size (by rfl) y

def out3_12 (x0 : Vec F S1x256 .f32) (x1 : Vec F S1x640 .f32) (x2 : Vec F S1664x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .f32) (x10 : Vec F S1x512 .f32) : Vec F S512x128 .f32 :=
  View.canon [⟨r3_6, (targetOut alpha (View.ld x8 r3_0) (View.ld x9 r3_0) (View.ld x10 r3_0) (View.ld x0 r3_1) (View.ld x1 r3_2) (View.ld x2 r3_3) (View.ld x3 r3_1) (View.ld x4 r3_4) (View.ld x5 r3_1) (View.ld x6 r3_5) (View.ld x7 r3_0) (View.ld x9 r3_0) (View.ld x10 r3_0)).2.1⟩]

theorem cover3_12 (p0 : Vec F S512x128 .f32) (y : S512x128.Idx) :
    ∃ pc ∈ ([⟨r3_6, p0⟩] : List (View.Piece (Elt F) S512x128 .f32)), y ∈ pc.1.set :=
  View.cover_of_tiled [⟨r3_6, p0⟩] S512x128.size (by rfl) y

def out3_13 (x0 : Vec F S1x256 .f32) (x1 : Vec F S1x640 .f32) (x2 : Vec F S1664x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .f32) (x10 : Vec F S1x512 .f32) : Vec F S512x128 .f32 :=
  View.canon [⟨r3_6, (targetOut alpha (View.ld x8 r3_0) (View.ld x9 r3_0) (View.ld x10 r3_0) (View.ld x0 r3_1) (View.ld x1 r3_2) (View.ld x2 r3_3) (View.ld x3 r3_1) (View.ld x4 r3_4) (View.ld x5 r3_1) (View.ld x6 r3_5) (View.ld x7 r3_0) (View.ld x9 r3_0) (View.ld x10 r3_0)).2.2.1⟩]

theorem cover3_13 (p0 : Vec F S512x128 .f32) (y : S512x128.Idx) :
    ∃ pc ∈ ([⟨r3_6, p0⟩] : List (View.Piece (Elt F) S512x128 .f32)), y ∈ pc.1.set :=
  View.cover_of_tiled [⟨r3_6, p0⟩] S512x128.size (by rfl) y

def out3_14 (x0 : Vec F S1x256 .f32) (x1 : Vec F S1x640 .f32) (x2 : Vec F S1664x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .f32) (x10 : Vec F S1x512 .f32) : Vec F S512x128 .f32 :=
  View.canon [⟨r3_6, (targetOut alpha (View.ld x8 r3_0) (View.ld x9 r3_0) (View.ld x10 r3_0) (View.ld x0 r3_1) (View.ld x1 r3_2) (View.ld x2 r3_3) (View.ld x3 r3_1) (View.ld x4 r3_4) (View.ld x5 r3_1) (View.ld x6 r3_5) (View.ld x7 r3_0) (View.ld x9 r3_0) (View.ld x10 r3_0)).2.2.2⟩]

theorem cover3_14 (p0 : Vec F S512x128 .f32) (y : S512x128.Idx) :
    ∃ pc ∈ ([⟨r3_6, p0⟩] : List (View.Piece (Elt F) S512x128 .f32)), y ∈ pc.1.set :=
  View.cover_of_tiled [⟨r3_6, p0⟩] S512x128.size (by rfl) y

set_option maxHeartbeats 1000000 in
theorem sound_kernel3 (c : Dev nD) (E : Set ℕ) (arg0 : Memref sig .tc .vmem S1x256 .f32) (harg0 : arg0.IsWhole) (arg1 : Memref sig .tc .vmem S1x640 .f32) (harg1 : arg1.IsWhole) (arg2 : Memref sig .tc .vmem S1664x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole)
    (x0 : Vec F S1x256 .f32) (x1 : Vec F S1x640 .f32) (x2 : Vec F S1664x256 .f32) (x3 : Vec F S1x256 .f32) (x4 : Vec F S256x256 .f32) (x5 : Vec F S1x256 .f32) (x6 : Vec F S256x512 .f32) (x7 : Vec F S1x512 .f32) (x8 : Vec F S1x512 .f32) (x9 : Vec F S1x512 .f32) (x10 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (out3_11 x0 x1 x2 x3 x4 x5 x6 x7 x8 x9 x10) ∗ owns (c : Thread nD τ) arg12 fullShare (out3_12 x0 x1 x2 x3 x4 x5 x6 x7 x8 x9 x10) ∗ owns (c : Thread nD τ) arg13 fullShare (out3_13 x0 x1 x2 x3 x4 x5 x6 x7 x8 x9 x10) ∗ owns (c : Thread nD τ) arg14 fullShare (out3_14 x0 x1 x2 x3 x4 x5 x6 x7 x8 x9 x10)) -∗ K ⟨⟩))
      ⊢ wp frame (wpE (defs₀ (F := F)) Variants.none c none) E (cc3__pc4_body arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [targetSteps_eq]; unfold targetSteps
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover3_11 _)).trans ?_
    rfl
  isplitl [H12]
  · iexists _; isplitr
    swap; · iexact H12
    ipureintro
    refine (View.read_writes_eq_canon _ _ _ (cover3_12 _)).trans ?_
    rfl
  isplitl [H13]
  · iexists _; isplitr
    swap; · iexact H13
    ipureintro
    refine (View.read_writes_eq_canon _ _ _ (cover3_13 _)).trans ?_
    rfl
  iexists _; isplitr
  swap; · iexact H14
  ipureintro
  refine (View.read_writes_eq_canon _ _ _ (cover3_14 _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨13, _⟩ => out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_13 (c : Dev nD) (t : Fin cfg3.N) : (dat3 V c).after 13 t = out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel3 c Set.univ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Work

end
-- ==== Proof.IdealRun.lean ====
/- The whole run of the kernel: the arrays at every boundary, the arguments unchanged, the result. -/
module

public import proofs.«01_k».proof.Proof.IdealCalls

@[expose] public section

set_option synthInstance.maxSize 4096
set_option maxRecDepth 16384

noncomputable section

namespace Cert.KernelIdeal.Work

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Sorting

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

theorem hostOps0_fresh : (hostOps0 : List (HloOp τ sig (Elt F))).Forall fun op => op.fresh = ∅ := by
  simp only [List.Forall]; repeat' constructor
abbrev hostOps0_W : List (Ref sig .tc) := [main_v0, main_v1, main_cst, main_v2, main_v3, main_v4, main_v5, main_v6]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v8, main_cst_0, main_v9, main_v10, main_v11, main_v12, main_v13]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v15, main_cst_1, main_v16, main_v17, main_v18, main_v19, main_v20, main_v21]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v23, main_cst_2, main_v24, main_v25, main_v26, main_v27, main_v28, main_v29, main_v30, main_v31, main_v32, main_v33, main_v34, main_v35, main_v36, main_v37, main_v38, main_v39]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v41, main_v42, main_v43, main_v44, main_v45, main_v46, main_v47, main_v48, main_v49, main_v50, main_v51, main_v52, main_v53]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
abbrev V7 : (c : Dev nD) → (b : Ref sig .tc) → Buf (Elt F) ((c : Thread nD τ).loc b) := fun c b => W7 m ρ c b
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps4 (W8 m ρ c)
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)

theorem W9_main_arg0 (c : Dev nD) : W9 m ρ c (Proc.devRef .tc main_arg0) = m ((c : Thread nD τ).loc main_arg0) :=
  W9_args m ρ c main_arg0 (by decide)
theorem W9_main_arg1 (c : Dev nD) : W9 m ρ c (Proc.devRef .tc main_arg1) = m ((c : Thread nD τ).loc main_arg1) :=
  W9_args m ρ c main_arg1 (by decide)
theorem W9_main_arg2 (c : Dev nD) : W9 m ρ c (Proc.devRef .tc main_arg2) = m ((c : Thread nD τ).loc main_arg2) :=
  W9_args m ρ c main_arg2 (by decide)
theorem W9_main_arg3 (c : Dev nD) : W9 m ρ c (Proc.devRef .tc main_arg3) = m ((c : Thread nD τ).loc main_arg3) :=
  W9_args m ρ c main_arg3 (by decide)
theorem W9_main_arg4 (c : Dev nD) : W9 m ρ c (Proc.devRef .tc main_arg4) = m ((c : Thread nD τ).loc main_arg4) :=
  W9_args m ρ c main_arg4 (by decide)
theorem W9_main_arg5 (c : Dev nD) : W9 m ρ c (Proc.devRef .tc main_arg5) = m ((c : Thread nD τ).loc main_arg5) :=
  W9_args m ρ c main_arg5 (by decide)
theorem W9_main_arg6 (c : Dev nD) : W9 m ρ c (Proc.devRef .tc main_arg6) = m ((c : Thread nD τ).loc main_arg6) :=
  W9_args m ρ c main_arg6 (by decide)
theorem W9_main_arg7 (c : Dev nD) : W9 m ρ c (Proc.devRef .tc main_arg7) = m ((c : Thread nD τ).loc main_arg7) :=
  W9_args m ρ c main_arg7 (by decide)
theorem W9_main_arg8 (c : Dev nD) : W9 m ρ c (Proc.devRef .tc main_arg8) = m ((c : Thread nD τ).loc main_arg8) :=
  W9_args m ρ c main_arg8 (by decide)
theorem W9_main_arg9 (c : Dev nD) : W9 m ρ c (Proc.devRef .tc main_arg9) = m ((c : Thread nD τ).loc main_arg9) :=
  W9_args m ρ c main_arg9 (by decide)
theorem W9_main_arg10 (c : Dev nD) : W9 m ρ c (Proc.devRef .tc main_arg10) = m ((c : Thread nD τ).loc main_arg10) :=
  W9_args m ρ c main_arg10 (by decide)
theorem W9_main_arg11 (c : Dev nD) : W9 m ρ c (Proc.devRef .tc main_arg11) = m ((c : Thread nD τ).loc main_arg11) :=
  W9_args m ρ c main_arg11 (by decide)
theorem W9_main_arg12 (c : Dev nD) : W9 m ρ c (Proc.devRef .tc main_arg12) = m ((c : Thread nD τ).loc main_arg12) :=
  W9_args m ρ c main_arg12 (by decide)
theorem W9_main_arg13 (c : Dev nD) : W9 m ρ c (Proc.devRef .tc main_arg13) = m ((c : Thread nD τ).loc main_arg13) :=
  W9_args m ρ c main_arg13 (by decide)
theorem W9_main_arg14 (c : Dev nD) : W9 m ρ c (Proc.devRef .tc main_arg14) = m ((c : Thread nD τ).loc main_arg14) :=
  W9_args m ρ c main_arg14 (by decide)
theorem W9_main_arg15 (c : Dev nD) : W9 m ρ c (Proc.devRef .tc main_arg15) = m ((c : Thread nD τ).loc main_arg15) :=
  W9_args m ρ c main_arg15 (by decide)
theorem W9_main_arg16 (c : Dev nD) : W9 m ρ c (Proc.devRef .tc main_arg16) = m ((c : Thread nD τ).loc main_arg16) :=
  W9_args m ρ c main_arg16 (by decide)
theorem W9_main_arg17 (c : Dev nD) : W9 m ρ c (Proc.devRef .tc main_arg17) = m ((c : Thread nD τ).loc main_arg17) :=
  W9_args m ρ c main_arg17 (by decide)
theorem W9_main_arg18 (c : Dev nD) : W9 m ρ c (Proc.devRef .tc main_arg18) = m ((c : Thread nD τ).loc main_arg18) :=
  W9_args m ρ c main_arg18 (by decide)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The whole run: the result's last value and the arguments unchanged. -/
theorem whole_run : θ_run defs (onTc (τ := τ) (main (F := F))) ⟨m, fun _ => 0, ρ⟩ (fun r => (∀ c : Dev nD,
      r.2.mem ((c.tc : Thread nD τ).loc main_v53) = W9 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨h c _ (mem_uc main_v53 (by decide)), (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c)⟩), funext fun g => hz g (.inr (no_unscoped g.2))⟩)

/-- The arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  (θ_run defs _ _).mono (fun _ h => ⟨fun c => (h.1 c).2, h.2⟩) (whole_run m ρ)

end Cert.KernelIdeal.Work

end
-- ==== Proof.IdealArrays.lean ====
/- The arrays the calls after the products read and leave: each call runs once, on whole arrays. -/
module

public import proofs.«01_k».proof.Proof.IdealRun
public import Idealize.ShloMosaic.Lib.Pipeline.Value

@[expose] public section

set_option maxRecDepth 16384

noncomputable section

namespace Cert.KernelIdeal.Work

open Idealize.ShloMosaic Idealize.ShloMosaic.TcCoe Idealize.SL.Sem
open Idealize.ShloMosaic.Pipeline (Dat)
open Cert.KernelIdeal.Gen Cert.Sorting

variable {F : FTy → Type} [FloatOps F] [Named F]
variable (V : (c : Dev nD) → (b : Ref sig .tc) → Buf (Elt F) ((c : Thread nD τ).loc b))

theorem hz : (![0, 0] : Fin 2 → Nat) = fun _ => 0 := funext fun a => by fin_cases a <;> rfl

/-- A block that starts at zero and has the array's size holds every index of the array. -/
theorem mem_whole (r : Ref sig .tc) {off : Fin r.ty.shape.rank → Nat} (h : off = fun _ => 0)
    (inb : ∀ a, off a + r.ty.shape.size a ≤ r.ty.shape.size a) (i : r.ty.shape.Idx) :
    i ∈ ((View.whole r).slice (Rect.unit off r.ty.shape.size inb)).set := by
  subst h
  rw [View.set_slice_whole, Rect.mem_set_unit]
  exact fun a => ⟨Nat.zero_le _, by rw [Nat.zero_add]; exact (i a).isLt⟩

/-! ## The blocks read are the arrays -/

theorem blk1_0 (c : Dev nD) (t : Fin cfg1.N) : iblk1 V c 0 t = V c main_v7_0 :=
  Memref.read_access_unit_zero (Elt F) main_v7_0 (funext fun a => Nat.zero_mul _) (fun a => by simp) (V c main_v7_0)
theorem blk1_1 (c : Dev nD) (t : Fin cfg1.N) : iblk1 V c 1 t = V c main_v4 :=
  Memref.read_access_unit_zero (Elt F) main_v4 (funext fun a => Nat.zero_mul _) (fun a => by simp) (V c main_v4)
theorem blk1_2 (c : Dev nD) (t : Fin cfg1.N) : iblk1 V c 2 t = V c main_v10 :=
  Memref.read_access_unit_zero (Elt F) main_v10 (funext fun a => Nat.zero_mul _) (fun a => by simp) (V c main_v10)
theorem blk1_3 (c : Dev nD) (t : Fin cfg1.N) : iblk1 V c 3 t = V c main_v11 :=
  Memref.read_access_unit_zero (Elt F) main_v11 (funext fun a => Nat.zero_mul _) (fun a => by simp) (V c main_v11)
theorem blk1_4 (c : Dev nD) (t : Fin cfg1.N) : iblk1 V c 4 t = V c main_arg3 :=
  Memref.read_access_unit_zero (Elt F) main_arg3 (funext fun a => Nat.zero_mul _) (fun a => by simp) (V c main_arg3)
theorem blk1_5 (c : Dev nD) (t : Fin cfg1.N) : iblk1 V c 5 t = V c main_v12 :=
  Memref.read_access_unit_zero (Elt F) main_v12 (funext fun a => Nat.zero_mul _) (fun a => by simp) (V c main_v12)
theorem blk1_6 (c : Dev nD) (t : Fin cfg1.N) : iblk1 V c 6 t = V c main_arg5 :=
  Memref.read_access_unit_zero (Elt F) main_arg5 (funext fun a => Nat.zero_mul _) (fun a => by simp) (V c main_arg5)
theorem blk1_7 (c : Dev nD) (t : Fin cfg1.N) : iblk1 V c 7 t = V c main_v13 :=
  Memref.read_access_unit_zero (Elt F) main_v13 (funext fun a => Nat.zero_mul _) (fun a => by simp) (V c main_v13)
theorem blk2_0 (c : Dev nD) (t : Fin cfg2.N) : iblk2 V c 0 t = V c main_v7_1 :=
  Memref.read_access_unit_zero (Elt F) main_v7_1 (funext fun a => Nat.zero_mul _) (fun a => by simp) (V c main_v7_1)
theorem blk2_1 (c : Dev nD) (t : Fin cfg2.N) : iblk2 V c 1 t = V c main_v4 :=
  Memref.read_access_unit_zero (Elt F) main_v4 (funext fun a => Nat.zero_mul _) (fun a => by simp) (V c main_v4)
theorem blk2_2 (c : Dev nD) (t : Fin cfg2.N) : iblk2 V c 2 t = V c main_v18 :=
  Memref.read_access_unit_zero (Elt F) main_v18 (funext fun a => Nat.zero_mul _) (fun a => by simp) (V c main_v18)
theorem blk2_3 (c : Dev nD) (t : Fin cfg2.N) : iblk2 V c 3 t = V c main_v19 :=
  Memref.read_access_unit_zero (Elt F) main_v19 (funext fun a => Nat.zero_mul _) (fun a => by simp) (V c main_v19)
theorem blk2_4 (c : Dev nD) (t : Fin cfg2.N) : iblk2 V c 4 t = V c main_arg9 :=
  Memref.read_access_unit_zero (Elt F) main_arg9 (funext fun a => Nat.zero_mul _) (fun a => by simp) (V c main_arg9)
theorem blk2_5 (c : Dev nD) (t : Fin cfg2.N) : iblk2 V c 5 t = V c main_v20 :=
  Memref.read_access_unit_zero (Elt F) main_v20 (funext fun a => Nat.zero_mul _) (fun a => by simp) (V c main_v20)
theorem blk2_6 (c : Dev nD) (t : Fin cfg2.N) : iblk2 V c 6 t = V c main_arg11 :=
  Memref.read_access_unit_zero (Elt F) main_arg11 (funext fun a => Nat.zero_mul _) (fun a => by simp) (V c main_arg11)
theorem blk2_7 (c : Dev nD) (t : Fin cfg2.N) : iblk2 V c 7 t = V c main_v21 :=
  Memref.read_access_unit_zero (Elt F) main_v21 (funext fun a => Nat.zero_mul _) (fun a => by simp) (V c main_v21)
theorem blk2_8 (c : Dev nD) (t : Fin cfg2.N) : iblk2 V c 8 t = V c main_v14_0 :=
  Memref.read_access_unit_zero (Elt F) main_v14_0 (funext fun a => Nat.zero_mul _) (fun a => by simp) (V c main_v14_0)
theorem blk2_9 (c : Dev nD) (t : Fin cfg2.N) : iblk2 V c 9 t = V c main_v14_1 :=
  Memref.read_access_unit_zero (Elt F) main_v14_1 (funext fun a => Nat.zero_mul _) (fun a => by simp) (V c main_v14_1)
theorem blk3_0 (c : Dev nD) (t : Fin cfg3.N) : iblk3 V c 0 t = V c main_v7_2 :=
  Memref.read_access_unit_zero (Elt F) main_v7_2 (funext fun a => Nat.zero_mul _) (fun a => by simp) (V c main_v7_2)
theorem blk3_1 (c : Dev nD) (t : Fin cfg3.N) : iblk3 V c 1 t = V c main_v4 :=
  Memref.read_access_unit_zero (Elt F) main_v4 (funext fun a => Nat.zero_mul _) (fun a => by simp) (V c main_v4)
theorem blk3_2 (c : Dev nD) (t : Fin cfg3.N) : iblk3 V c 2 t = V c main_v27 :=
  Memref.read_access_unit_zero (Elt F) main_v27 (funext fun a => Nat.zero_mul _) (fun a => by simp) (V c main_v27)
theorem blk3_3 (c : Dev nD) (t : Fin cfg3.N) : iblk3 V c 3 t = V c main_v28 :=
  Memref.read_access_unit_zero (Elt F) main_v28 (funext fun a => Nat.zero_mul _) (fun a => by simp) (V c main_v28)
theorem blk3_4 (c : Dev nD) (t : Fin cfg3.N) : iblk3 V c 4 t = V c main_arg15 :=
  Memref.read_access_unit_zero (Elt F) main_arg15 (funext fun a => Nat.zero_mul _) (fun a => by simp) (V c main_arg15)
theorem blk3_5 (c : Dev nD) (t : Fin cfg3.N) : iblk3 V c 5 t = V c main_v29 :=
  Memref.read_access_unit_zero (Elt F) main_v29 (funext fun a => Nat.zero_mul _) (fun a => by simp) (V c main_v29)
theorem blk3_6 (c : Dev nD) (t : Fin cfg3.N) : iblk3 V c 6 t = V c main_arg17 :=
  Memref.read_access_unit_zero (Elt F) main_arg17 (funext fun a => Nat.zero_mul _) (fun a => by simp) (V c main_arg17)
theorem blk3_7 (c : Dev nD) (t : Fin cfg3.N) : iblk3 V c 7 t = V c main_v30 :=
  Memref.read_access_unit_zero (Elt F) main_v30 (funext fun a => Nat.zero_mul _) (fun a => by simp) (V c main_v30)
theorem blk3_8 (c : Dev nD) (t : Fin cfg3.N) : iblk3 V c 8 t = V c main_v33 :=
  Memref.read_access_unit_zero (Elt F) main_v33 (funext fun a => Nat.zero_mul _) (fun a => by simp) (V c main_v33)
theorem blk3_9 (c : Dev nD) (t : Fin cfg3.N) : iblk3 V c 9 t = V c main_v36 :=
  Memref.read_access_unit_zero (Elt F) main_v36 (funext fun a => Nat.zero_mul _) (fun a => by simp) (V c main_v36)
theorem blk3_10 (c : Dev nD) (t : Fin cfg3.N) : iblk3 V c 10 t = V c main_v39 :=
  Memref.read_access_unit_zero (Elt F) main_v39 (funext fun a => Nat.zero_mul _) (fun a => by simp) (V c main_v39)

/-! ## The arrays left are the results -/

theorem arr1_8 (c : Dev nD) : (dat1 V c).arrAt 8 cfg1.N = (startOut alpha (V c main_v7_0) (V c main_v4) (V c main_v10) (V c main_v11) (V c main_arg3) (V c main_v12) (V c main_arg5) (V c main_v13)).1 := by
  refine (dat1 V c).arrAt_eq_of_cover 8 (startOut alpha (V c main_v7_0) (V c main_v4) (V c main_v10) (V c main_v11) (V c main_arg3) (V c main_v12) (V c main_arg5) (V c main_v13)).1 (fun t _ => ?_) fun i =>
    ⟨t1_0, flush1_8 t1_0, mem_whole main_v14_0 (funext fun a => Nat.zero_mul _) (fun a => by simp) i⟩
  refine Eq.trans ?_ (Memref.read_access_unit_zero (Elt F) main_v14_0 (funext fun a => Nat.zero_mul _) (fun a => by simp) (startOut alpha (V c main_v7_0) (V c main_v4) (V c main_v10) (V c main_v11) (V c main_arg3) (V c main_v12) (V c main_arg5) (V c main_v13)).1).symm
  show (dat1 V c).after 8 t = _
  rw [after1_8, blk1_0, blk1_1, blk1_2, blk1_3, blk1_4, blk1_5, blk1_6, blk1_7]
  unfold out1_8
  rw [View.canon_unit_zero hz]
  simp only [View.ld_unit_zero (S := S1x256) hz, View.ld_unit_zero (S := S1x640) hz, View.ld_unit_zero (S := S640x256) hz, View.ld_unit_zero (S := S256x256) hz, View.ld_unit_zero (S := S256x512) hz, View.ld_unit_zero (S := S1x512) hz]

theorem arr1_9 (c : Dev nD) : (dat1 V c).arrAt 9 cfg1.N = (startOut alpha (V c main_v7_0) (V c main_v4) (V c main_v10) (V c main_v11) (V c main_arg3) (V c main_v12) (V c main_arg5) (V c main_v13)).2 := by
  refine (dat1 V c).arrAt_eq_of_cover 9 (startOut alpha (V c main_v7_0) (V c main_v4) (V c main_v10) (V c main_v11) (V c main_arg3) (V c main_v12) (V c main_arg5) (V c main_v13)).2 (fun t _ => ?_) fun i =>
    ⟨t1_0, flush1_9 t1_0, mem_whole main_v14_1 (funext fun a => Nat.zero_mul _) (fun a => by simp) i⟩
  refine Eq.trans ?_ (Memref.read_access_unit_zero (Elt F) main_v14_1 (funext fun a => Nat.zero_mul _) (fun a => by simp) (startOut alpha (V c main_v7_0) (V c main_v4) (V c main_v10) (V c main_v11) (V c main_arg3) (V c main_v12) (V c main_arg5) (V c main_v13)).2).symm
  show (dat1 V c).after 9 t = _
  rw [after1_9, blk1_0, blk1_1, blk1_2, blk1_3, blk1_4, blk1_5, blk1_6, blk1_7]
  unfold out1_9
  rw [View.canon_unit_zero hz]
  simp only [View.ld_unit_zero (S := S1x256) hz, View.ld_unit_zero (S := S1x640) hz, View.ld_unit_zero (S := S640x256) hz, View.ld_unit_zero (S := S256x256) hz, View.ld_unit_zero (S := S256x512) hz, View.ld_unit_zero (S := S1x512) hz]

theorem arr2_10 (c : Dev nD) : (dat2 V c).arrAt 10 cfg2.N = (sourceOut alpha (V c main_v14_1) (V c main_v14_0) (V c main_v7_1) (V c main_v4) (V c main_v18) (V c main_v19) (V c main_arg9) (V c main_v20) (V c main_arg11) (V c main_v21) (V c main_v14_1)).1 := by
  refine (dat2 V c).arrAt_eq_of_cover 10 (sourceOut alpha (V c main_v14_1) (V c main_v14_0) (V c main_v7_1) (V c main_v4) (V c main_v18) (V c main_v19) (V c main_arg9) (V c main_v20) (V c main_arg11) (V c main_v21) (V c main_v14_1)).1 (fun t _ => ?_) fun i =>
    ⟨t2_0, flush2_10 t2_0, mem_whole main_v22_0 (funext fun a => Nat.zero_mul _) (fun a => by simp) i⟩
  refine Eq.trans ?_ (Memref.read_access_unit_zero (Elt F) main_v22_0 (funext fun a => Nat.zero_mul _) (fun a => by simp) (sourceOut alpha (V c main_v14_1) (V c main_v14_0) (V c main_v7_1) (V c main_v4) (V c main_v18) (V c main_v19) (V c main_arg9) (V c main_v20) (V c main_arg11) (V c main_v21) (V c main_v14_1)).1).symm
  show (dat2 V c).after 10 t = _
  rw [after2_10, blk2_0, blk2_1, blk2_2, blk2_3, blk2_4, blk2_5, blk2_6, blk2_7, blk2_8, blk2_9]
  unfold out2_10
  rw [View.canon_unit_zero hz]
  simp only [View.ld_unit_zero (S := S1x256) hz, View.ld_unit_zero (S := S1x640) hz, View.ld_unit_zero (S := S1152x256) hz, View.ld_unit_zero (S := S256x256) hz, View.ld_unit_zero (S := S256x512) hz, View.ld_unit_zero (S := S1x512) hz]

theorem arr2_11 (c : Dev nD) : (dat2 V c).arrAt 11 cfg2.N = (sourceOut alpha (V c main_v14_1) (V c main_v14_0) (V c main_v7_1) (V c main_v4) (V c main_v18) (V c main_v19) (V c main_arg9) (V c main_v20) (V c main_arg11) (V c main_v21) (V c main_v14_1)).2.1 := by
  refine (dat2 V c).arrAt_eq_of_cover 11 (sourceOut alpha (V c main_v14_1) (V c main_v14_0) (V c main_v7_1) (V c main_v4) (V c main_v18) (V c main_v19) (V c main_arg9) (V c main_v20) (V c main_arg11) (V c main_v21) (V c main_v14_1)).2.1 (fun t _ => ?_) fun i =>
    ⟨t2_0, flush2_11 t2_0, mem_whole main_v22_1 (funext fun a => Nat.zero_mul _) (fun a => by simp) i⟩
  refine Eq.trans ?_ (Memref.read_access_unit_zero (Elt F) main_v22_1 (funext fun a => Nat.zero_mul _) (fun a => by simp) (sourceOut alpha (V c main_v14_1) (V c main_v14_0) (V c main_v7_1) (V c main_v4) (V c main_v18) (V c main_v19) (V c main_arg9) (V c main_v20) (V c main_arg11) (V c main_v21) (V c main_v14_1)).2.1).symm
  show (dat2 V c).after 11 t = _
  rw [after2_11, blk2_0, blk2_1, blk2_2, blk2_3, blk2_4, blk2_5, blk2_6, blk2_7, blk2_8, blk2_9]
  unfold out2_11
  rw [View.canon_unit_zero hz]
  simp only [View.ld_unit_zero (S := S1x256) hz, View.ld_unit_zero (S := S1x640) hz, View.ld_unit_zero (S := S1152x256) hz, View.ld_unit_zero (S := S256x256) hz, View.ld_unit_zero (S := S256x512) hz, View.ld_unit_zero (S := S1x512) hz]

theorem arr2_12 (c : Dev nD) : (dat2 V c).arrAt 12 cfg2.N = (sourceOut alpha (V c main_v14_1) (V c main_v14_0) (V c main_v7_1) (V c main_v4) (V c main_v18) (V c main_v19) (V c main_arg9) (V c main_v20) (V c main_arg11) (V c main_v21) (V c main_v14_1)).2.2 := by
  refine (dat2 V c).arrAt_eq_of_cover 12 (sourceOut alpha (V c main_v14_1) (V c main_v14_0) (V c main_v7_1) (V c main_v4) (V c main_v18) (V c main_v19) (V c main_arg9) (V c main_v20) (V c main_arg11) (V c main_v21) (V c main_v14_1)).2.2 (fun t _ => ?_) fun i =>
    ⟨t2_0, flush2_12 t2_0, mem_whole main_v22_2 (funext fun a => Nat.zero_mul _) (fun a => by simp) i⟩
  refine Eq.trans ?_ (Memref.read_access_unit_zero (Elt F) main_v22_2 (funext fun a => Nat.zero_mul _) (fun a => by simp) (sourceOut alpha (V c main_v14_1) (V c main_v14_0) (V c main_v7_1) (V c main_v4) (V c main_v18) (V c main_v19) (V c main_arg9) (V c main_v20) (V c main_arg11) (V c main_v21) (V c main_v14_1)).2.2).symm
  show (dat2 V c).after 12 t = _
  rw [after2_12, blk2_0, blk2_1, blk2_2, blk2_3, blk2_4, blk2_5, blk2_6, blk2_7, blk2_8, blk2_9]
  unfold out2_12
  rw [View.canon_unit_zero hz]
  simp only [View.ld_unit_zero (S := S1x256) hz, View.ld_unit_zero (S := S1x640) hz, View.ld_unit_zero (S := S1152x256) hz, View.ld_unit_zero (S := S256x256) hz, View.ld_unit_zero (S := S256x512) hz, View.ld_unit_zero (S := S1x512) hz]

theorem arr3_11 (c : Dev nD) : (dat3 V c).arrAt 11 cfg3.N = (targetOut alpha (V c main_v33) (V c main_v36) (V c main_v39) (V c main_v7_2) (V c main_v4) (V c main_v27) (V c main_v28) (V c main_arg15) (V c main_v29) (V c main_arg17) (V c main_v30) (V c main_v36) (V c main_v39)).1 := by
  refine (dat3 V c).arrAt_eq_of_cover 11 (targetOut alpha (V c main_v33) (V c main_v36) (V c main_v39) (V c main_v7_2) (V c main_v4) (V c main_v27) (V c main_v28) (V c main_arg15) (V c main_v29) (V c main_arg17) (V c main_v30) (V c main_v36) (V c main_v39)).1 (fun t _ => ?_) fun i =>
    ⟨t3_0, flush3_11 t3_0, mem_whole main_v40_0 (funext fun a => Nat.zero_mul _) (fun a => by simp) i⟩
  refine Eq.trans ?_ (Memref.read_access_unit_zero (Elt F) main_v40_0 (funext fun a => Nat.zero_mul _) (fun a => by simp) (targetOut alpha (V c main_v33) (V c main_v36) (V c main_v39) (V c main_v7_2) (V c main_v4) (V c main_v27) (V c main_v28) (V c main_arg15) (V c main_v29) (V c main_arg17) (V c main_v30) (V c main_v36) (V c main_v39)).1).symm
  show (dat3 V c).after 11 t = _
  rw [after3_11, blk3_0, blk3_1, blk3_2, blk3_3, blk3_4, blk3_5, blk3_6, blk3_7, blk3_8, blk3_9, blk3_10]
  unfold out3_11
  rw [View.canon_unit_zero hz]
  simp only [View.ld_unit_zero (S := S1x256) hz, View.ld_unit_zero (S := S1x640) hz, View.ld_unit_zero (S := S1664x256) hz, View.ld_unit_zero (S := S256x256) hz, View.ld_unit_zero (S := S256x512) hz, View.ld_unit_zero (S := S1x512) hz]

theorem arr3_12 (c : Dev nD) : (dat3 V c).arrAt 12 cfg3.N = (targetOut alpha (V c main_v33) (V c main_v36) (V c main_v39) (V c main_v7_2) (V c main_v4) (V c main_v27) (V c main_v28) (V c main_arg15) (V c main_v29) (V c main_arg17) (V c main_v30) (V c main_v36) (V c main_v39)).2.1 := by
  refine (dat3 V c).arrAt_eq_of_cover 12 (targetOut alpha (V c main_v33) (V c main_v36) (V c main_v39) (V c main_v7_2) (V c main_v4) (V c main_v27) (V c main_v28) (V c main_arg15) (V c main_v29) (V c main_arg17) (V c main_v30) (V c main_v36) (V c main_v39)).2.1 (fun t _ => ?_) fun i =>
    ⟨t3_0, flush3_12 t3_0, mem_whole main_v40_1 (funext fun a => Nat.zero_mul _) (fun a => by simp) i⟩
  refine Eq.trans ?_ (Memref.read_access_unit_zero (Elt F) main_v40_1 (funext fun a => Nat.zero_mul _) (fun a => by simp) (targetOut alpha (V c main_v33) (V c main_v36) (V c main_v39) (V c main_v7_2) (V c main_v4) (V c main_v27) (V c main_v28) (V c main_arg15) (V c main_v29) (V c main_arg17) (V c main_v30) (V c main_v36) (V c main_v39)).2.1).symm
  show (dat3 V c).after 12 t = _
  rw [after3_12, blk3_0, blk3_1, blk3_2, blk3_3, blk3_4, blk3_5, blk3_6, blk3_7, blk3_8, blk3_9, blk3_10]
  unfold out3_12
  rw [View.canon_unit_zero hz]
  simp only [View.ld_unit_zero (S := S1x256) hz, View.ld_unit_zero (S := S1x640) hz, View.ld_unit_zero (S := S1664x256) hz, View.ld_unit_zero (S := S256x256) hz, View.ld_unit_zero (S := S256x512) hz, View.ld_unit_zero (S := S1x512) hz]

theorem arr3_13 (c : Dev nD) : (dat3 V c).arrAt 13 cfg3.N = (targetOut alpha (V c main_v33) (V c main_v36) (V c main_v39) (V c main_v7_2) (V c main_v4) (V c main_v27) (V c main_v28) (V c main_arg15) (V c main_v29) (V c main_arg17) (V c main_v30) (V c main_v36) (V c main_v39)).2.2.1 := by
  refine (dat3 V c).arrAt_eq_of_cover 13 (targetOut alpha (V c main_v33) (V c main_v36) (V c main_v39) (V c main_v7_2) (V c main_v4) (V c main_v27) (V c main_v28) (V c main_arg15) (V c main_v29) (V c main_arg17) (V c main_v30) (V c main_v36) (V c main_v39)).2.2.1 (fun t _ => ?_) fun i =>
    ⟨t3_0, flush3_13 t3_0, mem_whole main_v40_2 (funext fun a => Nat.zero_mul _) (fun a => by simp) i⟩
  refine Eq.trans ?_ (Memref.read_access_unit_zero (Elt F) main_v40_2 (funext fun a => Nat.zero_mul _) (fun a => by simp) (targetOut alpha (V c main_v33) (V c main_v36) (V c main_v39) (V c main_v7_2) (V c main_v4) (V c main_v27) (V c main_v28) (V c main_arg15) (V c main_v29) (V c main_arg17) (V c main_v30) (V c main_v36) (V c main_v39)).2.2.1).symm
  show (dat3 V c).after 13 t = _
  rw [after3_13, blk3_0, blk3_1, blk3_2, blk3_3, blk3_4, blk3_5, blk3_6, blk3_7, blk3_8, blk3_9, blk3_10]
  unfold out3_13
  rw [View.canon_unit_zero hz]
  simp only [View.ld_unit_zero (S := S1x256) hz, View.ld_unit_zero (S := S1x640) hz, View.ld_unit_zero (S := S1664x256) hz, View.ld_unit_zero (S := S256x256) hz, View.ld_unit_zero (S := S256x512) hz, View.ld_unit_zero (S := S1x512) hz]

theorem arr3_14 (c : Dev nD) : (dat3 V c).arrAt 14 cfg3.N = (targetOut alpha (V c main_v33) (V c main_v36) (V c main_v39) (V c main_v7_2) (V c main_v4) (V c main_v27) (V c main_v28) (V c main_arg15) (V c main_v29) (V c main_arg17) (V c main_v30) (V c main_v36) (V c main_v39)).2.2.2 := by
  refine (dat3 V c).arrAt_eq_of_cover 14 (targetOut alpha (V c main_v33) (V c main_v36) (V c main_v39) (V c main_v7_2) (V c main_v4) (V c main_v27) (V c main_v28) (V c main_arg15) (V c main_v29) (V c main_arg17) (V c main_v30) (V c main_v36) (V c main_v39)).2.2.2 (fun t _ => ?_) fun i =>
    ⟨t3_0, flush3_14 t3_0, mem_whole main_v40_3 (funext fun a => Nat.zero_mul _) (fun a => by simp) i⟩
  refine Eq.trans ?_ (Memref.read_access_unit_zero (Elt F) main_v40_3 (funext fun a => Nat.zero_mul _) (fun a => by simp) (targetOut alpha (V c main_v33) (V c main_v36) (V c main_v39) (V c main_v7_2) (V c main_v4) (V c main_v27) (V c main_v28) (V c main_arg15) (V c main_v29) (V c main_arg17) (V c main_v30) (V c main_v36) (V c main_v39)).2.2.2).symm
  show (dat3 V c).after 14 t = _
  rw [after3_14, blk3_0, blk3_1, blk3_2, blk3_3, blk3_4, blk3_5, blk3_6, blk3_7, blk3_8, blk3_9, blk3_10]
  unfold out3_14
  rw [View.canon_unit_zero hz]
  simp only [View.ld_unit_zero (S := S1x256) hz, View.ld_unit_zero (S := S1x640) hz, View.ld_unit_zero (S := S1664x256) hz, View.ld_unit_zero (S := S256x256) hz, View.ld_unit_zero (S := S256x512) hz, View.ld_unit_zero (S := S1x512) hz]

end Cert.KernelIdeal.Work
-- ==== Proof.IdealProducts.lean ====
/-
  The three first-layer products: each of the first call's three accumulators ends at the sum, over the first 40960
  rows, of input times weight.
-/
module

public import proofs.«01_k».proof.Proof.IdealArrays
public import Idealize.ShloMosaic.Lib.MatmulPlain
public import Idealize.ShloMosaic.Lib.Tactic
public import Idealize.ShloMosaic.Lib.ValueIdx

@[expose] public section

noncomputable section

open Idealize.ShloMosaic Idealize.ShloMosaic.TcCoe Idealize.SL.Sem
open Idealize.ShloMosaic.Pipeline (Dat)
open Idealize.ShloMosaic.ValueIdx
open scoped BigOperators

namespace Cert.KernelIdeal.Work

open Cert.KernelIdeal Cert.KernelIdeal.Gen

section steps
variable {F : FTy → Type} [FloatOps F] [Named F]

/-- The zero row an accumulator starts from. -/
abbrev zeroRow : Vec F S1x256 .f32 := broadcast S1x256 (Scalar.ofBits .f32 0x00000000#32)

/-- One point's update of an accumulator: the row block times the weight block is added to it. -/
abbrev addBlock (x : Vec F S1x8192 .f32) (w : Vec F S8192x256 .f32) (acc : Vec F S1x256 .f32) : Vec F S1x256 .f32 :=
  addf acc (matmul dot_S1x8192_S8192x256_S1x256_1_0_0_1_n_n none x w (constant S1x256 .f32 0x00000000#32))

variable (c : Dev nD) (i : grid0.Coords) (a1 : Memref sig .tc .vmem S1x8192 .f32) (h1 : a1.IsWhole)
  (a2 : Memref sig .tc .vmem S8192x256 .f32) (h2 : a2.IsWhole) (a3 : Memref sig .tc .vmem S8192x256 .f32) (h3 : a3.IsWhole)
  (a4 : Memref sig .tc .vmem S8192x256 .f32) (h4 : a4.IsWhole) (a5 : Memref sig .tc .vmem S1x256 .f32) (h5 : a5.IsWhole)
  (a6 : Memref sig .tc .vmem S1x256 .f32) (h6 : a6.IsWhole) (a7 : Memref sig .tc .vmem S1x256 .f32) (h7 : a7.IsWhole)
  (x : Vec F S1x8192 .f32) (w1 w2 w3 : Vec F S8192x256 .f32) (y1 y2 y3 : Vec F S1x256 .f32)

/-- At a later point accumulator 0 gains its block's product. -/
theorem later0 (hc : ¬cond0_0 i) :
    out0_B_4 c i a1 h1 a2 h2 a3 h3 a4 h4 a5 h5 a6 h6 a7 h7 hc x w1 w2 w3 y1 y2 y3 = addBlock x w1 y1 := by
  unfold out0_B_4
  rw [View.read_writes_eq_canon _ _ _ (cover0_B_4 c i a1 h1 a2 h2 a3 h3 a4 h4 a5 h5 a6 h6 a7 h7 hc x w1 w2 w3 y1 y2 y3)]
  unfold kernelRun0_B
  dsimp only
  sl_unfold_words
  rw [View.canon_unit_zero hz]
  unfold products5 products4
  simp only [View.readAt_eq_ld, h1.read_unread, h2.read_unread, h5.read_unread, View.ld_unit_zero (S := S1x256) hz,
    View.ld_unit_zero (S := S1x8192) hz, View.ld_unit_zero (S := S8192x256) hz, shapeCast_self]

/-- At the first point accumulator 0 is its block's product over zero. -/
theorem first0 (hc : cond0_0 i) :
    out0_A_4 c i a1 h1 a2 h2 a3 h3 a4 h4 a5 h5 a6 h6 a7 h7 hc x w1 w2 w3 = addBlock x w1 zeroRow := by
  unfold out0_A_4
  rw [View.read_writes_eq_canon _ _ _ (cover0_A_4 c i a1 h1 a2 h2 a3 h3 a4 h4 a5 h5 a6 h6 a7 h7 hc x w1 w2 w3)]
  unfold kernelRun0_A
  dsimp only
  sl_unfold_words
  rw [View.canon_cons_unit_zero (S := S1x256) hz, View.readCov_unit_zero (S := S1x256) _ hz]
  unfold products5 products4 products1
  simp only [View.readAt_eq_ld, h1.read_unread, h2.read_unread, h5.read_unread, View.ld_unit_zero (S := S1x256) hz,
    View.ld_unit_zero (S := S1x8192) hz, View.ld_unit_zero (S := S8192x256) hz, shapeCast_self]

/-- At a later point accumulator 1 gains its block's product. -/
theorem later1 (hc : ¬cond0_0 i) :
    out0_B_5 c i a1 h1 a2 h2 a3 h3 a4 h4 a5 h5 a6 h6 a7 h7 hc x w1 w2 w3 y1 y2 y3 = addBlock x w2 y2 := by
  unfold out0_B_5
  rw [View.read_writes_eq_canon _ _ _ (cover0_B_5 c i a1 h1 a2 h2 a3 h3 a4 h4 a5 h5 a6 h6 a7 h7 hc x w1 w2 w3 y1 y2 y3)]
  unfold kernelRun0_B
  dsimp only
  sl_unfold_words
  rw [View.canon_unit_zero hz]
  unfold products6 products4
  simp only [View.readAt_eq_ld, h1.read_unread, h3.read_unread, h6.read_unread, View.ld_unit_zero (S := S1x256) hz,
    View.ld_unit_zero (S := S1x8192) hz, View.ld_unit_zero (S := S8192x256) hz, shapeCast_self]

/-- At the first point accumulator 1 is its block's product over zero. -/
theorem first1 (hc : cond0_0 i) :
    out0_A_5 c i a1 h1 a2 h2 a3 h3 a4 h4 a5 h5 a6 h6 a7 h7 hc x w1 w2 w3 = addBlock x w2 zeroRow := by
  unfold out0_A_5
  rw [View.read_writes_eq_canon _ _ _ (cover0_A_5 c i a1 h1 a2 h2 a3 h3 a4 h4 a5 h5 a6 h6 a7 h7 hc x w1 w2 w3)]
  unfold kernelRun0_A
  dsimp only
  sl_unfold_words
  rw [View.canon_cons_unit_zero (S := S1x256) hz, View.readCov_unit_zero (S := S1x256) _ hz]
  unfold products6 products4 products2
  simp only [View.readAt_eq_ld, h1.read_unread, h3.read_unread, h6.read_unread, View.ld_unit_zero (S := S1x256) hz,
    View.ld_unit_zero (S := S1x8192) hz, View.ld_unit_zero (S := S8192x256) hz, shapeCast_self]

/-- At a later point accumulator 2 gains its block's product. -/
theorem later2 (hc : ¬cond0_0 i) :
    out0_B_6 c i a1 h1 a2 h2 a3 h3 a4 h4 a5 h5 a6 h6 a7 h7 hc x w1 w2 w3 y1 y2 y3 = addBlock x w3 y3 := by
  unfold out0_B_6
  rw [View.read_writes_eq_canon _ _ _ (cover0_B_6 c i a1 h1 a2 h2 a3 h3 a4 h4 a5 h5 a6 h6 a7 h7 hc x w1 w2 w3 y1 y2 y3)]
  unfold kernelRun0_B
  dsimp only
  sl_unfold_words
  rw [View.canon_unit_zero hz]
  unfold products7 products4
  simp only [View.readAt_eq_ld, h1.read_unread, h4.read_unread, h7.read_unread, View.ld_unit_zero (S := S1x256) hz,
    View.ld_unit_zero (S := S1x8192) hz, View.ld_unit_zero (S := S8192x256) hz, shapeCast_self]

/-- At the first point accumulator 2 is its block's product over zero. -/
theorem first2 (hc : cond0_0 i) :
    out0_A_6 c i a1 h1 a2 h2 a3 h3 a4 h4 a5 h5 a6 h6 a7 h7 hc x w1 w2 w3 = addBlock x w3 zeroRow := by
  unfold out0_A_6
  rw [View.read_writes_eq_canon _ _ _ (cover0_A_6 c i a1 h1 a2 h2 a3 h3 a4 h4 a5 h5 a6 h6 a7 h7 hc x w1 w2 w3)]
  unfold kernelRun0_A
  dsimp only
  sl_unfold_words
  rw [View.canon_cons_unit_zero (S := S1x256) hz, View.readCov_unit_zero (S := S1x256) _ hz]
  unfold products7 products4 products3
  simp only [View.readAt_eq_ld, h1.read_unread, h4.read_unread, h7.read_unread, View.ld_unit_zero (S := S1x256) hz,
    View.ld_unit_zero (S := S1x8192) hz, View.ld_unit_zero (S := S8192x256) hz, shapeCast_self]

end steps

/-! ## The running sums -/

section run
variable {F : FTy → Type} [FloatOps F] [Named F]
variable (V : (c : Dev nD) → (b : Ref sig .tc) → Buf (Elt F) ((c : Thread nD τ).loc b))

/-- An accumulator after point `n`, given the weight blocks it reads. -/
def chain (c : Dev nD) (W : Fin cfg0.N → Vec F S8192x256 .f32) : (n : ℕ) → n < cfg0.N → Vec F S1x256 .f32
  | 0, h => addBlock (X0_0 V c ⟨0, h⟩) (W ⟨0, h⟩) zeroRow
  | n + 1, h => addBlock (X0_0 V c ⟨n + 1, h⟩) (W ⟨n + 1, h⟩) (chain c W n (Nat.lt_of_succ_lt h))

/-- After every point the three accumulators are the three running sums. -/
theorem outsAt_eq (c : Dev nD) : ∀ (n : ℕ) (h : n < cfg0.N), outsAt0 V c n h
    = (chain V c (X0_1 V c) n h, chain V c (X0_2 V c) n h, chain V c (X0_3 V c) n h)
  | 0, h => by
    rw [outsAt0_A V c ⟨0, h⟩ rfl, first0, first1, first2]; rfl
  | n + 1, h => by
    have hN : cfg0.N = 5 := N_0
    have hB : ¬(⟨n + 1, h⟩ : Fin cfg0.N).val % 5 = 0 := by dsimp only; omega
    rw [outsAt0_B V c ⟨n + 1, h⟩ hB, later0, later1, later2]
    have e := outsAt_eq c n (Nat.lt_of_succ_lt h)
    show (addBlock _ _ (outsAt0 V c n _).1, addBlock _ _ (outsAt0 V c n _).2.1, addBlock _ _ (outsAt0 V c n _).2.2) = _
    rw [e]; rfl

theorem lastLt : 4 < cfg0.N := by rw [show cfg0.N = 5 from N_0]; decide

/-- Result 0: accumulator 0 after the last point. -/
abbrev result0 (c : Dev nD) : Buf (Elt F) ((c : Thread nD τ).loc main_v7_0) := chain V c (X0_1 V c) 4 lastLt

theorem flushed_eq0 (c : Dev nD) (t : Fin cfg0.N) (hf : (cfg0.win 4).flush t = true) :
    (dat0 V c).flushed 4 t = ((cfg0.win 4).blk t).view.read (Elt F) (result0 V c) := by
  have hN : cfg0.N = 5 := N_0
  have h4 : t.val = 4 := by have := (flush0_4 t).mp hf; have := t.isLt; omega
  obtain rfl : t = t0_4 := Fin.ext h4
  have hz' : (fun a => win0_4.index t0_4 a * main_v7_0.ty.shape.size a) = fun _ => 0 := funext fun a => by fin_cases a <;> decide
  refine Eq.trans ?_ (Memref.read_access_unit_zero (Elt F) main_v7_0 hz' (fun a => by rw [congrFun hz' a]; simp) (result0 V c)).symm
  show (dat0 V c).after 4 t0_4 = _
  rw [after0_4, outsAt_eq]
  rfl

/-- The array of result 0 ends at accumulator 0's last value. -/
theorem final0 (c : Dev nD) : (dat0 V c).arrAt 4 cfg0.N = result0 V c :=
  (dat0 V c).arrAt_eq_of_cover 4 (result0 V c) (flushed_eq0 V c) fun i =>
    ⟨t0_4, (flush0_4 t0_4).mpr rfl, by
      show i ∈ ((View.whole main_v7_0).slice (win0_4.rect t0_4)).set
      rw [View.set_slice_whole, Rect.mem_set_unit]
      intro a
      have h0 : (i 0 : Nat) < 1 := (i 0).isLt
      have h1 : (i 1 : Nat) < 256 := (i 1).isLt
      match a with
      | ⟨0, _⟩ => show win0_4.index t0_4 0 * win0_4.size 0 ≤ (i 0 : Nat) ∧ (i 0 : Nat) < win0_4.index t0_4 0 * win0_4.size 0 + win0_4.xsize (grid0.coords t0_4) 0
                  rw [show win0_4.index t0_4 0 * win0_4.size 0 = 0 from by decide +kernel, show win0_4.xsize (grid0.coords t0_4) 0 = 1 from by decide +kernel]; omega
      | ⟨1, _⟩ => show win0_4.index t0_4 1 * win0_4.size 1 ≤ (i 1 : Nat) ∧ (i 1 : Nat) < win0_4.index t0_4 1 * win0_4.size 1 + win0_4.xsize (grid0.coords t0_4) 1
                  rw [show win0_4.index t0_4 1 * win0_4.size 1 = 0 from by decide +kernel, show win0_4.xsize (grid0.coords t0_4) 1 = 256 from by decide +kernel]; omega⟩

/-- Result 1: accumulator 1 after the last point. -/
abbrev result1 (c : Dev nD) : Buf (Elt F) ((c : Thread nD τ).loc main_v7_1) := chain V c (X0_2 V c) 4 lastLt

theorem flushed_eq1 (c : Dev nD) (t : Fin cfg0.N) (hf : (cfg0.win 5).flush t = true) :
    (dat0 V c).flushed 5 t = ((cfg0.win 5).blk t).view.read (Elt F) (result1 V c) := by
  have hN : cfg0.N = 5 := N_0
  have h4 : t.val = 4 := by have := (flush0_5 t).mp hf; have := t.isLt; omega
  obtain rfl : t = t0_4 := Fin.ext h4
  have hz' : (fun a => win0_5.index t0_4 a * main_v7_1.ty.shape.size a) = fun _ => 0 := funext fun a => by fin_cases a <;> decide
  refine Eq.trans ?_ (Memref.read_access_unit_zero (Elt F) main_v7_1 hz' (fun a => by rw [congrFun hz' a]; simp) (result1 V c)).symm
  show (dat0 V c).after 5 t0_4 = _
  rw [after0_5, outsAt_eq]
  rfl

/-- The array of result 1 ends at accumulator 1's last value. -/
theorem final1 (c : Dev nD) : (dat0 V c).arrAt 5 cfg0.N = result1 V c :=
  (dat0 V c).arrAt_eq_of_cover 5 (result1 V c) (flushed_eq1 V c) fun i =>
    ⟨t0_4, (flush0_5 t0_4).mpr rfl, by
      show i ∈ ((View.whole main_v7_1).slice (win0_5.rect t0_4)).set
      rw [View.set_slice_whole, Rect.mem_set_unit]
      intro a
      have h0 : (i 0 : Nat) < 1 := (i 0).isLt
      have h1 : (i 1 : Nat) < 256 := (i 1).isLt
      match a with
      | ⟨0, _⟩ => show win0_5.index t0_4 0 * win0_5.size 0 ≤ (i 0 : Nat) ∧ (i 0 : Nat) < win0_5.index t0_4 0 * win0_5.size 0 + win0_5.xsize (grid0.coords t0_4) 0
                  rw [show win0_5.index t0_4 0 * win0_5.size 0 = 0 from by decide +kernel, show win0_5.xsize (grid0.coords t0_4) 0 = 1 from by decide +kernel]; omega
      | ⟨1, _⟩ => show win0_5.index t0_4 1 * win0_5.size 1 ≤ (i 1 : Nat) ∧ (i 1 : Nat) < win0_5.index t0_4 1 * win0_5.size 1 + win0_5.xsize (grid0.coords t0_4) 1
                  rw [show win0_5.index t0_4 1 * win0_5.size 1 = 0 from by decide +kernel, show win0_5.xsize (grid0.coords t0_4) 1 = 256 from by decide +kernel]; omega⟩

/-- Result 2: accumulator 2 after the last point. -/
abbrev result2 (c : Dev nD) : Buf (Elt F) ((c : Thread nD τ).loc main_v7_2) := chain V c (X0_3 V c) 4 lastLt

theorem flushed_eq2 (c : Dev nD) (t : Fin cfg0.N) (hf : (cfg0.win 6).flush t = true) :
    (dat0 V c).flushed 6 t = ((cfg0.win 6).blk t).view.read (Elt F) (result2 V c) := by
  have hN : cfg0.N = 5 := N_0
  have h4 : t.val = 4 := by have := (flush0_6 t).mp hf; have := t.isLt; omega
  obtain rfl : t = t0_4 := Fin.ext h4
  have hz' : (fun a => win0_6.index t0_4 a * main_v7_2.ty.shape.size a) = fun _ => 0 := funext fun a => by fin_cases a <;> decide
  refine Eq.trans ?_ (Memref.read_access_unit_zero (Elt F) main_v7_2 hz' (fun a => by rw [congrFun hz' a]; simp) (result2 V c)).symm
  show (dat0 V c).after 6 t0_4 = _
  rw [after0_6, outsAt_eq]
  rfl

/-- The array of result 2 ends at accumulator 2's last value. -/
theorem final2 (c : Dev nD) : (dat0 V c).arrAt 6 cfg0.N = result2 V c :=
  (dat0 V c).arrAt_eq_of_cover 6 (result2 V c) (flushed_eq2 V c) fun i =>
    ⟨t0_4, (flush0_6 t0_4).mpr rfl, by
      show i ∈ ((View.whole main_v7_2).slice (win0_6.rect t0_4)).set
      rw [View.set_slice_whole, Rect.mem_set_unit]
      intro a
      have h0 : (i 0 : Nat) < 1 := (i 0).isLt
      have h1 : (i 1 : Nat) < 256 := (i 1).isLt
      match a with
      | ⟨0, _⟩ => show win0_6.index t0_4 0 * win0_6.size 0 ≤ (i 0 : Nat) ∧ (i 0 : Nat) < win0_6.index t0_4 0 * win0_6.size 0 + win0_6.xsize (grid0.coords t0_4) 0
                  rw [show win0_6.index t0_4 0 * win0_6.size 0 = 0 from by decide +kernel, show win0_6.xsize (grid0.coords t0_4) 0 = 1 from by decide +kernel]; omega
      | ⟨1, _⟩ => show win0_6.index t0_4 1 * win0_6.size 1 ≤ (i 1 : Nat) ∧ (i 1 : Nat) < win0_6.index t0_4 1 * win0_6.size 1 + win0_6.xsize (grid0.coords t0_4) 1
                  rw [show win0_6.index t0_4 1 * win0_6.size 1 = 0 from by decide +kernel, show win0_6.xsize (grid0.coords t0_4) 1 = 256 from by decide +kernel]; omega⟩

/-! ## The blocks the windows read -/

theorem index_x : ∀ t : Fin cfg0.N, win0_0.index t 0 = 0 ∧ win0_0.index t 1 = t.val :=
  (by decide +kernel : ∀ t : Fin grid0.N, win0_0.index t 0 = 0 ∧ win0_0.index t 1 = t.val)

/-- The input block at point `t` is the row's entries from `8192 t` on. -/
theorem block_x (c : Dev nD) (t : Fin cfg0.N) (k : Fin 8192) (h : t.val * 8192 + k.val < 41538) :
    X0_0 V c t (ix2 (0 : Fin 1) k) = V c main_v0 (ix2 (0 : Fin 1) ⟨t.val * 8192 + k.val, h⟩) := by
  unfold X0_0 Pipeline.Window.fill
  rw [dif_pos (moved0_0 t _)]
  unfold iblk0
  rw [View.read_apply]
  show V c main_v0 _ = V c main_v0 _
  congr 1
  funext a
  apply Fin.ext
  match a with
  | ⟨0, _⟩ => show win0_0.index t 0 * 1 + 1 * 0 = 0; rw [(index_x t).1]
  | ⟨1, _⟩ => show win0_0.index t 1 * 8192 + 1 * k.val = t.val * 8192 + k.val; rw [(index_x t).2]; omega

theorem index_w0 : ∀ t : Fin cfg0.N, win0_1.index t 0 = t.val ∧ win0_1.index t 1 = 0 :=
  (by decide +kernel : ∀ t : Fin grid0.N, win0_1.index t 0 = t.val ∧ win0_1.index t 1 = 0)

/-- Weight block 0 at point `t` is the weight's rows from `8192 t` on. -/
theorem block_w0 (c : Dev nD) (t : Fin cfg0.N) (k : Fin 8192) (l : Fin 256) (h : t.val * 8192 + k.val < 41538) :
    X0_1 V c t (ix2 k l) = V c main_arg1 (ix2 ⟨t.val * 8192 + k.val, h⟩ l) := by
  unfold X0_1 Pipeline.Window.fill
  rw [dif_pos (moved0_1 t _)]
  unfold iblk0
  rw [View.read_apply]
  show V c main_arg1 _ = V c main_arg1 _
  congr 1
  funext a
  apply Fin.ext
  match a with
  | ⟨0, _⟩ => show win0_1.index t 0 * 8192 + 1 * k.val = t.val * 8192 + k.val; rw [(index_w0 t).1]; omega
  | ⟨1, _⟩ => show win0_1.index t 1 * 256 + 1 * l.val = l.val; rw [(index_w0 t).2]; omega

theorem index_w1 : ∀ t : Fin cfg0.N, win0_2.index t 0 = t.val ∧ win0_2.index t 1 = 0 :=
  (by decide +kernel : ∀ t : Fin grid0.N, win0_2.index t 0 = t.val ∧ win0_2.index t 1 = 0)

/-- Weight block 1 at point `t` is the weight's rows from `8192 t` on. -/
theorem block_w1 (c : Dev nD) (t : Fin cfg0.N) (k : Fin 8192) (l : Fin 256) (h : t.val * 8192 + k.val < 41538) :
    X0_2 V c t (ix2 k l) = V c main_v5 (ix2 ⟨t.val * 8192 + k.val, h⟩ l) := by
  unfold X0_2 Pipeline.Window.fill
  rw [dif_pos (moved0_2 t _)]
  unfold iblk0
  rw [View.read_apply]
  show V c main_v5 _ = V c main_v5 _
  congr 1
  funext a
  apply Fin.ext
  match a with
  | ⟨0, _⟩ => show win0_2.index t 0 * 8192 + 1 * k.val = t.val * 8192 + k.val; rw [(index_w1 t).1]; omega
  | ⟨1, _⟩ => show win0_2.index t 1 * 256 + 1 * l.val = l.val; rw [(index_w1 t).2]; omega

theorem index_w2 : ∀ t : Fin cfg0.N, win0_3.index t 0 = t.val ∧ win0_3.index t 1 = 0 :=
  (by decide +kernel : ∀ t : Fin grid0.N, win0_3.index t 0 = t.val ∧ win0_3.index t 1 = 0)

/-- Weight block 2 at point `t` is the weight's rows from `8192 t` on. -/
theorem block_w2 (c : Dev nD) (t : Fin cfg0.N) (k : Fin 8192) (l : Fin 256) (h : t.val * 8192 + k.val < 41538) :
    X0_3 V c t (ix2 k l) = V c main_v6 (ix2 ⟨t.val * 8192 + k.val, h⟩ l) := by
  unfold X0_3 Pipeline.Window.fill
  rw [dif_pos (moved0_3 t _)]
  unfold iblk0
  rw [View.read_apply]
  show V c main_v6 _ = V c main_v6 _
  congr 1
  funext a
  apply Fin.ext
  match a with
  | ⟨0, _⟩ => show win0_3.index t 0 * 8192 + 1 * k.val = t.val * 8192 + k.val; rw [(index_w2 t).1]; omega
  | ⟨1, _⟩ => show win0_3.index t 1 * 256 + 1 * l.val = l.val; rw [(index_w2 t).2]; omega

end run

/-! ## The sums, exactly -/

variable (V : (c : Dev nD) → (b : Ref sig .tc) → Buf (Elt Ideal) ((c : Thread nD τ).loc b))

/-- A sum over `N` blocks of `B` terms is the sum over all `B N` terms. -/
theorem sum_blocks (N B M : ℕ) (hM : M = N * B) (f : ℕ → EReal) :
    ∑ n ∈ Finset.range N, ∑ k : Fin B, f (n * B + k.val) = ∑ i : Fin M, f i.val := by
  rw [Fin.sum_univ_eq_sum_range f M]
  subst hM
  induction N with
  | zero => simp
  | succ N ih =>
    rw [Finset.sum_range_succ, ih, Nat.succ_mul, Finset.sum_range_add, Fin.sum_univ_eq_sum_range (fun k => f (N * B + k))]

theorem dims_eq : dot_S1x8192_S8192x256_S1x256_1_0_0_1_n_n = DotDims.plain 1 8192 256 := rfl

/-- At the extended reals a point adds its block's terms to each lane. -/
theorem addBlock_apply (x : Vec Ideal S1x8192 .f32) (w : Vec Ideal S8192x256 .f32) (acc : Vec Ideal S1x256 .f32) (l : Fin 256) :
    addBlock x w acc (ix2 (0 : Fin 1) l) = acc (ix2 (0 : Fin 1) l) + ∑ k : Fin 8192, (x (ix2 (0 : Fin 1) k) : EReal) * w (ix2 k l) := by
  unfold addBlock addf
  rw [Ideal.addf_def]
  refine congrArg (acc (ix2 (0 : Fin 1) l) + ·) ?_
  unfold matmul
  rw [dims_eq, Ideal.matmul_plain_apply]
  unfold constant
  rw [show (Scalar.ofBits .f32 0x00000000#32 : Ideal .f32) = 0 from Ideal.ofBits_zero_f32, zero_add]

/-- The input block and the weight blocks, as the arrays they are. -/
abbrev xBlk (c : Dev nD) (t : Fin cfg0.N) : Vec Ideal S1x8192 .f32 := X0_0 V c t

/-- At the extended reals an accumulator after point `n` holds, in each lane, the terms of the blocks so far. -/
theorem chain_sum (c : Dev nD) (W : Fin cfg0.N → Vec Ideal S8192x256 .f32) (l : Fin 256) (f : ℕ → EReal)
    (hf : ∀ (t : Fin cfg0.N) (k : Fin 8192), (xBlk V c t (ix2 (0 : Fin 1) k) : EReal) * W t (ix2 k l) = f (t.val * 8192 + k.val)) :
    ∀ (n : ℕ) (h : n < cfg0.N), chain V c W n h (ix2 (0 : Fin 1) l)
      = ∑ b ∈ Finset.range (n + 1), ∑ k : Fin 8192, f (b * 8192 + k.val) := by
  have step : ∀ (t : Fin cfg0.N) (acc : Vec Ideal S1x256 .f32), addBlock (xBlk V c t) (W t) acc (ix2 (0 : Fin 1) l)
      = acc (ix2 (0 : Fin 1) l) + ∑ k : Fin 8192, f (t.val * 8192 + k.val) := by
    intro t acc
    rw [addBlock_apply]
    exact congrArg _ (Finset.sum_congr rfl fun k _ => hf t k)
  intro n
  induction n with
  | zero =>
    intro h
    refine (step ⟨0, h⟩ zeroRow).trans ?_
    rw [show zeroRow (F := Ideal) (ix2 (0 : Fin 1) l) = 0 from Ideal.ofBits_zero_f32, zero_add]
    exact (Finset.sum_range_one (fun b => ∑ k : Fin 8192, f (b * 8192 + k.val))).symm
  | succ n ih =>
    intro h
    refine (step ⟨n + 1, h⟩ _).trans ?_
    rw [ih (Nat.lt_of_succ_lt h)]
    exact (Finset.sum_range_succ (fun b => ∑ k : Fin 8192, f (b * 8192 + k.val)) (n + 1)).symm

theorem in_rows (t : Fin cfg0.N) (k : Fin 8192) : t.val * 8192 + k.val < 40960 := by
  have hN : cfg0.N = 5 := N_0
  have := t.isLt; have := k.isLt; omega

/-- A family over the first 40960 rows, continued by zero. -/
def extend (g : Fin 40960 → EReal) (n : ℕ) : EReal := if h : n < 40960 then g ⟨n, h⟩ else 0

/-- After the last point an accumulator holds the sum over the first 40960 rows. -/
theorem result_sum (c : Dev nD) (W : Fin cfg0.N → Vec Ideal S8192x256 .f32) (l : Fin 256) (g : Fin 40960 → EReal)
    (hf : ∀ (t : Fin cfg0.N) (k : Fin 8192), (xBlk V c t (ix2 (0 : Fin 1) k) : EReal) * W t (ix2 k l)
      = g ⟨t.val * 8192 + k.val, in_rows t k⟩) :
    chain V c W 4 lastLt (ix2 (0 : Fin 1) l) = ∑ i : Fin 40960, g i := by
  have hg : ∀ i : Fin 40960, g i = extend g i.val := fun i => by unfold extend; rw [dif_pos i.isLt]
  rw [Finset.sum_congr rfl fun i _ => hg i, ← sum_blocks 5 8192 40960 (by norm_num) (extend g)]
  exact chain_sum V c W l (extend g) (fun t k => (hf t k).trans (hg _)) 4 lastLt

/-- The array of an accumulator ends, in lane `l`, at the sum over the first 40960 rows of input times weight:
the bass weight, -/
theorem sum0 (c : Dev nD) (l : Fin 256) (x : Fin 40960 → EReal) (w : Fin 40960 → EReal)
    (hx : ∀ n, V c main_v0 (ix2 (0 : Fin 1) (⟨n.val, Nat.lt_trans n.isLt (by decide)⟩ : Fin 41538)) = x n)
    (hw : ∀ n, V c main_arg1 (ix2 (⟨n.val, Nat.lt_trans n.isLt (by decide)⟩ : Fin 41538) l) = w n) :
    (dat0 V c).arrAt 4 cfg0.N (ix2 (0 : Fin 1) l) = ∑ n : Fin 40960, x n * w n := by
  refine (congrFun (final0 V c) _).trans (result_sum V c (X0_1 V c) l (fun n => x n * w n) fun t k => ?_)
  unfold xBlk
  rw [block_x V c t k (Nat.lt_trans (in_rows t k) (by decide)), block_w0 V c t k l (Nat.lt_trans (in_rows t k) (by decide))]
  exact congrArg₂ (fun a b : EReal => a * b) (hx ⟨_, in_rows t k⟩) (hw ⟨_, in_rows t k⟩)

/-- the alto weight, -/
theorem sum1 (c : Dev nD) (l : Fin 256) (x : Fin 40960 → EReal) (w : Fin 40960 → EReal)
    (hx : ∀ n, V c main_v0 (ix2 (0 : Fin 1) (⟨n.val, Nat.lt_trans n.isLt (by decide)⟩ : Fin 41538)) = x n)
    (hw : ∀ n, V c main_v5 (ix2 (⟨n.val, Nat.lt_trans n.isLt (by decide)⟩ : Fin 41538) l) = w n) :
    (dat0 V c).arrAt 5 cfg0.N (ix2 (0 : Fin 1) l) = ∑ n : Fin 40960, x n * w n := by
  refine (congrFun (final1 V c) _).trans (result_sum V c (X0_2 V c) l (fun n => x n * w n) fun t k => ?_)
  unfold xBlk
  rw [block_x V c t k (Nat.lt_trans (in_rows t k) (by decide)), block_w1 V c t k l (Nat.lt_trans (in_rows t k) (by decide))]
  exact congrArg₂ (fun a b : EReal => a * b) (hx ⟨_, in_rows t k⟩) (hw ⟨_, in_rows t k⟩)

/-- the tenor weight. -/
theorem sum2 (c : Dev nD) (l : Fin 256) (x : Fin 40960 → EReal) (w : Fin 40960 → EReal)
    (hx : ∀ n, V c main_v0 (ix2 (0 : Fin 1) (⟨n.val, Nat.lt_trans n.isLt (by decide)⟩ : Fin 41538)) = x n)
    (hw : ∀ n, V c main_v6 (ix2 (⟨n.val, Nat.lt_trans n.isLt (by decide)⟩ : Fin 41538) l) = w n) :
    (dat0 V c).arrAt 6 cfg0.N (ix2 (0 : Fin 1) l) = ∑ n : Fin 40960, x n * w n := by
  refine (congrFun (final2 V c) _).trans (result_sum V c (X0_3 V c) l (fun n => x n * w n) fun t k => ?_)
  unfold xBlk
  rw [block_x V c t k (Nat.lt_trans (in_rows t k) (by decide)), block_w2 V c t k l (Nat.lt_trans (in_rows t k) (by decide))]
  exact congrArg₂ (fun a b : EReal => a * b) (hx ⟨_, in_rows t k⟩) (hw ⟨_, in_rows t k⟩)

end Cert.KernelIdeal.Work

end
-- ==== Proof.IdealHost.lean ====
/- What the host operations between the calls leave: the padded tail of the input, the rows of the first layers the calls
   after the products read, the biases as rows, the first columns handed on, and the table. -/
module

public import proofs.«01_k».proof.Proof.IdealRun
public import Idealize.ShloMosaic.Lib.Tactic

@[expose] public section

set_option maxRecDepth 16384

noncomputable section

namespace Cert.KernelIdeal.Work

open Idealize.ShloMosaic Idealize.ShloMosaic.TcCoe
open Cert.KernelIdeal.Gen

variable {F : FTy → Type} [FloatOps F] [Named F] (U : Valuation τ sig (Elt F))

theorem leaves_v0 : StableHlo.after (hostOps0 (F := F)) U (Proc.devRef .tc main_v0)
    = shapeCast S1x41538 (U (Proc.devRef .tc main_arg0)) shapeCasts_S41538_S1x41538 := by
  unfold hostOps0; after_results <;> rfl

theorem leaves_v4 : StableHlo.after (hostOps0 (F := F)) U (Proc.devRef .tc main_v4)
    = shapeCast S1x640 (concatenate S640 0 [⟨S578, extractStridedSlice S578 ![40960] (U (Proc.devRef .tc main_arg0)) slices_S41538_S578_40960⟩, ⟨S62, broadcastInDim S62 ![] bcast_S_S62 (constant S_ .f32 0x00000000#32)⟩] concatenates_S578_S62_S640_d0) shapeCasts_S640_S1x640 := by
  unfold hostOps0; after_results <;> rfl

theorem leaves_v5 : StableHlo.after (hostOps0 (F := F)) U (Proc.devRef .tc main_v5)
    = extractStridedSlice S41538x256 ![0, 0] (U (Proc.devRef .tc main_arg7)) slices_S42050x256_S41538x256_0_0 := by
  unfold hostOps0; after_results <;> rfl

theorem leaves_v6 : StableHlo.after (hostOps0 (F := F)) U (Proc.devRef .tc main_v6)
    = extractStridedSlice S41538x256 ![0, 0] (U (Proc.devRef .tc main_arg13)) slices_S42562x256_S41538x256_0_0 := by
  unfold hostOps0; after_results <;> rfl

theorem leaves_v10 : StableHlo.after (hostOps1 (F := F)) U (Proc.devRef .tc main_v10)
    = concatenate S640x256 0 [⟨S578x256, extractStridedSlice S578x256 ![40960, 0] (U (Proc.devRef .tc main_arg1)) slices_S41538x256_S578x256_40960_0⟩, ⟨S62x256, broadcastInDim S62x256 ![] bcast_S_S62x256 (constant S_ .f32 0x00000000#32)⟩] concatenates_S578x256_S62x256_S640x256_d0 := by
  unfold hostOps1; after_results <;> rfl

theorem leaves_v11 : StableHlo.after (hostOps1 (F := F)) U (Proc.devRef .tc main_v11)
    = shapeCast S1x256 (U (Proc.devRef .tc main_arg2)) shapeCasts_S256_S1x256 := by
  unfold hostOps1; after_results <;> rfl

theorem leaves_v12 : StableHlo.after (hostOps1 (F := F)) U (Proc.devRef .tc main_v12)
    = shapeCast S1x256 (U (Proc.devRef .tc main_arg4)) shapeCasts_S256_S1x256 := by
  unfold hostOps1; after_results <;> rfl

theorem leaves_v13 : StableHlo.after (hostOps1 (F := F)) U (Proc.devRef .tc main_v13)
    = shapeCast S1x512 (U (Proc.devRef .tc main_arg6)) shapeCasts_S512_S1x512 := by
  unfold hostOps1; after_results <;> rfl

theorem leaves_v18 : StableHlo.after (hostOps2 (F := F)) U (Proc.devRef .tc main_v18)
    = concatenate S1152x256 0 [⟨S578x256, extractStridedSlice S578x256 ![40960, 0] (U (Proc.devRef .tc main_arg7)) slices_S42050x256_S578x256_40960_0⟩, ⟨S62x256, broadcastInDim S62x256 ![] bcast_S_S62x256 (constant S_ .f32 0x00000000#32)⟩, ⟨S512x256, extractStridedSlice S512x256 ![41538, 0] (U (Proc.devRef .tc main_arg7)) slices_S42050x256_S512x256_41538_0⟩] concatenates_S578x256_S62x256_S512x256_S1152x256_d0 := by
  unfold hostOps2; after_results <;> rfl

theorem leaves_v19 : StableHlo.after (hostOps2 (F := F)) U (Proc.devRef .tc main_v19)
    = shapeCast S1x256 (U (Proc.devRef .tc main_arg8)) shapeCasts_S256_S1x256 := by
  unfold hostOps2; after_results <;> rfl

theorem leaves_v20 : StableHlo.after (hostOps2 (F := F)) U (Proc.devRef .tc main_v20)
    = shapeCast S1x256 (U (Proc.devRef .tc main_arg10)) shapeCasts_S256_S1x256 := by
  unfold hostOps2; after_results <;> rfl

theorem leaves_v21 : StableHlo.after (hostOps2 (F := F)) U (Proc.devRef .tc main_v21)
    = shapeCast S1x512 (U (Proc.devRef .tc main_arg12)) shapeCasts_S512_S1x512 := by
  unfold hostOps2; after_results <;> rfl

theorem leaves_v27 : StableHlo.after (hostOps3 (F := F)) U (Proc.devRef .tc main_v27)
    = concatenate S1664x256 0 [⟨S578x256, extractStridedSlice S578x256 ![40960, 0] (U (Proc.devRef .tc main_arg13)) slices_S42562x256_S578x256_40960_0⟩, ⟨S62x256, broadcastInDim S62x256 ![] bcast_S_S62x256 (constant S_ .f32 0x00000000#32)⟩, ⟨S512x256, extractStridedSlice S512x256 ![41538, 0] (U (Proc.devRef .tc main_arg13)) slices_S42562x256_S512x256_41538_0⟩, ⟨S512x256, extractStridedSlice S512x256 ![42050, 0] (U (Proc.devRef .tc main_arg13)) slices_S42562x256_S512x256_42050_0⟩] concatenates_S578x256_S62x256_S512x256_S512x256_S1664x256_d0 := by
  unfold hostOps3; after_results <;> rfl

theorem leaves_v28 : StableHlo.after (hostOps3 (F := F)) U (Proc.devRef .tc main_v28)
    = shapeCast S1x256 (U (Proc.devRef .tc main_arg14)) shapeCasts_S256_S1x256 := by
  unfold hostOps3; after_results <;> rfl

theorem leaves_v29 : StableHlo.after (hostOps3 (F := F)) U (Proc.devRef .tc main_v29)
    = shapeCast S1x256 (U (Proc.devRef .tc main_arg16)) shapeCasts_S256_S1x256 := by
  unfold hostOps3; after_results <;> rfl

theorem leaves_v30 : StableHlo.after (hostOps3 (F := F)) U (Proc.devRef .tc main_v30)
    = shapeCast S1x512 (U (Proc.devRef .tc main_arg18)) shapeCasts_S512_S1x512 := by
  unfold hostOps3; after_results <;> rfl

theorem leaves_v33 : StableHlo.after (hostOps3 (F := F)) U (Proc.devRef .tc main_v33)
    = shapeCast S1x512 (shapeCast S512 (extractStridedSlice S512x1 ![0, 0] (U (Proc.devRef .tc main_v22_0)) slices_S512x128_S512x1_0_0) shapeCasts_S512x1_S512) shapeCasts_S512_S1x512 := by
  unfold hostOps3; after_results <;> rfl

theorem leaves_v36 : StableHlo.after (hostOps3 (F := F)) U (Proc.devRef .tc main_v36)
    = shapeCast S1x512 (shapeCast S512 (extractStridedSlice S512x1 ![0, 0] (U (Proc.devRef .tc main_v22_1)) slices_S512x128_S512x1_0_0) shapeCasts_S512x1_S512) shapeCasts_S512_S1x512 := by
  unfold hostOps3; after_results <;> rfl

theorem leaves_v39 : StableHlo.after (hostOps3 (F := F)) U (Proc.devRef .tc main_v39)
    = shapeCast S1x512 (shapeCast S512 (extractStridedSlice S512x1 ![0, 0] (U (Proc.devRef .tc main_v22_2)) slices_S512x128_S512x1_0_0) shapeCasts_S512x1_S512) shapeCasts_S512_S1x512 := by
  unfold hostOps3; after_results <;> rfl

theorem leaves_v53 : StableHlo.after (hostOps4 (F := F)) U (Proc.devRef .tc main_v53)
    = concatenate S512x4 1 [⟨S512x1, broadcastInDim S512x1 ![0] bcast_S512_S512x1_0 (shapeCast S512 (extractStridedSlice S512x1 ![0, 0] (U (Proc.devRef .tc main_v40_0)) slices_S512x128_S512x1_0_0) shapeCasts_S512x1_S512)⟩, ⟨S512x1, broadcastInDim S512x1 ![0] bcast_S512_S512x1_0 (shapeCast S512 (extractStridedSlice S512x1 ![0, 0] (U (Proc.devRef .tc main_v40_1)) slices_S512x128_S512x1_0_0) shapeCasts_S512x1_S512)⟩, ⟨S512x1, broadcastInDim S512x1 ![0] bcast_S512_S512x1_0 (shapeCast S512 (extractStridedSlice S512x1 ![0, 0] (U (Proc.devRef .tc main_v40_2)) slices_S512x128_S512x1_0_0) shapeCasts_S512x1_S512)⟩, ⟨S512x1, broadcastInDim S512x1 ![0] bcast_S512_S512x1_0 (shapeCast S512 (extractStridedSlice S512x1 ![0, 0] (U (Proc.devRef .tc main_v40_3)) slices_S512x128_S512x1_0_0) shapeCasts_S512x1_S512)⟩] concatenates_S512x1_S512x1_S512x1_S512x1_S512x4_d1 := by
  unfold hostOps4; after_results <;> rfl

end Cert.KernelIdeal.Work
-- ==== Proof.StageValue.lean ====
/- What a stage of the sorting networks does to one column: it is a stage of a bitonic network on pairs ordered by the
   value and then, of equal values, by the smaller index. -/
module

public import proofs.«01_k».proof.Proof.Stage
public import Idealize.ShloMosaic.Lib.Pipeline.Value
public import Idealize.ShloMosaic.Lib.Routing.Words
public import Idealize.ShloMosaic.Lib.SortNet.Fold
public import Mathlib.Data.Prod.Lex

@[expose] public section

noncomputable section

namespace Cert.Sorting

open Idealize.ShloMosaic Idealize.ShloMosaic.ValueIdx

/-! ## The halves of a group, entry by entry -/

section
variable {α : Type} {n L g j : ℕ}

/-- An entry of the first half of a group is the entry of the row it came from. -/
theorem loHalf_apply (f : ColFit n L g j) (x : (Mat n L).Idx → α) (u : Fin g) (v : Fin j) (c : Fin L) (r : Fin n)
    (hr : r.val = u.val * (2 * j) + v.val) : loHalf f x (ix3 u v c) = x (ix2 r c) := by
  unfold loHalf
  rw [shapeCast_apply _ _ (ix3 u v c) (ix4 u (0 : Fin 1) v c) (by
      rw [Shape.rowMajor_val_four, Shape.rowMajor_val_three]
      show ((u.val * 1 + 0) * j + v.val) * L + c.val = (u.val * j + v.val) * L + c.val
      ring),
    extractStridedSlice_apply _ _ _ (ix4 u (0 : Fin 1) v c) (ix4 u (0 : Fin 2) v c) (by
      intro a; fin_cases a <;> simp),
    shapeCast_apply _ _ (ix4 u (0 : Fin 2) v c) (ix2 r c) (by
      rw [Shape.rowMajor_val_four, Shape.rowMajor_val_two]
      show r.val * L + c.val = ((u.val * 2 + 0) * j + v.val) * L + c.val
      rw [hr]; ring)]

/-- An entry of the second half of a group is the entry of the row it came from. -/
theorem hiHalf_apply (f : ColFit n L g j) (x : (Mat n L).Idx → α) (u : Fin g) (v : Fin j) (c : Fin L) (r : Fin n)
    (hr : r.val = u.val * (2 * j) + j + v.val) : hiHalf f x (ix3 u v c) = x (ix2 r c) := by
  unfold hiHalf
  rw [shapeCast_apply _ _ (ix3 u v c) (ix4 u (0 : Fin 1) v c) (by
      rw [Shape.rowMajor_val_four, Shape.rowMajor_val_three]
      show ((u.val * 1 + 0) * j + v.val) * L + c.val = (u.val * j + v.val) * L + c.val
      ring),
    extractStridedSlice_apply _ _ _ (ix4 u (0 : Fin 1) v c) (ix4 u (1 : Fin 2) v c) (by
      intro a; fin_cases a <;> simp),
    shapeCast_apply _ _ (ix4 u (1 : Fin 2) v c) (ix2 r c) (by
      rw [Shape.rowMajor_val_four, Shape.rowMajor_val_two]
      show r.val * L + c.val = ((u.val * 2 + 1) * j + v.val) * L + c.val
      rw [hr]; ring)]

/-- A row of a first half, put together again, holds the first half's entry. -/
theorem joinHalves_lo (f : ColFit n L g j) (a b : (Grp g j L).Idx → α) (u : Fin g) (v : Fin j) (c : Fin L) (r : Fin n)
    (hr : r.val = u.val * (2 * j) + v.val) : joinHalves f a b (ix2 r c) = a (ix3 u v c) := by
  unfold joinHalves
  rw [shapeCast_apply _ _ (ix2 r c) (ix4 u (0 : Fin 2) v c) (by
      rw [Shape.rowMajor_val_four, Shape.rowMajor_val_two]
      show ((u.val * 2 + 0) * j + v.val) * L + c.val = r.val * L + c.val
      rw [hr]; ring),
    concatenate_pair_apply_left (s₁ := Hlf g 1 j L) (s₂ := Hlf g 1 j L) (1 : Fin 4) _ _ _ (ix4 u (0 : Fin 2) v c) rfl (ix4 u (0 : Fin 1) v c) (by
      intro a; fin_cases a <;> simp),
    shapeCast_apply _ _ (ix4 u (0 : Fin 1) v c) (ix3 u v c) (by
      rw [Shape.rowMajor_val_four, Shape.rowMajor_val_three]
      show (u.val * j + v.val) * L + c.val = ((u.val * 1 + 0) * j + v.val) * L + c.val
      ring)]

/-- A row of a second half, put together again, holds the second half's entry. -/
theorem joinHalves_hi (f : ColFit n L g j) (a b : (Grp g j L).Idx → α) (u : Fin g) (v : Fin j) (c : Fin L) (r : Fin n)
    (hr : r.val = u.val * (2 * j) + j + v.val) : joinHalves f a b (ix2 r c) = b (ix3 u v c) := by
  unfold joinHalves
  rw [shapeCast_apply _ _ (ix2 r c) (ix4 u (1 : Fin 2) v c) (by
      rw [Shape.rowMajor_val_four, Shape.rowMajor_val_two]
      show ((u.val * 2 + 1) * j + v.val) * L + c.val = r.val * L + c.val
      rw [hr]; ring),
    concatenate_pair_apply_right (s₁ := Hlf g 1 j L) (s₂ := Hlf g 1 j L) (1 : Fin 4) _ _ _ (ix4 u (1 : Fin 2) v c) rfl rfl (ix4 u (0 : Fin 1) v c) (by
      intro a ha; fin_cases a <;> first | rfl | exact absurd rfl ha) (by simp),
    shapeCast_apply _ _ (ix4 u (0 : Fin 1) v c) (ix3 u v c) (by
      rw [Shape.rowMajor_val_four, Shape.rowMajor_val_three]
      show (u.val * j + v.val) * L + c.val = ((u.val * 1 + 0) * j + v.val) * L + c.val
      ring)]
end

/-! ## Quotient and remainder of small numbers -/

/-- The sign of a word, as the quotient's correction computes it. -/
theorem sign_word {a : ℕ} (ha : a < 2 ^ 31) :
    (IntOp.cmpi .sgt (BitVec.ofNat 32 a) 0#32).setWidth 32 - (IntOp.cmpi .slt (BitVec.ofNat 32 a) 0#32).setWidth 32
      = if a = 0 then 0#32 else 1#32 := by
  unfold IntOp.cmpi
  have e : (0#32 : BitVec 32) = BitVec.ofNat 32 0 := rfl
  simp only [e, Routing.slt_ofNat32 ha (by decide : 0 < 2 ^ 31), Routing.slt_ofNat32 (by decide : 0 < 2 ^ 31) ha]
  by_cases h : a = 0
  · subst h; decide
  · have h' : 0 < a := Nat.pos_of_ne_zero h
    simp [h, h']

/-- Rounded down, the quotient of two small numbers is the quotient of naturals. -/
theorem floorDiv_apply {s : Shape} (x : IVec s 32) (i : s.Idx) {a b : ℕ} (hx : x i = BitVec.ofNat 32 a)
    (ha : a < 2 ^ 31) (h0 : 0 < b) (hb : b < 2 ^ 31) :
    floorDiv s x (BitVec.ofNat 32 b) i = BitVec.ofNat 32 (a / b) := by
  have e : floorDiv s x (BitVec.ofNat 32 b) i
      = Scalar.select (IntOp.andi
          (IntOp.cmpi .ne
            ((IntOp.cmpi .sgt (x i) 0#32).setWidth 32 - (IntOp.cmpi .slt (x i) 0#32).setWidth 32)
            ((IntOp.cmpi .sgt (BitVec.ofNat 32 b) 0#32).setWidth 32 - (IntOp.cmpi .slt (BitVec.ofNat 32 b) 0#32).setWidth 32))
          (IntOp.cmpi .ne (IntOp.remsi .vector (x i) (BitVec.ofNat 32 b)) 0#32))
        (IntOp.divsi .vector (x i) (BitVec.ofNat 32 b) - 1#32) (IntOp.divsi .vector (x i) (BitVec.ofNat 32 b)) := rfl
  rw [e, hx, sign_word ha, sign_word hb, Routing.divsi_word .vector ha h0 hb, Routing.remsi_word .vector ha h0 hb,
    if_neg (by omega : ¬ b = 0)]
  by_cases h : a = 0
  · subst h
    rw [Nat.zero_mod]
    simp [IntOp.cmpi, IntOp.andi, Scalar.select]
  · rw [if_neg h]
    simp [IntOp.cmpi, IntOp.andi, Scalar.select]

/-- The remainder of two small numbers is the remainder of naturals. -/
theorem floorMod_apply {s : Shape} (h : s.Broadcasts s) (x : IVec s 32) (i : s.Idx) {a b : ℕ}
    (hx : x i = BitVec.ofNat 32 a) (ha : a < 2 ^ 31) (h0 : 0 < b) (hb : b < 2 ^ 31) :
    floorMod s h x (BitVec.ofNat 32 b) i = BitVec.ofNat 32 (a % b) := by
  have hd : divisor (BitVec.ofNat 32 b) = BitVec.ofNat 32 b := by
    have : (BitVec.ofNat 32 b == 0#32) = false := by
      rw [beq_eq_false_iff_ne]; exact Routing.ofNat32_ne_zero h0 (by omega)
    simp [divisor, Scalar.cmpi, IntOp.cmpi, this, Scalar.select]
  have e : floorMod s h x (BitVec.ofNat 32 b) i
      = Scalar.select (IntOp.andi
          (IntOp.xori (IntOp.cmpi .slt (IntOp.remsi .vector (x i) (divisor (BitVec.ofNat 32 b))) 0#32)
            (IntOp.cmpi .slt (divisor (BitVec.ofNat 32 b)) 0#32))
          (IntOp.cmpi .ne (IntOp.remsi .vector (x i) (divisor (BitVec.ofNat 32 b))) 0#32))
        (IntOp.remsi .vector (x i) (divisor (BitVec.ofNat 32 b)) + divisor (BitVec.ofNat 32 b))
        (IntOp.remsi .vector (x i) (divisor (BitVec.ofNat 32 b))) := rfl
  have hm : a % b < 2 ^ 31 := lt_of_le_of_lt (Nat.mod_le a b) ha
  rw [e, hd, hx, Routing.remsi_word .vector ha h0 hb]
  have z : (0#32 : BitVec 32) = BitVec.ofNat 32 0 := rfl
  simp only [IntOp.cmpi, z, Routing.slt_ofNat32 hm (by decide : 0 < 2 ^ 31), Routing.slt_ofNat32 hb (by decide : 0 < 2 ^ 31)]
  simp [IntOp.andi, IntOp.xori, Scalar.select]

/-! ## The order of the entries -/

/-- Pairs of a value and a number: of equal values the smaller number is the greater pair. -/
abbrev Key : Type := EReal ×ₗ ℤᵒᵈ

/-- The pair of a value and an index. -/
def keyOf (x : EReal) (i : BitVec 32) : Key := toLex (x, OrderDual.toDual i.toInt)

/-- The value and the index are read off the pair. -/
theorem keyOf_inj {x y : EReal} {i k : BitVec 32} (h : keyOf x i = keyOf y k) : x = y ∧ i = k := by
  have h' := congrArg ofLex h
  simp only [keyOf, ofLex_toLex, Prod.mk.injEq, OrderDual.toDual_inj] at h'
  exact ⟨h'.1, BitVec.eq_of_toInt_eq h'.2⟩

/-- A pair is greater when its value is, or, the values equal, its index is smaller. -/
theorem keyOf_lt {x y : EReal} {i k : BitVec 32} :
    keyOf y k < keyOf x i ↔ y < x ∨ (y = x ∧ i.toInt < k.toInt) := by
  simp [keyOf, Prod.Lex.toLex_lt_toLex]

/-- The entry that comes first is the greater pair. -/
theorem firstOf_apply {s : Shape} (av bv : FVec Ideal s .f32) (ai bi : IVec s 32) (i : s.Idx) :
    firstOf av bv ai bi i = BitVec.ofBool (decide (keyOf (bv i) (bi i) < keyOf (av i) (ai i))) := by
  have e : firstOf av bv ai bi i = IntOp.ori (BitVec.ofBool (decide ((bv i : EReal) < av i)))
      (IntOp.andi (BitVec.ofBool (decide ((av i : EReal) = bv i))) (BitVec.ofBool ((ai i).slt (bi i)))) := rfl
  rw [e]
  have e2 : decide (keyOf (bv i) (bi i) < keyOf (av i) (ai i))
      = (decide ((bv i : EReal) < av i) || (decide ((av i : EReal) = bv i) && (ai i).slt (bi i))) := by
    rw [BitVec.slt]
    rw [Bool.eq_iff_iff]
    simp only [Bool.or_eq_true, Bool.and_eq_true, decide_eq_true_eq, keyOf_lt]
    rw [eq_comm (a := bv i)]
  rw [e2]
  generalize decide ((bv i : EReal) < av i) = a
  generalize decide ((av i : EReal) = bv i) = b
  generalize (ai i).slt (bi i) = c
  cases a <;> cases b <;> cases c <;> rfl

/-- A pair of choices between two entries is the choice between their pairs. -/
theorem keyOf_select (m : BitVec 1) (x y : EReal) (i k : BitVec 32) :
    keyOf (Scalar.select m x y) (Scalar.select m i k) = Scalar.select m (keyOf x i) (keyOf y k) := by
  unfold Scalar.select; split <;> rfl

/-- The column `c` as pairs. -/
def colKeys {n L P : ℕ} (hn : n = 2 ^ P) (p : FVec Ideal (Mat n L) .f32 × IVec (Mat n L) 32) (c : Fin L) :
    Fin (2 ^ P) → Key := fun r => keyOf (p.1 (ix2 (r.cast hn.symm) c)) (p.2 (ix2 (r.cast hn.symm) c))

/-- The keep mask of a first half: whether the greater pair is to come first, and does. -/
theorem keepLo_apply {n L g s t : ℕ} (f : ColFit n L g (2 ^ s)) (hst : s < t) (ht : t < 31) (hn : g * (2 * 2 ^ s) < 2 ^ 31)
    (first : IVec (Grp g (2 ^ s) L) 1) (b : Bool) (u : Fin g) (v : Fin (2 ^ s)) (c : Fin L)
    (hf : first (ix3 u v c) = BitVec.ofBool b) (r : ℕ) (hr : r = u.val * (2 * 2 ^ s) + v.val) :
    keepLo f (BitVec.ofNat 32 (2 * 2 ^ s)) (BitVec.ofNat 32 (2 ^ t)) first (ix3 u v c)
      = BitVec.ofBool (decide (b = decide (r &&& 2 ^ t = 0))) := by
  have hu : u.val * (2 * 2 ^ s) < 2 ^ 31 := lt_of_lt_of_le
    ((Nat.mul_lt_mul_right (by positivity)).mpr u.isLt) hn.le
  have h1 : (muli (iota .tc (Grp g (2 ^ s) L) 32 [0] f.iota) (broadcast (Grp g (2 ^ s) L) (BitVec.ofNat 32 (2 * 2 ^ s)))) (ix3 u v c)
      = BitVec.ofNat 32 (u.val * (2 * 2 ^ s)) := by
    rw [show BitVec.ofNat 32 (u.val * (2 * 2 ^ s)) = BitVec.ofNat 32 u.val * BitVec.ofNat 32 (2 * 2 ^ s) from
      (BitVec.ofNat_mul_ofNat _ _).symm]
    show (iota .tc (Grp g (2 ^ s) L) 32 [0] f.iota) (ix3 u v c) * BitVec.ofNat 32 (2 * 2 ^ s) = _
    rw [iota_single_apply]
    rfl
  have hT : 2 ^ t < 2 ^ 31 := Nat.pow_lt_pow_right (by decide) ht
  have h2 := floorDiv_apply _ _ h1 hu (by positivity) hT
  have h3 := floorMod_apply f.same _ _ h2 (lt_of_le_of_lt (Nat.div_le_self _ _) hu) (by decide : 0 < 2) (by decide)
  have e : keepLo f (BitVec.ofNat 32 (2 * 2 ^ s)) (BitVec.ofNat 32 (2 ^ t)) first (ix3 u v c)
      = IntOp.xori (IntOp.xori (IntOp.cmpi .eq
          (floorMod (Grp g (2 ^ s) L) f.same
            (floorDiv (Grp g (2 ^ s) L)
              (muli (iota .tc (Grp g (2 ^ s) L) 32 [0] f.iota) (broadcast (Grp g (2 ^ s) L) (BitVec.ofNat 32 (2 * 2 ^ s))))
              (BitVec.ofNat 32 (2 ^ t))) (BitVec.ofNat 32 2) (ix3 u v c)) 0#32) (first (ix3 u v c))) 1#1 := rfl
  rw [e, h3, hf]
  have hbit : (r &&& 2 ^ t = 0) ↔ u.val * (2 * 2 ^ s) / 2 ^ t % 2 = 0 := by
    rw [SortNet.and_two_pow_eq_zero_iff_testBit]
    have hv := v.isLt
    have hdiv : r / 2 ^ t = u.val * (2 * 2 ^ s) / 2 ^ t := by
      obtain ⟨d, rfl⟩ : ∃ d, t = s + 1 + d := ⟨t - (s + 1), by omega⟩
      have e2 : 2 ^ (s + 1 + d) = (2 * 2 ^ s) * 2 ^ d := by rw [pow_add, pow_succ]; ring
      rw [e2, ← Nat.div_div_eq_div_mul r (2 * 2 ^ s), ← Nat.div_div_eq_div_mul (u.val * (2 * 2 ^ s)) (2 * 2 ^ s), Nat.mul_div_cancel _ (by positivity), hr, mul_comm u.val,
        Nat.mul_add_div (by positivity), Nat.div_eq_of_lt (by omega : v.val < 2 * 2 ^ s), add_zero]
    rw [Nat.testBit_eq_decide_div_mod_eq, hdiv]
    simp
  have hdec : decide (r &&& 2 ^ t = 0) = decide (u.val * (2 * 2 ^ s) / 2 ^ t % 2 = 0) := decide_eq_decide.mpr hbit
  rw [hdec]
  rcases Nat.mod_two_eq_zero_or_one (u.val * (2 * 2 ^ s) / 2 ^ t) with h | h <;> rw [h] <;> cases b <;> decide

/-- One stage on a column is one stage of the bitonic network on its pairs. -/
theorem stage_keys {n L g P s t : ℕ} (hn : n = 2 ^ P) (hs : s < P) (hst : s < t) (ht : t < 31) (hP : P < 31)
    (hg : n = g * (2 * 2 ^ s)) (f : ColFit n L g (2 ^ s)) (p : FVec Ideal (Mat n L) .f32 × IVec (Mat n L) 32) (c : Fin L) :
    colKeys hn (stage f (BitVec.ofNat 32 (2 * 2 ^ s)) (BitVec.ofNat 32 (2 ^ t)) p) c
      = SortNet.Network.apply (SortNet.stage P s fun i => decide (i.val &&& 2 ^ t = 0)) (colKeys hn p c) := by
  have hlt : g * (2 * 2 ^ s) < 2 ^ 31 := by rw [← hg, hn]; exact Nat.pow_lt_pow_right (by decide) hP
  -- a pair of rows, the first with bit `s` clear
  have key : ∀ i : Fin (2 ^ P), i.val &&& 2 ^ s = 0 →
      colKeys hn (stage f (BitVec.ofNat 32 (2 * 2 ^ s)) (BitVec.ofNat 32 (2 ^ t)) p) c i
          = SortNet.Network.apply (SortNet.stage P s fun i => decide (i.val &&& 2 ^ t = 0)) (colKeys hn p c) i ∧
        colKeys hn (stage f (BitVec.ofNat 32 (2 * 2 ^ s)) (BitVec.ofNat 32 (2 ^ t)) p) c (SortNet.partner P s i)
          = SortNet.Network.apply (SortNet.stage P s fun i => decide (i.val &&& 2 ^ t = 0)) (colKeys hn p c)
              (SortNet.partner P s i) := by
    intro i hi
    have hp := SortNet.partner_val_of_clear hs i hi
    obtain ⟨hlo, hhi⟩ := SortNet.apply_stage hs (fun i => decide (i.val &&& 2 ^ t = 0)) (colKeys hn p c) i hi
    have hw : 0 < 2 * 2 ^ s := by positivity
    have hmod : i.val % (2 * 2 ^ s) < 2 ^ s := by
      have hb := (SortNet.and_two_pow_eq_zero_iff_testBit i.val s).mp hi
      rw [Nat.testBit_eq_decide_div_mod_eq, decide_eq_false_iff_not] at hb
      rw [mul_comm 2, Nat.mod_mul]
      have : i.val / 2 ^ s % 2 = 0 := by omega
      rw [this, mul_zero, add_zero]
      exact Nat.mod_lt _ (by positivity)
    have hin : i.val < g * (2 * 2 ^ s) := by rw [← hg, hn]; exact i.isLt
    let u : Fin g := ⟨i.val / (2 * 2 ^ s), Nat.div_lt_of_lt_mul (by rw [mul_comm]; exact hin)⟩
    let v : Fin (2 ^ s) := ⟨i.val % (2 * 2 ^ s), hmod⟩
    have hiv : i.val = u.val * (2 * 2 ^ s) + v.val := (Nat.div_add_mod' _ _).symm
    have hpv : (SortNet.partner P s i).val = u.val * (2 * 2 ^ s) + 2 ^ s + v.val := by rw [hp, hiv]; omega
    have A1 : ∀ {α : Type} (x : (Mat n L).Idx → α), loHalf f x (ix3 u v c) = x (ix2 (i.cast hn.symm) c) :=
      fun x => loHalf_apply f x u v c _ hiv
    have B1 : ∀ {α : Type} (x : (Mat n L).Idx → α),
        hiHalf f x (ix3 u v c) = x (ix2 ((SortNet.partner P s i).cast hn.symm) c) :=
      fun x => hiHalf_apply f x u v c _ hpv
    have hk : keepOf f (BitVec.ofNat 32 (2 * 2 ^ s)) (BitVec.ofNat 32 (2 ^ t)) p (ix3 u v c)
        = BitVec.ofBool (decide (decide (colKeys hn p c (SortNet.partner P s i) < colKeys hn p c i)
            = decide (i.val &&& 2 ^ t = 0))) := by
      refine keepLo_apply f hst ht hlt _ _ u v c ?_ i.val hiv
      rw [firstOf_apply, A1, A1, B1, B1]
      rfl
    have L1 : colKeys hn (stage f (BitVec.ofNat 32 (2 * 2 ^ s)) (BitVec.ofNat 32 (2 ^ t)) p) c i
        = Scalar.select (keepOf f (BitVec.ofNat 32 (2 * 2 ^ s)) (BitVec.ofNat 32 (2 ^ t)) p (ix3 u v c))
            (colKeys hn p c i) (colKeys hn p c (SortNet.partner P s i)) := by
      unfold colKeys stage
      dsimp only
      rw [joinHalves_lo f _ _ u v c (i.cast hn.symm) hiv, joinHalves_lo f _ _ u v c (i.cast hn.symm) hiv]
      rw [← keyOf_select, ← A1 p.1, ← A1 p.2, ← B1 p.1, ← B1 p.2]
      rfl
    have L2 : colKeys hn (stage f (BitVec.ofNat 32 (2 * 2 ^ s)) (BitVec.ofNat 32 (2 ^ t)) p) c (SortNet.partner P s i)
        = Scalar.select (keepOf f (BitVec.ofNat 32 (2 * 2 ^ s)) (BitVec.ofNat 32 (2 ^ t)) p (ix3 u v c))
            (colKeys hn p c (SortNet.partner P s i)) (colKeys hn p c i) := by
      unfold colKeys stage
      dsimp only
      rw [joinHalves_hi f _ _ u v c ((SortNet.partner P s i).cast hn.symm) hpv,
        joinHalves_hi f _ _ u v c ((SortNet.partner P s i).cast hn.symm) hpv]
      rw [← keyOf_select, ← A1 p.1, ← A1 p.2, ← B1 p.1, ← B1 p.2]
      rfl
    rw [L1, L2, hlo, hhi, hk]
    generalize decide (i.val &&& 2 ^ t = 0) = d
    rcases lt_or_ge (colKeys hn p c (SortNet.partner P s i)) (colKeys hn p c i) with h | h
    · rw [decide_eq_true h]
      cases d
      · simp [Scalar.select, min_eq_right h.le, max_eq_left h.le]
      · simp [Scalar.select, min_eq_right h.le, max_eq_left h.le]
    · rw [decide_eq_false (not_lt.mpr h)]
      cases d
      · simp [Scalar.select, min_eq_left h, max_eq_right h]
      · simp [Scalar.select, min_eq_left h, max_eq_right h]
  funext i
  by_cases hi : i.val &&& 2 ^ s = 0
  · exact (key i hi).1
  · have h := (key (SortNet.partner P s i) (SortNet.partner_and_of_set hs i hi)).2
    rwa [SortNet.partner_partner hs] at h

end Cert.Sorting
-- ==== Proof.Network.lean ====
/- The kernel's lists of stages as the bitonic sort and merge, the exchange of halves as the opposite order, and the
   tournament of columns as the first entries of everything. -/
module

public import proofs.«01_k».proof.Proof.StageValue
public import proofs.«01_k».proof.Proof.Heads
public import Idealize.ShloMosaic.Lib.SortNet.Lists

@[expose] public section

noncomputable section

namespace Cert.Sorting

open Idealize.ShloMosaic Idealize.ShloMosaic.ValueIdx
open Idealize.ShloMosaic.SortNet (Network sortNet mergeDescNet topList)

/-- A stage of the list is the stage at distance `2 ^ s` towards runs of `2 ^ t` entries. -/
def Matches {n : ℕ} (P : ℕ) (st : Step n) (q : ℕ × ℕ) : Prop :=
  (st.j = 2 ^ q.1 ∧ st.w = BitVec.ofNat 32 (2 * 2 ^ q.1) ∧ st.k = BitVec.ofNat 32 (2 ^ q.2)) ∧
    q.1 < P ∧ q.1 < q.2 ∧ q.2 < 31

instance {n P : ℕ} (st : Step n) (q : ℕ × ℕ) : Decidable (Matches P st q) := by unfold Matches; infer_instance

/-- The network of the stages named by distance and direction. -/
def pairNet (P : ℕ) (qs : List (ℕ × ℕ)) : Network (2 ^ P) :=
  qs.flatMap fun q => SortNet.stage P q.1 fun i => decide (i.val &&& 2 ^ q.2 = 0)

/-- A list of stages on a column is the network of its distances and directions on the column's pairs. -/
theorem run_keys {n L P : ℕ} (hn : n = 2 ^ P) (hP : P < 31) {steps : List (Step n)} {qs : List (ℕ × ℕ)}
    (h : List.Forall₂ (Matches P) steps qs) :
    ∀ (p : FVec Ideal (Mat n L) .f32 × IVec (Mat n L) 32) (c : Fin L),
      colKeys hn (run L steps p) c = Network.apply (pairNet P qs) (colKeys hn p c) := by
  induction h with
  | nil => intro p c; rfl
  | cons hm _ ih =>
    intro p c
    rename_i st q steps' qs' _
    obtain ⟨g, j, w, k, rows⟩ := st
    obtain ⟨s, t⟩ := q
    obtain ⟨⟨hj, hw, hk⟩, hs, hst, ht⟩ := hm
    dsimp only at hj hw hk hs hst ht
    subst hj hw hk
    show colKeys hn (run L steps' (stage (ColFit.of (L := L) rows) _ _ p)) c = _
    rw [ih, stage_keys hn hs hst ht hP rows]
    show _ = Network.apply (SortNet.stage P s _ ++ pairNet P qs') _
    rw [Network.apply_append]

/-- The distances and directions of the sort of 512 entries. -/
def sortPairs : List (ℕ × ℕ) :=
  (List.range 9).flatMap fun l => (List.range (l + 1)).reverse.map fun s => (s, l + 1)

/-- The distances and directions of the merge of 1024 entries. -/
def mergePairs : List (ℕ × ℕ) := (List.range 10).reverse.map fun s => (s, 11)

/-- The lists correspond when they have the same length and agree place by place. -/
theorem forall₂_of {α β : Type} (R : α → β → Prop) (l : List α) (m : List β) (hlen : l.length = m.length)
    (h : ∀ q ∈ l.zip m, R q.1 q.2) : List.Forall₂ R l m :=
  List.forall₂_iff_zip.mpr ⟨hlen, fun hq => h _ hq⟩

theorem sortSteps_matches : List.Forall₂ (Matches 9) sortSteps sortPairs :=
  forall₂_of _ _ _ (by decide +kernel) (by decide +kernel)

theorem mergeSteps_matches : List.Forall₂ (Matches 10) mergeSteps mergePairs :=
  forall₂_of _ _ _ (by decide +kernel) (by decide +kernel)

/-- The sort's network is the bitonic sort. -/
theorem pairNet_sort : pairNet 9 sortPairs = sortNet 9 true := by
  unfold pairNet sortPairs sortNet
  rw [List.flatMap_assoc]
  congr 1
  funext l
  rw [List.flatMap_map]
  congr 1
  funext s
  congr 1
  funext i
  simp

/-- The merge's network is the bitonic merge. -/
theorem pairNet_merge : pairNet 10 mergePairs = mergeDescNet 10 := by
  unfold pairNet mergePairs mergeDescNet
  rw [List.flatMap_map]
  congr 1
  funext s
  refine SortNet.stage_congr fun i _ => ?_
  have hi : i.val < 2 ^ 11 := lt_trans i.isLt (by decide)
  refine decide_eq_true ((SortNet.and_two_pow_eq_zero_iff_testBit _ _).mpr (Nat.testBit_lt_two_pow hi))

/-! ## The opposite order -/

/-- Row `r` of the exchanged halves is the row whose number differs in the bit of the halves' length. -/
theorem swapHalves_apply {α : Type} {L g j : ℕ} (f : ColFit 512 L g j) (hg : 512 = g * (2 * j)) (x : (Mat 512 L).Idx → α)
    (r r' : Fin 512) (c : Fin L)
    (hr : r'.val = if r.val % (2 * j) < j then r.val + j else r.val - j) :
    swapHalves f x (ix2 r c) = x (ix2 r' c) := by
  have hj : 0 < 2 * j := by
    rcases Nat.eq_zero_or_pos j with h | h
    · subst h; simp at hg
    · omega
  have hu : r.val / (2 * j) < g := Nat.div_lt_of_lt_mul (by rw [mul_comm, ← hg]; exact r.isLt)
  have hdm : r.val / (2 * j) * (2 * j) + r.val % (2 * j) = r.val := Nat.div_add_mod' _ _
  have hml := Nat.mod_lt r.val hj
  unfold swapHalves
  by_cases h : r.val % (2 * j) < j
  · rw [if_pos h] at hr
    rw [joinHalves_lo f _ _ ⟨_, hu⟩ ⟨_, h⟩ c r hdm.symm]
    exact hiHalf_apply f x ⟨_, hu⟩ ⟨_, h⟩ c r' (by show r'.val = r.val / (2 * j) * (2 * j) + j + r.val % (2 * j); omega)
  · rw [if_neg h] at hr
    have hv : r.val % (2 * j) - j < j := by omega
    rw [joinHalves_hi f _ _ ⟨_, hu⟩ ⟨_, hv⟩ c r
      (by show r.val = r.val / (2 * j) * (2 * j) + j + (r.val % (2 * j) - j); omega)]
    exact loHalf_apply f x ⟨_, hu⟩ ⟨_, hv⟩ c r'
      (by show r'.val = r.val / (2 * j) * (2 * j) + (r.val % (2 * j) - j); omega)

/-- The row whose place in its group is exchanged across the halves. -/
def across1 (j : ℕ) (r : Fin 512) : Fin 512 :=
  ⟨(if r.val % (2 * j) < j then r.val + j else r.val - j) % 512, Nat.mod_lt _ (by decide)⟩

theorem across1_val {j g : ℕ} (hg : 512 = g * (2 * j)) (r : Fin 512) :
    (across1 j r).val = if r.val % (2 * j) < j then r.val + j else r.val - j := by
  refine Nat.mod_eq_of_lt ?_
  have hr := r.isLt
  split
  · rename_i h
    have hdm : r.val / (2 * j) * (2 * j) + r.val % (2 * j) = r.val := Nat.div_add_mod' _ _
    have hu : r.val / (2 * j) < g := Nat.div_lt_of_lt_mul (by rw [mul_comm, ← hg]; exact r.isLt)
    have h2 : (r.val / (2 * j) + 1) * (2 * j) ≤ g * (2 * j) := Nat.mul_le_mul_right _ hu
    rw [← hg, Nat.add_mul, one_mul] at h2
    omega
  · omega

/-- Nine exchanges make the opposite order. -/
theorem across_all : ∀ r : Fin 512,
    across1 256 (across1 128 (across1 64 (across1 32 (across1 16 (across1 8 (across1 4 (across1 2 (across1 1 r))))))))
      = r.rev := by decide +kernel

/-- The opposite order reads the rows from the last. -/
theorem flip_apply {α : Type} (L : ℕ) (x : (Mat 512 L).Idx → α) (r : Fin 512) (c : Fin L) :
    flip L x (ix2 r c) = x (ix2 r.rev c) := by
  unfold flip
  rw [swapHalves_apply _ rfl _ r _ c (across1_val (g := 256) (j := 1) rfl _),
    swapHalves_apply _ rfl _ _ _ c (across1_val (g := 128) (j := 2) rfl _),
    swapHalves_apply _ rfl _ _ _ c (across1_val (g := 64) (j := 4) rfl _),
    swapHalves_apply _ rfl _ _ _ c (across1_val (g := 32) (j := 8) rfl _),
    swapHalves_apply _ rfl _ _ _ c (across1_val (g := 16) (j := 16) rfl _),
    swapHalves_apply _ rfl _ _ _ c (across1_val (g := 8) (j := 32) rfl _),
    swapHalves_apply _ rfl _ _ _ c (across1_val (g := 4) (j := 64) rfl _),
    swapHalves_apply _ rfl _ _ _ c (across1_val (g := 2) (j := 128) rfl _),
    swapHalves_apply _ rfl _ _ _ c (across1_val (g := 1) (j := 256) rfl _), across_all]

/-! ## The tournament -/

/-- A column's pair at a row given by its number. -/
theorem colKeys_at {n L P : ℕ} (hn : n = 2 ^ P) (p : FVec Ideal (Mat n L) .f32 × IVec (Mat n L) 32) (c : Fin L)
    (r : Fin (2 ^ P)) (r' : Fin n) (h : r'.val = r.val) :
    colKeys hn p c r = keyOf (p.1 (ix2 r' c)) (p.2 (ix2 r' c)) := by
  have e : r.cast hn.symm = r' := Fin.ext h.symm
  unfold colKeys
  rw [e]

/-- A row of the upper half of 1024. -/
def upRow (j : Fin 512) : Fin 1024 := ⟨j.val, lt_trans j.isLt (by decide)⟩
/-- A row of the lower half of 1024. -/
def downRow (j : Fin 512) : Fin 1024 := ⟨j.val + 512, by have := j.isLt; omega⟩

section
variable {α : Type} (h : ℕ)

theorem fold_up (x : (Mat 512 (2 * h)).Idx → α) (j : Fin 512) (c : Fin h) (a : Fin (2 * h)) (ha : a.val = c.val) :
    fold h x (ix2 (upRow j) c) = x (ix2 j a) := by
  unfold fold
  rw [concatenate_pair_apply_left (s₁ := Mat 512 h) (s₂ := Mat 512 h) (0 : Fin 2) _ _ _
    (ix2 (upRow j) c : (Mat 1024 h).Idx) rfl (ix2 j c) (by intro q; fin_cases q <;> rfl)]
  refine extractStridedSlice_apply _ _ _ _ _ ?_
  intro q; fin_cases q
  · exact (Nat.zero_add _).symm
  · exact ha.trans (Nat.zero_add _).symm

theorem fold_down (x : (Mat 512 (2 * h)).Idx → α) (j : Fin 512) (c : Fin h) (b : Fin (2 * h)) (hb : b.val = h + c.val) :
    fold h x (ix2 (downRow j) c) = x (ix2 j.rev b) := by
  unfold fold
  rw [concatenate_pair_apply_right (s₁ := Mat 512 h) (s₂ := Mat 512 h) (0 : Fin 2) _ _ _
    (ix2 (downRow j) c : (Mat 1024 h).Idx) rfl rfl (ix2 j c)
    (by intro q hq; fin_cases q; · exact absurd rfl hq
        · rfl)
    rfl]
  rw [flip_apply]
  refine extractStridedSlice_apply _ _ _ _ _ ?_
  intro q; fin_cases q
  · exact (Nat.zero_add _).symm
  · exact hb

theorem top_at (x : (Mat 1024 h).Idx → α) (j : Fin 512) (c : Fin h) : top h x (ix2 j c) = x (ix2 (upRow j) c) := by
  unfold top
  refine extractStridedSlice_apply _ _ _ _ _ ?_
  intro q; fin_cases q
  · exact (Nat.zero_add _).symm
  · exact (Nat.zero_add _).symm
end

theorem two_nine : 512 = 2 ^ 9 := by decide
theorem two_ten : 1024 = 2 ^ (9 + 1) := by decide

/-- A merge of two columns: the first 512 of both. -/
theorem merge_keys (h : ℕ) (p : FVec Ideal (Mat 512 (2 * h)) .f32 × IVec (Mat 512 (2 * h)) 32) (c : Fin h)
    (a b : Fin (2 * h)) (ha : a.val = c.val) (hb : b.val = h + c.val) :
    colKeys two_nine (merge h p) c
      = Network.apply (mergeDescNet 9) fun j => max (colKeys two_nine p a j) (colKeys two_nine p b j.rev) := by
  funext j
  have e1 : colKeys two_nine (merge h p) c j
      = colKeys two_ten (run h mergeSteps (folded h p)) c (SortNet.lowerPos 9 j) := by
    rw [colKeys_at two_nine _ c j (j.cast two_nine.symm) rfl,
      colKeys_at two_ten _ c (SortNet.lowerPos 9 j) (upRow (j.cast two_nine.symm)) rfl]
    unfold merge
    dsimp only
    rw [top_at, top_at]
  rw [e1, run_keys two_ten (by decide) mergeSteps_matches, pairNet_merge,
    (SortNet.apply_mergeDescNet_succ 9 _ j).1]
  congr 1
  funext i
  have hrev : (Fin.rev (i.cast two_nine.symm)).val = (Fin.rev i).val := by
    rw [Fin.val_rev, Fin.val_rev]; rfl
  rw [colKeys_at two_ten _ c (SortNet.lowerPos 9 i) (upRow (i.cast two_nine.symm)) rfl,
    colKeys_at two_ten _ c (SortNet.upperPos 9 i) (downRow (i.cast two_nine.symm)) rfl,
    colKeys_at two_nine p a i (i.cast two_nine.symm) rfl,
    colKeys_at two_nine p b i.rev (Fin.rev (i.cast two_nine.symm)) hrev]
  unfold folded
  dsimp only
  rw [fold_up h p.1 _ c a ha, fold_up h p.2 _ c a ha, fold_down h p.1 _ c b hb, fold_down h p.2 _ c b hb]

/-- Every column holds, in descending order, the first 512 of a list, and the lists make up the whole `T`. -/
def Holds (L : ℕ) (p : FVec Ideal (Mat 512 L) .f32 × IVec (Mat 512 L) 32) (T : Multiset Key) : Prop :=
  ∃ l : Fin L → List Key,
    (∀ c, Antitone (colKeys two_nine p c) ∧ List.ofFn (colKeys two_nine p c) = topList 512 (l c)) ∧
      ∑ c, (l c : Multiset Key) = T

/-- A merge keeps the whole and halves the columns. -/
theorem Holds.merge {h : ℕ} {p : FVec Ideal (Mat 512 (2 * h)) .f32 × IVec (Mat 512 (2 * h)) 32} {T : Multiset Key}
    (H : Holds (2 * h) p T) : Holds h (merge h p) T := by
  obtain ⟨l, hl, hT⟩ := H
  have e : h + h = 2 * h := by omega
  refine ⟨fun c => l (Fin.cast e (Fin.castAdd h c)) ++ l (Fin.cast e (Fin.natAdd h c)), fun c => ?_, ?_⟩
  · obtain ⟨ha, hla⟩ := hl (Fin.cast e (Fin.castAdd h c))
    obtain ⟨hb, hlb⟩ := hl (Fin.cast e (Fin.natAdd h c))
    have hm := merge_keys h p c (Fin.cast e (Fin.castAdd h c)) (Fin.cast e (Fin.natAdd h c)) rfl rfl
    obtain ⟨h1, h2⟩ := SortNet.topOfTwo_eq_topList 9 _ _ ha hb
    rw [hm]
    refine ⟨h1, h2.trans ?_⟩
    rw [hla, hlb]
    exact SortNet.topList_append_topList_topList 512 _ _
  · rw [← hT]
    simp only [← Multiset.coe_add, Finset.sum_add_distrib]
    rw [← Fin.sum_univ_add (fun k : Fin (h + h) => ((l (Fin.cast e k)) : Multiset Key))]
    exact Fintype.sum_equiv (finCongr e) _ _ fun _ => rfl

/-- After the sort every column holds its own entries in order. -/
theorem Holds.sort (L : ℕ) (p : FVec Ideal (Mat 512 L) .f32 × IVec (Mat 512 L) 32) :
    Holds L (run L sortSteps p) (∑ c, (List.ofFn (colKeys two_nine p c) : Multiset Key)) := by
  refine ⟨fun c => List.ofFn (colKeys two_nine p c), fun c => ?_, rfl⟩
  rw [run_keys two_nine (by decide) sortSteps_matches, pairNet_sort]
  have ha := SortNet.sortNet_apply_antitone 9 (colKeys two_nine p c)
  refine ⟨ha, ?_⟩
  obtain ⟨σ, hσ⟩ := Network.exists_perm (sortNet 9 true) (colKeys two_nine p c)
  have hp : (List.ofFn (Network.apply (sortNet 9 true) (colKeys two_nine p c))).Perm
      (List.ofFn (colKeys two_nine p c)) := by
    rw [hσ]; exact Equiv.Perm.ofFn_comp_perm σ _
  rw [← SortNet.topList_perm hp]
  refine (SortNet.topList_eq_self ?_ List.length_ofFn.le).symm
  exact List.pairwise_ofFn.mpr fun i j hij => ha hij.le

/-- The best column is the first 512 of all the entries, in descending order. -/
theorem best_keys (p : FVec Ideal (Mat 512 512) .f32 × IVec (Mat 512 512) 32) :
    Antitone (colKeys two_nine (best p) 0) ∧
      ∃ l : List Key, List.ofFn (colKeys two_nine (best p) 0) = topList 512 l ∧
        (l : Multiset Key) = ∑ c, (List.ofFn (colKeys two_nine p c) : Multiset Key) := by
  obtain ⟨l, hl, hT⟩ : Holds 1 (best p) _ :=
    Holds.merge (h := 1) (Holds.merge (h := 2) (Holds.merge (h := 4) (Holds.merge (h := 8) (Holds.merge (h := 16)
      (Holds.merge (h := 32) (Holds.merge (h := 64) (Holds.merge (h := 128) (Holds.merge (h := 256)
        (Holds.sort 512 p)))))))))
  refine ⟨(hl 0).1, l 0, (hl 0).2, ?_⟩
  rw [← hT]
  simp

end Cert.Sorting
-- ==== Proof.Order.lean ====
/- The first entries in descending order, found by any means, are the ones a stable sort by the value puts first. -/
module

public import proofs.«01_k».proof.Proof.Network
public import Idealize.ShloMosaic.Lib.SortPrefix

@[expose] public section

noncomputable section

namespace Cert.Sorting

open Idealize.ShloMosaic Idealize.ShloMosaic.ValueIdx
open Idealize.ShloMosaic.SortNet (topList)

/-- Two relations that agree wherever the first place is the later one sort an ascending list alike. -/
theorem stableSort_eq {ι : Type} (r : ι → ι → Prop) (R B : ι → ι → Bool) (h : ∀ a b, r a b → R b a = B b a) :
    ∀ l : List ι, l.Pairwise r → stableSort R l = stableSort B l
  | [], _ => rfl
  | a :: l, hl => by
    obtain ⟨h1, h2⟩ := List.pairwise_cons.mp hl
    unfold stableSort
    rw [stableSort_eq r R B h l h2]
    exact insertBefore_congr R B a _ fun b hb => h a b (h1 b ((perm_stableSort B l).mem_iff.mp hb))

/-- So they have the same sources. -/
theorem sortedFrom_eq {n : ℕ} (R B : Fin n → Fin n → Bool) (h : ∀ a b : Fin n, a < b → R b a = B b a) (k : Fin n) :
    sortedFrom R k = sortedFrom B k := by
  have e : sortPositions n R = sortPositions n B :=
    stableSort_eq (· < ·) R B h _ (List.pairwise_lt_finRange n)
  exact List.get_of_eq e _

/-- The first `k` of all the pairs, in descending order, are the pairs of the places a stable sort by descending value puts
    first; `K` are the pairs of the places, `x` their values, and of equal values the smaller place is the greater pair. -/
theorem keys_eq_sorted {N k : ℕ} (hk : k ≤ N) (K : Fin N → Key) (hinj : Function.Injective K) (x : Fin N → EReal)
    (R : Fin N → Fin N → Bool) (hR : ∀ q q', R q q' = decide (x q' < x q))
    (hK : ∀ a b : Fin N, a < b → (K a < K b ↔ x a < x b))
    (keys : Fin k → Key) (hanti : Antitone keys) (l : List Key) (hkeys : List.ofFn keys = topList k l)
    (hl : l.Perm (List.ofFn K)) (i : Fin k) :
    keys i = K (sortedFrom R (i.castLE hk)) := by
  have hmem : ∀ i, keys i ∈ topList k l := fun i => by rw [← hkeys]; exact List.mem_ofFn.mpr ⟨i, rfl⟩
  have hex : ∀ i, ∃ q, K q = keys i := fun i =>
    List.mem_ofFn.mp (hl.mem_iff.mp (SortNet.mem_of_mem_topList (hmem i)))
  choose σ hσ using hex
  have hnd : (List.ofFn keys).Nodup := by
    rw [hkeys]; exact SortNet.nodup_topList (hl.nodup_iff.mpr (List.nodup_ofFn.mpr hinj))
  have hkinj : Function.Injective keys := List.nodup_ofFn.mp hnd
  have hB : StrictTotalBefore fun q q' : Fin N => decide (K q' < K q) :=
    ⟨fun a => by simp, fun a b c hab hbc => by
        simp only [decide_eq_true_eq] at hab hbc ⊢; exact lt_trans hbc hab,
      fun a b hne => by
        simp only [decide_eq_true_eq]
        rcases lt_or_gt_of_ne (fun e => hne (hinj e)) with h | h
        · exact Or.inr h
        · exact Or.inl h⟩
  have hs := hB.sortedFrom_eq_of_prefix hk σ
    (fun a b e => hkinj (by rw [← hσ a, ← hσ b, e]))
    (fun a b hab => by
      rw [decide_eq_false_iff_not, hσ, hσ]; exact not_lt.mpr (hanti hab.le))
    (fun a p hp => by
      rw [decide_eq_false_iff_not, hσ]
      refine not_lt.mpr (SortNet.le_of_not_mem_topList (hmem a) (hl.mem_iff.mpr (List.mem_ofFn.mpr ⟨p, rfl⟩)) ?_)
      intro hin
      rw [← hkeys] at hin
      obtain ⟨j, hj⟩ := List.mem_ofFn.mp hin
      exact hp j (hinj (by rw [hσ, hj])))
    i
  have e : sortedFrom R (i.castLE hk) = sortedFrom (fun q q' : Fin N => decide (K q' < K q)) (i.castLE hk) :=
    sortedFrom_eq R _ (fun a b hab => by
      rw [hR]
      exact decide_eq_decide.mpr (hK a b hab).symm) _
  rw [e, hs, hσ]

/-- The number of a small word. -/
theorem toInt_small {a : ℕ} (h : a < 2 ^ 31) : (BitVec.ofNat 32 a).toInt = a := by
  have hn : (BitVec.ofNat 32 a).toNat = a := by rw [BitVec.toNat_ofNat]; exact Nat.mod_eq_of_lt (by omega)
  rw [BitVec.toInt_eq_toNat_of_lt (by rw [hn]; omega), hn]

/-- Pairs of values and their places: different places, different pairs. -/
theorem placeKey_injective {N : ℕ} (hN : N ≤ 2 ^ 31) (x : Fin N → EReal) :
    Function.Injective fun q : Fin N => keyOf (x q) (BitVec.ofNat 32 q.val) := by
  intro a b h
  have h2 := congrArg BitVec.toInt (keyOf_inj h).2
  rw [toInt_small (lt_of_lt_of_le a.isLt hN), toInt_small (lt_of_lt_of_le b.isLt hN)] at h2
  exact Fin.ext (by exact_mod_cast h2)

/-- Of two places the earlier has the smaller pair exactly when it has the smaller value. -/
theorem placeKey_lt {N : ℕ} (hN : N ≤ 2 ^ 31) (x : Fin N → EReal) (a b : Fin N) (h : a < b) :
    keyOf (x a) (BitVec.ofNat 32 a.val) < keyOf (x b) (BitVec.ofNat 32 b.val) ↔ x a < x b := by
  rw [keyOf_lt, toInt_small (lt_of_lt_of_le a.isLt hN), toInt_small (lt_of_lt_of_le b.isLt hN)]
  have h' : a.val < b.val := h
  constructor
  · rintro (h1 | ⟨_, h1⟩)
    · exact h1
    · omega
  · exact Or.inl

end Cert.Sorting
-- ==== Proof.LaneValue.lean ====
/- One stage on the lanes of a row as one stage of the bitonic network, and the row's sort. -/
module

public import proofs.«01_k».proof.Proof.Network

@[expose] public section

noncomputable section

namespace Cert.Sorting

open Idealize.ShloMosaic Idealize.ShloMosaic.ValueIdx
open Idealize.ShloMosaic.SortNet (Network sortNet)

section
variable {α : Type} {j : ℕ}

/-- The row moved left, at a lane that stays inside. -/
theorem rollLeft_apply (f : LaneFit j) (x : (Mat 1 512).Idx → α) (r r' : Fin 512) (h : r'.val = r.val + j) :
    rollLeft f x (ix2 (0 : Fin 1) r) = x (ix2 (0 : Fin 1) r') := by
  have hr : r.val < 512 - j := by have := r'.isLt; omega
  unfold rollLeft
  rw [concatenate_pair_apply_left (s₁ := Mat 1 (512 - j)) (s₂ := Mat 1 j) (1 : Fin 2) _ _ _
    (ix2 (0 : Fin 1) r : (Mat 1 512).Idx) rfl (ix2 (0 : Fin 1) ⟨r.val, hr⟩) (by intro q; fin_cases q <;> rfl)]
  refine extractStridedSlice_apply _ _ _ _ _ ?_
  intro q; fin_cases q
  · rfl
  · show r'.val = j + r.val
    omega

/-- The row moved right, at a lane that comes from inside. -/
theorem rollRight_apply (f : LaneFit j) (x : (Mat 1 512).Idx → α) (r r' : Fin 512) (h : r.val = r'.val + j) :
    rollRight f x (ix2 (0 : Fin 1) r) = x (ix2 (0 : Fin 1) r') := by
  have hr : r'.val < 512 - j := by have := r.isLt; omega
  unfold rollRight
  rw [concatenate_pair_apply_right (s₁ := Mat 1 j) (s₂ := Mat 1 (512 - j)) (1 : Fin 2) _ _ _
    (ix2 (0 : Fin 1) r : (Mat 1 512).Idx) rfl rfl (ix2 (0 : Fin 1) ⟨r'.val, hr⟩)
    (by intro q hq; fin_cases q
        · rfl
        · exact absurd rfl hq)
    (by show r'.val + j = r.val; omega)]
  refine extractStridedSlice_apply _ _ _ _ _ ?_
  intro q; fin_cases q
  · rfl
  · exact (Nat.zero_add _).symm
end

/-- A lane's number. -/
theorem lane_apply (r : Fin 512) : lane (ix2 (0 : Fin 1) r) = BitVec.ofNat 32 r.val := by
  unfold lane; rw [iota_single_apply]

/-- Whether a lane's bit is clear. -/
theorem clear_apply (s : ℕ) (r : Fin 512) (hs : s < 9) :
    clear (BitVec.ofNat 32 (2 ^ s)) (ix2 (0 : Fin 1) r) = BitVec.ofBool (decide (r.val &&& 2 ^ s = 0)) := by
  have e : clear (BitVec.ofNat 32 (2 ^ s)) (ix2 (0 : Fin 1) r)
      = IntOp.cmpi .eq (lane (ix2 (0 : Fin 1) r) &&& BitVec.ofNat 32 (2 ^ s)) 0#32 := rfl
  have h1 : r.val &&& 2 ^ s < 2 ^ 32 := lt_of_le_of_lt Nat.and_le_left (lt_trans r.isLt (by decide))
  rw [e, lane_apply, ← BitVec.ofNat_and]
  unfold IntOp.cmpi
  congr 1
  rw [Bool.eq_iff_iff, beq_iff_eq, decide_eq_true_eq]
  constructor
  · intro h
    have h2 := congrArg BitVec.toNat h
    rw [BitVec.toNat_ofNat, Nat.mod_eq_of_lt h1] at h2
    simpa using h2
  · intro h; rw [h]

/-- The lanes of a row as pairs. -/
def rowKeys (p : FVec Ideal (Mat 1 512) .f32 × IVec (Mat 1 512) 32) : Fin (2 ^ 9) → Key :=
  fun r => keyOf (p.1 (ix2 (0 : Fin 1) (r.cast two_nine.symm))) (p.2 (ix2 (0 : Fin 1) (r.cast two_nine.symm)))

/-- The entry across is the partner's. -/
theorem across_apply {α : Type} {s : ℕ} (hs : s < 9) (f : LaneFit (2 ^ s)) (x : (Mat 1 512).Idx → α) (i : Fin (2 ^ 9)) :
    across f (BitVec.ofNat 32 (2 ^ s)) x (ix2 (0 : Fin 1) (i.cast two_nine.symm))
      = x (ix2 (0 : Fin 1) ((SortNet.partner 9 s i).cast two_nine.symm)) := by
  have e : across f (BitVec.ofNat 32 (2 ^ s)) x (ix2 (0 : Fin 1) (i.cast two_nine.symm))
      = Scalar.select (clear (BitVec.ofNat 32 (2 ^ s)) (ix2 (0 : Fin 1) (i.cast two_nine.symm)))
          (rollLeft f x (ix2 (0 : Fin 1) (i.cast two_nine.symm)))
          (rollRight f x (ix2 (0 : Fin 1) (i.cast two_nine.symm))) := rfl
  rw [e, clear_apply s _ hs]
  by_cases h : i.val &&& 2 ^ s = 0
  · rw [decide_eq_true (show (i.cast two_nine.symm).val &&& 2 ^ s = 0 from h)]
    show rollLeft f x _ = _
    exact rollLeft_apply f x _ _ (SortNet.partner_val_of_clear hs i h)
  · rw [decide_eq_false (show ¬ (i.cast two_nine.symm).val &&& 2 ^ s = 0 from h)]
    show rollRight f x _ = _
    refine rollRight_apply f x _ _ ?_
    have h2 := SortNet.partner_val_of_clear hs _ (SortNet.partner_and_of_set hs i h)
    rw [SortNet.partner_partner hs] at h2
    exact h2

/-- A place and its partner have the same other bits. -/
theorem partner_bit {s t : ℕ} (hs : s < 9) (hst : s < t) (i : Fin (2 ^ 9)) :
    ((SortNet.partner 9 s i).val &&& 2 ^ t = 0) ↔ (i.val &&& 2 ^ t = 0) := by
  rw [SortNet.and_two_pow_eq_zero_iff_testBit, SortNet.and_two_pow_eq_zero_iff_testBit, SortNet.partner_val hs,
    Nat.testBit_xor, Nat.testBit_two_pow, decide_eq_false (by omega), Bool.xor_false]

/-- One lane stage is one stage of the bitonic network on the row's pairs. -/
theorem laneStage_keys {s t : ℕ} (hs : s < 9) (hst : s < t) (ht : t < 31) (f : LaneFit (2 ^ s))
    (p : FVec Ideal (Mat 1 512) .f32 × IVec (Mat 1 512) 32) :
    rowKeys (laneStage f (BitVec.ofNat 32 (2 ^ s)) (BitVec.ofNat 32 (2 ^ t)) p)
      = Network.apply (SortNet.stage 9 s fun i => decide (i.val &&& 2 ^ t = 0)) (rowKeys p) := by
  funext i
  have hcl : ∀ k : Fin (2 ^ 9), ((SortNet.partner 9 s k).val &&& 2 ^ s = 0) ↔ ¬ (k.val &&& 2 ^ s = 0) := by
    intro k
    rw [SortNet.and_two_pow_eq_zero_iff_testBit, SortNet.and_two_pow_eq_zero_iff_testBit, SortNet.partner_val hs,
      Nat.testBit_xor, Nat.testBit_two_pow_self]
    simp
  let keep : Fin (2 ^ 9) → Bool := fun k => decide (k.val &&& 2 ^ s = 0) == decide (k.val &&& 2 ^ t = 0)
  have hst' : SortNet.stage 9 s (fun i : Fin (2 ^ 9) => decide (i.val &&& 2 ^ t = 0)) = SortNet.stage 9 s keep :=
    SortNet.stage_congr fun k hk => by
      show _ = (decide (k.val &&& 2 ^ s = 0) == decide (k.val &&& 2 ^ t = 0))
      rw [decide_eq_true hk]; simp
  have hkeep : ∀ k, keep (SortNet.partner 9 s k) = !keep k := by
    intro k
    show (decide _ == decide _) = !(decide _ == decide _)
    rw [decide_eq_decide.mpr (hcl k), decide_eq_decide.mpr (partner_bit hs hst k), decide_not]
    cases decide (k.val &&& 2 ^ s = 0) <;> cases decide (k.val &&& 2 ^ t = 0) <;> rfl
  rw [hst', SortNet.apply_stage_select hs keep hkeep]
  have hT : 2 ^ t < 2 ^ 31 := Nat.pow_lt_pow_right (by decide) ht
  have hi : i.val < 2 ^ 31 := lt_trans i.isLt (by decide)
  have h1 : lane (ix2 (0 : Fin 1) (i.cast two_nine.symm)) = BitVec.ofNat 32 i.val := lane_apply _
  have h2 := floorDiv_apply _ _ h1 hi (by positivity) hT
  have h3 := floorMod_apply (s := Mat 1 512) (by decide) _ _ h2 (lt_of_le_of_lt (Nat.div_le_self _ _) hi)
    (by decide : 0 < 2) (by decide)
  have e : laneKeep f (BitVec.ofNat 32 (2 ^ s)) (BitVec.ofNat 32 (2 ^ t)) p (ix2 (0 : Fin 1) (i.cast two_nine.symm))
      = IntOp.xori (IntOp.xori (clear (BitVec.ofNat 32 (2 ^ s)) (ix2 (0 : Fin 1) (i.cast two_nine.symm)))
          (IntOp.xori (IntOp.xori (IntOp.cmpi .eq
            (floorMod (Mat 1 512) (by decide) (floorDiv (Mat 1 512) lane (BitVec.ofNat 32 (2 ^ t))) (BitVec.ofNat 32 2)
              (ix2 (0 : Fin 1) (i.cast two_nine.symm))) 0#32)
            (firstOf p.1 (across f (BitVec.ofNat 32 (2 ^ s)) p.1) p.2 (across f (BitVec.ofNat 32 (2 ^ s)) p.2)
              (ix2 (0 : Fin 1) (i.cast two_nine.symm)))) 1#1)) 1#1 := rfl
  have hbit : decide (i.val &&& 2 ^ t = 0) = decide (i.val / 2 ^ t % 2 = 0) := by
    refine decide_eq_decide.mpr ?_
    rw [SortNet.and_two_pow_eq_zero_iff_testBit, Nat.testBit_eq_decide_div_mod_eq]
    simp
  have hk : laneKeep f (BitVec.ofNat 32 (2 ^ s)) (BitVec.ofNat 32 (2 ^ t)) p (ix2 (0 : Fin 1) (i.cast two_nine.symm))
      = BitVec.ofBool (decide (decide (rowKeys p (SortNet.partner 9 s i) < rowKeys p i) = keep i)) := by
    rw [e, h3, clear_apply s _ hs, firstOf_apply, across_apply hs, across_apply hs]
    show _ = BitVec.ofBool (decide (decide (rowKeys p (SortNet.partner 9 s i) < rowKeys p i)
      = (decide (i.val &&& 2 ^ s = 0) == decide (i.val &&& 2 ^ t = 0))))
    rw [hbit]
    show IntOp.xori (IntOp.xori (BitVec.ofBool (decide (i.val &&& 2 ^ s = 0))) (IntOp.xori (IntOp.xori _
      (BitVec.ofBool (decide (rowKeys p (SortNet.partner 9 s i) < rowKeys p i)))) _)) _ = _
    generalize decide (rowKeys p (SortNet.partner 9 s i) < rowKeys p i) = a
    generalize decide (i.val &&& 2 ^ s = 0) = b
    rcases Nat.mod_two_eq_zero_or_one (i.val / 2 ^ t) with h | h <;> rw [h] <;> cases a <;> cases b <;> decide
  have L : rowKeys (laneStage f (BitVec.ofNat 32 (2 ^ s)) (BitVec.ofNat 32 (2 ^ t)) p) i
      = Scalar.select (laneKeep f (BitVec.ofNat 32 (2 ^ s)) (BitVec.ofNat 32 (2 ^ t)) p
          (ix2 (0 : Fin 1) (i.cast two_nine.symm))) (rowKeys p i) (rowKeys p (SortNet.partner 9 s i)) := by
    unfold rowKeys
    rw [← keyOf_select, ← across_apply hs f p.1, ← across_apply hs f p.2]
    rfl
  rw [L, hk]
  by_cases h : decide (rowKeys p (SortNet.partner 9 s i) < rowKeys p i) = keep i
  · rw [decide_eq_true h, if_pos h]; rfl
  · rw [decide_eq_false h, if_neg h]; rfl

/-- A lane stage of the list is the stage at distance `2 ^ s` towards runs of `2 ^ t` entries. -/
def LaneMatches (st : LaneStep) (q : ℕ × ℕ) : Prop :=
  (st.j = 2 ^ q.1 ∧ st.b = BitVec.ofNat 32 (2 ^ q.1) ∧ st.k = BitVec.ofNat 32 (2 ^ q.2)) ∧
    q.1 < 9 ∧ q.1 < q.2 ∧ q.2 < 31

instance (st : LaneStep) (q : ℕ × ℕ) : Decidable (LaneMatches st q) := by unfold LaneMatches; infer_instance

/-- A list of lane stages is the network of its distances and directions. -/
theorem laneRun_keys {steps : List LaneStep} {qs : List (ℕ × ℕ)} (h : List.Forall₂ LaneMatches steps qs) :
    ∀ p : FVec Ideal (Mat 1 512) .f32 × IVec (Mat 1 512) 32,
      rowKeys (laneRun steps p) = Network.apply (pairNet 9 qs) (rowKeys p) := by
  induction h with
  | nil => intro p; rfl
  | cons hm _ ih =>
    intro p
    rename_i st q steps' qs' _
    obtain ⟨j, b, k, le⟩ := st
    obtain ⟨s, t⟩ := q
    obtain ⟨⟨hj, hw, hk⟩, hs, hst, ht⟩ := hm
    dsimp only at hj hw hk hs hst ht
    subst hj hw hk
    show rowKeys (laneRun steps' (laneStage (LaneFit.of le) _ _ p)) = _
    rw [ih, laneStage_keys hs hst ht]
    show _ = Network.apply (SortNet.stage 9 s _ ++ pairNet 9 qs') _
    rw [Network.apply_append]

theorem laneSteps_matches : List.Forall₂ LaneMatches laneSteps sortPairs :=
  forall₂_of _ _ _ (by decide +kernel) (by decide +kernel)

/-- The row's sort leaves its pairs in descending order. -/
theorem laneSort_keys (p : FVec Ideal (Mat 1 512) .f32 × IVec (Mat 1 512) 32) :
    Antitone (rowKeys (laneRun laneSteps p)) ∧
      List.ofFn (rowKeys (laneRun laneSteps p)) = SortNet.topList 512 (List.ofFn (rowKeys p)) := by
  rw [laneRun_keys laneSteps_matches, pairNet_sort]
  have ha := SortNet.sortNet_apply_antitone 9 (rowKeys p)
  refine ⟨ha, ?_⟩
  obtain ⟨σ, hσ⟩ := Network.exists_perm (sortNet 9 true) (rowKeys p)
  have hp : (List.ofFn (Network.apply (sortNet 9 true) (rowKeys p))).Perm (List.ofFn (rowKeys p)) := by
    rw [hσ]; exact Equiv.Perm.ofFn_comp_perm σ _
  rw [← SortNet.topList_perm hp]
  refine (SortNet.topList_eq_self ?_ List.length_ofFn.le).symm
  exact List.pairwise_ofFn.mpr fun i j hij => ha hij.le

end Cert.Sorting
-- ==== Proof.Select.lean ====
/- What the sorts leave: the value and the place of the entry that a stable sort by descending value puts at each rank. -/
module

public import proofs.«01_k».proof.Proof.Order
public import proofs.«01_k».proof.Proof.LaneValue

@[expose] public section

noncomputable section

namespace Cert.Sorting

open Idealize.ShloMosaic Idealize.ShloMosaic.ValueIdx
open Idealize.ShloMosaic.SortNet (topList)

/-- The place of the entry at a rank, in descending order; of equal entries the earlier comes first. -/
def rank {N : ℕ} (x : Fin N → EReal) : Fin N → Fin N := sortedFrom fun q q' => decide (x q' < x q)

/-- A row's sort: at every lane the entry of that rank, and its place. -/
theorem laneSort_apply (x : FVec Ideal (Mat 1 512) .f32) (i : Fin 512) :
    (laneRun laneSteps (x, lane)).1 (ix2 (0 : Fin 1) i) = x (ix2 (0 : Fin 1) (rank (fun q => x (ix2 (0 : Fin 1) q)) i)) ∧
      (laneRun laneSteps (x, lane)).2 (ix2 (0 : Fin 1) i)
        = BitVec.ofNat 32 (rank (fun q => x (ix2 (0 : Fin 1) q)) i).val := by
  obtain ⟨ha, hl⟩ := laneSort_keys (x, lane)
  have hK : ∀ q : Fin (2 ^ 9), rowKeys (x, lane) q
      = keyOf (x (ix2 (0 : Fin 1) (q.cast two_nine.symm))) (BitVec.ofNat 32 q.val) := by
    intro q
    unfold rowKeys
    exact congrArg (keyOf _) (lane_apply (q.cast two_nine.symm))
  have hp : (List.ofFn (rowKeys (x, lane))).Perm
      (List.ofFn fun q : Fin 512 => keyOf (x (ix2 (0 : Fin 1) q)) (BitVec.ofNat 32 q.val)) := by
    rw [funext hK]
    exact List.Perm.refl _
  have h := keys_eq_sorted (N := 512) (k := 2 ^ 9) (by decide) _ (placeKey_injective (by decide) fun q => x (ix2 (0 : Fin 1) q))
    (fun q => x (ix2 (0 : Fin 1) q)) (fun q q' => decide (x (ix2 (0 : Fin 1) q') < x (ix2 (0 : Fin 1) q)))
    (fun _ _ => rfl) (placeKey_lt (by decide) fun q => x (ix2 (0 : Fin 1) q)) _ ha _ hl hp (i.cast two_nine)
  exact keyOf_inj h

/-- The row and the column of a place among 512 rows of 512. -/
def placeRow (q : Fin 262144) : Fin 512 := ⟨q.val / 512, by have := q.isLt; omega⟩
def placeCol (q : Fin 262144) : Fin 512 := ⟨q.val % 512, Nat.mod_lt _ (by decide)⟩
/-- The place of a row and a column. -/
def placeAt (r c : Fin 512) : Fin 262144 := ⟨r.val * 512 + c.val, by have := r.isLt; have := c.isLt; omega⟩

theorem placeRow_at (r c : Fin 512) : placeRow (placeAt r c) = r := by
  apply Fin.ext; show (r.val * 512 + c.val) / 512 = r.val; have := c.isLt; omega
theorem placeCol_at (r c : Fin 512) : placeCol (placeAt r c) = c := by
  apply Fin.ext; show (r.val * 512 + c.val) % 512 = c.val; have := c.isLt; omega
theorem placeAt_rowCol (q : Fin 262144) : placeAt (placeRow q) (placeCol q) = q := by
  apply Fin.ext; show q.val / 512 * 512 + q.val % 512 = q.val; omega

/-- The square written row after row. -/
def flat (x : FVec Ideal (Mat 512 512) .f32) (q : Fin 262144) : EReal := x (ix2 (placeRow q) (placeCol q))

/-- The number at a place of the square. -/
theorem places_apply (r c : Fin 512) : places (ix2 r c) = BitVec.ofNat 32 (placeAt r c).val := by
  have e : places (ix2 r c) = BitVec.ofNat 32 r.val * 512#32 + BitVec.ofNat 32 c.val := by
    unfold places
    show (iota .tc (Mat 512 512) 32 [0] _) (ix2 r c) * 512#32 + (iota .tc (Mat 512 512) 32 [1] _) (ix2 r c) = _
    rw [iota_single_apply, iota_single_apply]
  rw [e, show (512#32 : BitVec 32) = BitVec.ofNat 32 512 from rfl, BitVec.ofNat_mul_ofNat, BitVec.ofNat_add_ofNat]
  rfl

/-- The columns of the square together are all its places. -/
theorem columns_perm {β : Type} (f : Fin 262144 → β) :
    ∑ c : Fin 512, (List.ofFn (fun r : Fin 512 => f (placeAt r c)) : Multiset β) = (List.ofFn f : Multiset β) := by
  have h1 : ∀ {n : ℕ} (g : Fin n → β), (List.ofFn g : Multiset β) = ∑ i, {g i} := by
    intro n g
    rw [← Multiset.sum_map_singleton (List.ofFn g : Multiset β), Multiset.map_coe, List.map_ofFn, Multiset.sum_coe,
      List.sum_ofFn]
    rfl
  simp only [h1]
  rw [Finset.sum_comm, ← Fintype.sum_prod_type' (fun r c : Fin 512 => ({f (placeAt r c)} : Multiset β))]
  refine Fintype.sum_bijective (fun p : Fin 512 × Fin 512 => placeAt p.1 p.2) ⟨?_, fun q => ?_⟩ _ _ fun _ => rfl
  · intro p p' h
    have h : placeAt p.1 p.2 = placeAt p'.1 p'.2 := h
    have h1 := congrArg placeRow h
    have h2 := congrArg placeCol h
    rw [placeRow_at, placeRow_at] at h1
    rw [placeCol_at, placeCol_at] at h2
    exact Prod.ext h1 h2
  · exact ⟨(placeRow q, placeCol q), placeAt_rowCol q⟩

/-- The best of the square: at every row the entry of that rank among all of them, and its place. -/
theorem best_apply (x : FVec Ideal (Mat 512 512) .f32) (i : Fin 512) :
    (best (x, places)).1 (ix2 i (0 : Fin 1)) = flat x (rank (flat x) (i.castLE (by decide))) ∧
      (best (x, places)).2 (ix2 i (0 : Fin 1)) = BitVec.ofNat 32 (rank (flat x) (i.castLE (by decide))).val := by
  obtain ⟨ha, l, hl, hT⟩ := best_keys (x, places)
  have hK : ∀ (c : Fin 512) (r : Fin (2 ^ 9)), colKeys two_nine (x, places) c r
      = (fun q => keyOf (flat x q) (BitVec.ofNat 32 q.val)) (placeAt (r.cast two_nine.symm) c) := by
    intro c r
    rw [colKeys_at two_nine _ c r (r.cast two_nine.symm) rfl]
    show keyOf (x _) (places _) = keyOf (flat x _) _
    rw [places_apply]
    unfold flat
    rw [placeRow_at, placeCol_at]
  have hp : l.Perm (List.ofFn fun q : Fin 262144 => keyOf (flat x q) (BitVec.ofNat 32 q.val)) := by
    refine Multiset.coe_eq_coe.mp (hT.trans ?_)
    rw [← columns_perm]
    refine Finset.sum_congr rfl fun c _ => ?_
    rw [funext (hK c)]
    rfl
  have h := keys_eq_sorted (N := 262144) (k := 2 ^ 9) (by decide) _ (placeKey_injective (by decide) (flat x))
    (flat x) (fun q q' => decide (flat x q' < flat x q))
    (fun _ _ => rfl) (placeKey_lt (by decide) (flat x)) _ ha l hl hp (i.cast two_nine)
  rw [colKeys_at two_nine _ 0 (i.cast two_nine) i rfl] at h
  exact keyOf_inj h

end Cert.Sorting
-- ==== Proof.Spec.lean ====
/- The search over three heads as plain functions on extended reals: the activation, a head's scores, the order of the
   scores, the beams after each head and the table of results. -/
module

public import proofs.«01_k».proof.Proof.Select

@[expose] public section

noncomputable section

namespace Cert.Beam

open Idealize.ShloMosaic Idealize.ShloMosaic.ValueIdx Cert.Sorting

/-- The activation's scale. -/
def scaleS : EReal := Ideal.ofBits .f32 0x3F867D5F#32
/-- The activation's coefficient below zero. -/
def scaleA : EReal := Ideal.ofBits .f32 0x3FD62D7D#32

/-- The activation. -/
def act (x : EReal) : EReal := if 0 < x then scaleS * x else scaleS * (scaleA * (Ideal.exp x - 1))

/-- The logarithm of the soft maximum of a row. -/
def lsm (x : Fin 512 → EReal) (c : Fin 512) : EReal :=
  Ideal.log (Ideal.div
    (Ideal.exp (x c - Finset.univ.fold max (Ideal.ofBits .f32 0xFF800000#32) x))
    (∑ k, Ideal.exp (x k - Finset.univ.fold max (Ideal.ofBits .f32 0xFF800000#32) x)))

/-- A row times a matrix. -/
def dense {K N : ℕ} (x : Fin K → EReal) (w : FVec Ideal (Mat K N) .f32) (n : Fin N) : EReal :=
  ∑ k, x k * w (ix2 k n)

/-- A head's logits from its first layer's sums. -/
def outs (pre : Fin 256 → EReal) (w2 : FVec Ideal (Mat 256 256) .f32) (b2 : Fin 256 → EReal)
    (w3 : FVec Ideal (Mat 256 512) .f32) (b3 : Fin 512 → EReal) (n : Fin 512) : EReal :=
  dense (fun j => act (dense (fun k => act (pre k)) w2 j + b2 j)) w3 n + b3 n

/-- A head's scores from its first layer's sums. -/
def head (pre : Fin 256 → EReal) (w2 : FVec Ideal (Mat 256 256) .f32) (b2 : Fin 256 → EReal)
    (w3 : FVec Ideal (Mat 256 512) .f32) (b3 : Fin 512 → EReal) : Fin 512 → EReal :=
  lsm (outs pre w2 b2 w3 b3)

/-- The entries of a vector. -/
abbrev ent {n : ℕ} (b : FVec Ideal (Lst n) .f32) (i : Fin n) : EReal := b (ix1 i)

/-- The sum over the inputs of the first layer, against the first rows of a matrix. -/
def base {K : ℕ} (h : 41538 ≤ K) (x : FVec Ideal (Lst 41538) .f32) (w : FVec Ideal (Mat K 256) .f32) (n : Fin 256) : EReal :=
  ∑ k : Fin 41538, x (ix1 k) * w (ix2 (k.castLE h) n)

/-- The row of the second head's matrix that belongs to a note. -/
def rowA (m : Fin 512) : Fin 42050 := ⟨41538 + m.val, by have := m.isLt; omega⟩
/-- The rows of the third head's matrix that belong to a first and to a second note. -/
def rowB (m : Fin 512) : Fin 42562 := ⟨41538 + m.val, by have := m.isLt; omega⟩
def rowC (m : Fin 512) : Fin 42562 := ⟨42050 + m.val, by have := m.isLt; omega⟩

section
variable (x0 : FVec Ideal (Lst 41538) .f32)
  (x1 : FVec Ideal (Mat 41538 256) .f32) (x2 : FVec Ideal (Lst 256) .f32) (x3 : FVec Ideal (Mat 256 256) .f32)
  (x4 : FVec Ideal (Lst 256) .f32) (x5 : FVec Ideal (Mat 256 512) .f32) (x6 : FVec Ideal (Lst 512) .f32)
  (x7 : FVec Ideal (Mat 42050 256) .f32) (x8 : FVec Ideal (Lst 256) .f32) (x9 : FVec Ideal (Mat 256 256) .f32)
  (x10 : FVec Ideal (Lst 256) .f32) (x11 : FVec Ideal (Mat 256 512) .f32) (x12 : FVec Ideal (Lst 512) .f32)
  (x13 : FVec Ideal (Mat 42562 256) .f32) (x14 : FVec Ideal (Lst 256) .f32) (x15 : FVec Ideal (Mat 256 256) .f32)
  (x16 : FVec Ideal (Lst 256) .f32) (x17 : FVec Ideal (Mat 256 512) .f32) (x18 : FVec Ideal (Lst 512) .f32)

/-- The first head's scores. -/
def score0 : Fin 512 → EReal :=
  head (fun n => base (le_refl _) x0 x1 n + ent x2 n) x3 (ent x4) x5 (ent x6)

/-- The candidates of the second head, given the beams' scores and notes. -/
def cand1 (r : Fin 512 → EReal) (m : Fin 512 → Fin 512) (q : Fin 262144) : EReal :=
  head (fun n => (base (by decide) x0 x7 n + x7 (ix2 (rowA (m (placeRow q))) n)) + ent x8 n) x9 (ent x10) x11 (ent x12)
    (placeCol q) + r (placeRow q)

/-- The candidates of the third head, given the beams' scores, first notes and second notes. -/
def cand2 (r : Fin 512 → EReal) (m m' : Fin 512 → Fin 512) (q : Fin 262144) : EReal :=
  head (fun n => ((base (by decide) x0 x13 n + x13 (ix2 (rowB (m (placeRow q))) n)) + x13 (ix2 (rowC (m' (placeRow q))) n))
      + ent x14 n) x15 (ent x16) x17 (ent x18)
    (placeCol q) + r (placeRow q)

end

/-- The places of the best 512 candidates, in order. -/
def top (x : Fin 262144 → EReal) (i : Fin 512) : Fin 262144 := rank x (i.castLE (by decide))

/-- A number as an extended real. -/
def num (n : ℕ) : EReal := ((n : ℝ) : EReal)

section
variable (x0 : FVec Ideal (Lst 41538) .f32)
  (x1 : FVec Ideal (Mat 41538 256) .f32) (x2 : FVec Ideal (Lst 256) .f32) (x3 : FVec Ideal (Mat 256 256) .f32)
  (x4 : FVec Ideal (Lst 256) .f32) (x5 : FVec Ideal (Mat 256 512) .f32) (x6 : FVec Ideal (Lst 512) .f32)
  (x7 : FVec Ideal (Mat 42050 256) .f32) (x8 : FVec Ideal (Lst 256) .f32) (x9 : FVec Ideal (Mat 256 256) .f32)
  (x10 : FVec Ideal (Lst 256) .f32) (x11 : FVec Ideal (Mat 256 512) .f32) (x12 : FVec Ideal (Lst 512) .f32)
  (x13 : FVec Ideal (Mat 42562 256) .f32) (x14 : FVec Ideal (Lst 256) .f32) (x15 : FVec Ideal (Mat 256 256) .f32)
  (x16 : FVec Ideal (Lst 256) .f32) (x17 : FVec Ideal (Mat 256 512) .f32) (x18 : FVec Ideal (Lst 512) .f32)

/-- The first head's beams: their notes and their scores. -/
def note0 : Fin 512 → Fin 512 := rank (score0 x0 x1 x2 x3 x4 x5 x6)
def best0 (i : Fin 512) : EReal := score0 x0 x1 x2 x3 x4 x5 x6 (note0 x0 x1 x2 x3 x4 x5 x6 i)

/-- The second head's candidates and the places of the best. -/
def cands1 : Fin 262144 → EReal := cand1 x0 x7 x8 x9 x10 x11 x12 (best0 x0 x1 x2 x3 x4 x5 x6) (note0 x0 x1 x2 x3 x4 x5 x6)
def top1 : Fin 512 → Fin 262144 := top (cands1 x0 x1 x2 x3 x4 x5 x6 x7 x8 x9 x10 x11 x12)
def best1 (i : Fin 512) : EReal := cands1 x0 x1 x2 x3 x4 x5 x6 x7 x8 x9 x10 x11 x12 (top1 x0 x1 x2 x3 x4 x5 x6 x7 x8 x9 x10 x11 x12 i)
def first1 (i : Fin 512) : Fin 512 := note0 x0 x1 x2 x3 x4 x5 x6 (placeRow (top1 x0 x1 x2 x3 x4 x5 x6 x7 x8 x9 x10 x11 x12 i))
def second1 (i : Fin 512) : Fin 512 := placeCol (top1 x0 x1 x2 x3 x4 x5 x6 x7 x8 x9 x10 x11 x12 i)

/-- The third head's candidates and the places of the best. -/
def cands2 : Fin 262144 → EReal := cand2 x0 x13 x14 x15 x16 x17 x18 (best1 x0 x1 x2 x3 x4 x5 x6 x7 x8 x9 x10 x11 x12) (first1 x0 x1 x2 x3 x4 x5 x6 x7 x8 x9 x10 x11 x12) (second1 x0 x1 x2 x3 x4 x5 x6 x7 x8 x9 x10 x11 x12)
def top2 : Fin 512 → Fin 262144 := top (cands2 x0 x1 x2 x3 x4 x5 x6 x7 x8 x9 x10 x11 x12 x13 x14 x15 x16 x17 x18)

/-- The table: a line's score and its three notes. -/
def line (i : Fin 512) : Fin 4 → EReal
  | 0 => cands2 x0 x1 x2 x3 x4 x5 x6 x7 x8 x9 x10 x11 x12 x13 x14 x15 x16 x17 x18 (top2 x0 x1 x2 x3 x4 x5 x6 x7 x8 x9 x10 x11 x12 x13 x14 x15 x16 x17 x18 i)
  | 1 => num (first1 x0 x1 x2 x3 x4 x5 x6 x7 x8 x9 x10 x11 x12 (placeRow (top2 x0 x1 x2 x3 x4 x5 x6 x7 x8 x9 x10 x11 x12 x13 x14 x15 x16 x17 x18 i))).val
  | 2 => num (second1 x0 x1 x2 x3 x4 x5 x6 x7 x8 x9 x10 x11 x12 (placeRow (top2 x0 x1 x2 x3 x4 x5 x6 x7 x8 x9 x10 x11 x12 x13 x14 x15 x16 x17 x18 i))).val
  | 3 => num (placeCol (top2 x0 x1 x2 x3 x4 x5 x6 x7 x8 x9 x10 x11 x12 x13 x14 x15 x16 x17 x18 i)).val

end

end Cert.Beam
-- ==== Proof.HeadValue.lean ====
/- The parts of the three calls read entry by entry: the scores of a head, the entries picked by an index, one-hot rows,
   a column repeated, and the row and the column of a place. -/
module

public import proofs.«01_k».proof.Proof.Spec
public import proofs.«01_k».proof.Proof.StageValue
public import Idealize.ShloMosaic.Lib.IdealHost
public import Idealize.ShloMosaic.Lib.MatmulPlain
public import Idealize.ShloMosaic.Lib.WordCmp

@[expose] public section

noncomputable section

namespace Cert.Beam

open Idealize.ShloMosaic Idealize.ShloMosaic.ValueIdx Idealize.ShloMosaic.WordCmp Cert.Sorting

/-- The word of a small number, as a number. -/
theorem toReal_ofNat {k : ℕ} (h : k < 2 ^ 31) : (((BitVec.ofNat 32 k).toInt : ℝ) : EReal) = num k := by
  rw [toInt_small h]
  unfold num
  norm_cast

/-- A small number as a word again. -/
theorem fptosi_num {k : ℕ} (h : k < 2 ^ 31) : Ideal.fptosi 32 (num k) = BitVec.ofNat 32 k := by
  unfold Ideal.fptosi num
  rw [Ideal.toIntClamped_coe, if_pos (Nat.cast_nonneg k), Int.floor_natCast]
  rw [show max (-((2 ^ (32 - 1) : ℕ) : ℤ)) (min (((2 ^ (32 - 1) : ℕ) : ℤ) - 1) (k : ℤ)) = (k : ℤ) by
    norm_num at h ⊢; omega]
  exact BitVec.ofInt_natCast 32 k

/-- The activation of a call, where its scale below zero is the product of the two. -/
theorem selu_apply (s : Shape) (a : EReal) (ha : a = scaleS * scaleA) (x : FVec Ideal s .f32) (i : s.Idx) :
    selu (F := Ideal) s a x i = act (x i) := by
  unfold selu
  show Scalar.select (Ideal.cmp .ogt (x i) (Ideal.ofBits .f32 0x00000000#32)) (scaleS * x i)
    (a * (Ideal.exp (x i) - Ideal.ofBits .f32 0x3F800000#32)) = _
  have h1 : Ideal.ofBits .f32 0x3F800000#32 = 1 := Ideal.ofBits_one_f32
  rw [Ideal.ofBits_zero_f32, h1, ha]
  unfold act
  show Scalar.select (BitVec.ofBool (decide (0 < x i))) _ _ = _
  by_cases h : 0 < x i
  · rw [if_pos h, decide_eq_true h]; rfl
  · rw [if_neg h, decide_eq_false h, mul_assoc]; rfl

theorem times_apply (n K N : ℕ) (x : FVec Ideal (Mat n K) .f32) (w : FVec Ideal (Mat K N) .f32) (r : Fin n) (c : Fin N) :
    times n K N x w (ix2 r c) = dense (fun k => x (ix2 r k)) w c := by
  unfold times dense
  refine (Ideal.matmul_plain_apply none x w _ r c).trans ?_
  rw [show (constant (Mat n N) .f32 0x00000000#32 : FVec Ideal (Mat n N) .f32) (ix2 r c) = 0 from Ideal.ofBits_zero_f32]
  exact zero_add _

theorem logits_apply (n : ℕ) (a : EReal) (ha : a = scaleS * scaleA) (h : FVec Ideal (Mat n 256) .f32)
    (w2 : FVec Ideal (Mat 256 256) .f32) (b2 : FVec Ideal (Mat n 256) .f32) (w3 : FVec Ideal (Mat 256 512) .f32)
    (b3 : FVec Ideal (Mat n 512) .f32) (r : Fin n) (c : Fin 512) :
    logits (F := Ideal) n a h w2 b2 w3 b3 (ix2 r c)
      = outs (fun k => h (ix2 r k)) w2 (fun j => b2 (ix2 r j)) w3 (fun j => b3 (ix2 r j)) c := by
  unfold logits outs
  show times n 256 512 _ w3 (ix2 r c) + b3 (ix2 r c) = _
  rw [times_apply]
  congr 2
  funext j
  rw [selu_apply _ a ha]
  congr 1
  show times n 256 256 _ w2 (ix2 r j) + b2 (ix2 r j) = _
  rw [times_apply]
  congr 2
  funext k
  exact selu_apply _ a ha _ _

theorem column_apply {α : Type} {n : ℕ} (h : (Mat n 1).Broadcasts (Mat n 512)) (x : (Mat n 1).Idx → α) (r : Fin n)
    (c : Fin 512) : broadcastTo (Mat n 512) x h (ix2 r c) = x (ix2 r (0 : Fin 1)) := by
  refine broadcastTo_apply x h _ _ fun a => ?_
  fin_cases a
  · show r.val = if n = 1 then 0 else r.val
    have := r.isLt
    split <;> omega
  · rfl

theorem toColumn_apply {α : Type} {n : ℕ} (h : (Lst n).ShapeCasts (Mat n 1)) (x : (Lst n).Idx → α) (r : Fin n) :
    shapeCast (Mat n 1) x h (ix2 r (0 : Fin 1)) = x (ix1 r) := by
  refine shapeCast_apply x h _ _ ?_
  rw [Shape.rowMajor_val_one, Shape.rowMajor_val_two]
  show r.val = r.val * 1 + 0
  omega

theorem logSoft_apply {n : ℕ} (f : HeadFit n) (x : FVec Ideal (Mat n 512) .f32) (r : Fin n) (c : Fin 512) :
    logSoft (F := Ideal) f x (ix2 r c) = lsm (fun k => x (ix2 r k)) c := by
  have hl : ∀ k : Fin 512, f.red.lift (ix1 r) k = ix2 r k := by
    intro k
    funext b
    apply Fin.ext
    fin_cases b <;> rfl
  have hm : ∀ k : Fin 512, broadcastTo (Mat n 512)
      (shapeCast (Mat n 1) (multiReduction .maximumf [1] (Lst n) x 0xFF800000#32 f.red (.inl rfl) rfl) f.col) f.out (ix2 r k)
      = Finset.univ.fold max (Ideal.ofBits .f32 0xFF800000#32) fun k => x (ix2 r k) := by
    intro k
    rw [column_apply, toColumn_apply]
    refine (Ideal.multiReduction_maximumf_single x _ f.red (.inl rfl) rfl (ix1 r)).trans ?_
    refine congrArg (fun g => Finset.univ.fold max (Ideal.ofBits .f32 0xFF800000#32) g) (funext fun k => ?_)
    exact congrArg x (hl k)
  unfold logSoft lsm
  show Ideal.log (Ideal.div (Ideal.exp (x (ix2 r c) - broadcastTo (Mat n 512) _ f.out (ix2 r c)))
    (broadcastTo (Mat n 512) _ f.out (ix2 r c))) = _
  rw [hm, column_apply, toColumn_apply]
  refine congrArg (fun z => Ideal.log (Ideal.div _ z)) ?_
  refine (Ideal.multiReduction_add_single _ _ f.red (.inl rfl) rfl (ix1 r)).trans ?_
  refine Finset.sum_congr rfl fun k _ => ?_
  rw [hl k]
  exact congrArg (fun z => Ideal.exp (x (ix2 r k) - z)) (hm k)

theorem self_eq {α : Type} (n L : ℕ) (x : (Mat n L).Idx → α) : self n L x = x := by
  funext i
  exact shapeCast_apply x rfl i i rfl

theorem repeated_apply (L : ℕ) (h : (Mat 1 L).Broadcasts (Mat 512 L)) (x : FVec Ideal (Mat 1 L) .f32) (r : Fin 512)
    (c : Fin L) : repeated L h x (ix2 r c) = x (ix2 (0 : Fin 1) c) := by
  unfold repeated
  refine broadcastTo_apply x h _ _ fun a => ?_
  fin_cases a
  · rfl
  · show c.val = if L = 1 then 0 else c.val
    have := c.isLt
    split <;> omega

theorem rows_apply (r : Fin 512) : rows (ix2 r (0 : Fin 1)) = BitVec.ofNat 32 r.val := by
  unfold rows
  rw [iota_single_apply]

/-- Where a lane's number is a row's index. -/
theorem isLane_apply (i : IVec (Mat 512 1) 32) (r c k : Fin 512) (hk : i (ix2 r (0 : Fin 1)) = BitVec.ofNat 32 k.val)
    (hi : (Mat 512 512).Iotas .tc 32 [1]) (hb : (Mat 512 1).Broadcasts (Mat 512 512)) :
    cmpi .eq (iota .tc (Mat 512 512) 32 [1] hi) (broadcastTo (Mat 512 512) i hb) (ix2 r c)
      = BitVec.ofBool (decide (c = k)) := by
  show IntOp.cmpi .eq (iota .tc (Mat 512 512) 32 [1] hi (ix2 r c)) (broadcastTo (Mat 512 512) i hb (ix2 r c)) = _
  rw [iota_single_apply, column_apply, hk]
  have := c.isLt
  have := k.isLt
  refine (cmpi_eq_ofNat (w := 32) (by show c.val < 2 ^ 32; omega) (by omega)).trans ?_
  exact congrArg BitVec.ofBool (decide_eq_decide.mpr Fin.ext_iff.symm)

theorem pick_apply (i : IVec (Mat 512 1) 32) (x : FVec Ideal (Mat 1 512) .f32) (r k : Fin 512)
    (hk : i (ix2 r (0 : Fin 1)) = BitVec.ofNat 32 k.val) :
    pick i x (ix2 r (0 : Fin 1)) = x (ix2 (0 : Fin 1) k) := by
  unfold pick
  rw [toColumn_apply]
  refine (Ideal.multiReduction_add_single _ _ HeadFit.many.red (.inl rfl) rfl (ix1 r)).trans ?_
  refine (Finset.sum_congr rfl (g := fun c : Fin 512 => if c = k then x (ix2 (0 : Fin 1) k) else 0) fun c _ => ?_).trans ?_
  · have hl : HeadFit.many.red.lift (ix1 r) c = ix2 r c := by
      funext b; apply Fin.ext; fin_cases b <;> rfl
    rw [hl]
    show Scalar.select (cmpi .eq (iota .tc (Mat 512 512) 32 [1] _) (broadcastTo (Mat 512 512) i _) (ix2 r c))
      (broadcastTo (Mat 512 512) (self 1 512 x) _ (ix2 r c)) (Ideal.ofBits .f32 0x00000000#32) = _
    rw [isLane_apply i r c k hk, Ideal.ofBits_zero_f32, self_eq, select_decide]
    by_cases h : c = k
    · rw [if_pos h, if_pos h, ← h]
      exact repeated_apply 512 _ x r c
    · rw [if_neg h, if_neg h]
  · exact (Finset.sum_ite_eq' (Finset.univ : Finset (Fin 512)) k _).trans (if_pos (Finset.mem_univ k))

theorem oneHot_apply (i : IVec (Mat 512 1) 32) (r c k : Fin 512) (hk : i (ix2 r (0 : Fin 1)) = BitVec.ofNat 32 k.val) :
    oneHot (F := Ideal) i (ix2 r c) = if c = k then 1 else 0 := by
  unfold oneHot
  show Scalar.select (cmpi .eq (iota .tc (Mat 512 512) 32 [1] _) (broadcastTo (Mat 512 512) i _) (ix2 r c))
    (Ideal.ofBits .f32 0x3F800000#32) (Ideal.ofBits .f32 0x00000000#32) = _
  have h1 : Ideal.ofBits .f32 0x3F800000#32 = 1 := Ideal.ofBits_one_f32
  rw [isLane_apply i r c k hk, select_decide, h1, Ideal.ofBits_zero_f32]

/-- A one-hot row times a matrix is the row it names. -/
theorem oneHot_sum (k : Fin 512) (w : Fin 512 → EReal) : ∑ m : Fin 512, (if m = k then (1 : EReal) else 0) * w m = w k := by
  simp [ite_mul, Finset.sum_ite_eq']

theorem wide_apply (x : FVec Ideal (Mat 512 1) .f32) (r : Fin 512) (c : Fin 128) :
    wide x (ix2 r c) = x (ix2 r (0 : Fin 1)) := by
  unfold wide
  rw [self_eq]
  refine broadcastTo_apply x _ _ _ fun a => ?_
  fin_cases a <;> rfl

theorem beamOf_apply (i : IVec (Mat 512 1) 32) (r : Fin 512) (q : Fin 262144)
    (hq : i (ix2 r (0 : Fin 1)) = BitVec.ofNat 32 q.val) :
    beamOf i (ix2 r (0 : Fin 1)) = BitVec.ofNat 32 (placeRow q).val := by
  unfold beamOf
  have := q.isLt
  exact floorDiv_apply i (ix2 r (0 : Fin 1)) hq (by omega) (by decide) (by decide)

theorem noteOf_apply (i : IVec (Mat 512 1) 32) (r : Fin 512) (q : Fin 262144)
    (hq : i (ix2 r (0 : Fin 1)) = BitVec.ofNat 32 q.val) :
    noteOf i (ix2 r (0 : Fin 1)) = BitVec.ofNat 32 (placeCol q).val := by
  unfold noteOf
  have := q.isLt
  exact floorMod_apply _ i (ix2 r (0 : Fin 1)) hq (by omega) (by decide) (by decide)

end Cert.Beam
-- ==== Proof.CallValue.lean ====
/- The results of the three calls after the products, entry by entry: the sorted scores of the first head, and the best
   candidates of the second and the third head with the notes of their beams. -/
module

public import proofs.«01_k».proof.Proof.HeadValue

@[expose] public section

noncomputable section

namespace Cert.Beam

open Idealize.ShloMosaic Idealize.ShloMosaic.ValueIdx Idealize.ShloMosaic.WordCmp Cert.Sorting

/-- The first head's call stores its scores in descending order and the place of each. -/
theorem startOut_apply (a : EReal) (ha : a = scaleS * scaleA) (v0 : FVec Ideal (Mat 1 256) .f32) (v1 : FVec Ideal (Mat 1 640) .f32)
    (v2 : FVec Ideal (Mat 640 256) .f32) (v3 : FVec Ideal (Mat 1 256) .f32) (v4 : FVec Ideal (Mat 256 256) .f32)
    (v5 : FVec Ideal (Mat 1 256) .f32) (v6 : FVec Ideal (Mat 256 512) .f32) (v7 : FVec Ideal (Mat 1 512) .f32)
    (pre : Fin 256 → EReal) (b2 : Fin 256 → EReal) (b3 : Fin 512 → EReal)
    (hpre : ∀ n, (v0 (ix2 (0 : Fin 1) n) + dense (fun k => v1 (ix2 (0 : Fin 1) k)) v2 n) + v3 (ix2 (0 : Fin 1) n) = pre n)
    (h2 : ∀ j, v5 (ix2 (0 : Fin 1) j) = b2 j) (h3 : ∀ j, v7 (ix2 (0 : Fin 1) j) = b3 j) (i : Fin 512) :
    (startOut (F := Ideal) a v0 v1 v2 v3 v4 v5 v6 v7).1 (ix2 (0 : Fin 1) i)
        = head pre v4 b2 v6 b3 (rank (head pre v4 b2 v6 b3) i) ∧
      (startOut (F := Ideal) a v0 v1 v2 v3 v4 v5 v6 v7).2 (ix2 (0 : Fin 1) i)
        = BitVec.ofNat 32 (rank (head pre v4 b2 v6 b3) i).val := by
  have e : (fun q => startScores (F := Ideal) a v0 v1 v2 v3 v4 v5 v6 v7 (ix2 (0 : Fin 1) q)) = head pre v4 b2 v6 b3 := by
    funext q
    unfold startScores head
    rw [logSoft_apply]
    refine congrArg (fun g => lsm g q) (funext fun c => ?_)
    rw [logits_apply _ a ha]
    simp only [self_eq]
    have hp : (fun k => addf (addf v0 (times 1 640 256 v1 v2)) v3 (ix2 (0 : Fin 1) k)) = pre := by
      funext k
      refine Eq.trans ?_ (hpre k)
      show (v0 _ + times 1 640 256 v1 v2 (ix2 (0 : Fin 1) k)) + v3 _ = _
      rw [times_apply]
    rw [hp, funext h2, funext h3]
  have h := laneSort_apply (startScores (F := Ideal) a v0 v1 v2 v3 v4 v5 v6 v7) i
  rw [e] at h
  exact ⟨h.1.trans (congrFun e _), h.2⟩

/-- The candidates of a head on 512 beams. -/
theorem candidates_apply (K : ℕ) (a : EReal) (ha : a = scaleS * scaleA) (x : FVec Ideal (Mat 512 K) .f32)
    (score : FVec Ideal (Mat 512 1) .f32)
    (v0 : FVec Ideal (Mat 1 256) .f32) (v2 : FVec Ideal (Mat K 256) .f32) (v3 : FVec Ideal (Mat 1 256) .f32)
    (v4 : FVec Ideal (Mat 256 256) .f32) (v5 : FVec Ideal (Mat 1 256) .f32) (v6 : FVec Ideal (Mat 256 512) .f32)
    (v7 : FVec Ideal (Mat 1 512) .f32) (r c : Fin 512) :
    candidates (F := Ideal) K a x score v0 v2 v3 v4 v5 v6 v7 (ix2 r c)
      = head (fun n => (v0 (ix2 (0 : Fin 1) n) + dense (fun k => x (ix2 r k)) v2 n) + v3 (ix2 (0 : Fin 1) n)) v4
          (fun j => v5 (ix2 (0 : Fin 1) j)) v6 (fun j => v7 (ix2 (0 : Fin 1) j)) c + score (ix2 r (0 : Fin 1)) := by
  unfold candidates
  show logSoft (F := Ideal) HeadFit.many _ (ix2 r c) + broadcastTo (Mat 512 512) score _ (ix2 r c) = _
  rw [column_apply, logSoft_apply]
  unfold head
  refine congrArg (· + score (ix2 r (0 : Fin 1))) (congrArg (fun g => lsm g c) (funext fun c => ?_))
  rw [logits_apply _ a ha]
  simp only [repeated_apply, self_eq]
  refine congrArg (fun g => outs g v4 _ v6 _ c) (funext fun k => ?_)
  unfold firstLayer
  simp only [self_eq]
  show (repeated 256 _ v0 (ix2 r k) + times 512 K 256 x v2 (ix2 r k)) + repeated 256 _ v3 (ix2 r k) = _
  rw [times_apply, repeated_apply, repeated_apply]

/-- The best of a square of candidates that are a family written row after row. -/
theorem best_of (x : FVec Ideal (Mat 512 512) .f32) (cand : Fin 262144 → EReal)
    (h : ∀ r c, x (ix2 r c) = cand (placeAt r c)) (i : Fin 512) :
    (best (x, places)).1 (ix2 i (0 : Fin 1)) = cand (top cand i) ∧
      (best (x, places)).2 (ix2 i (0 : Fin 1)) = BitVec.ofNat 32 (top cand i).val := by
  have e : flat x = cand := by
    funext q
    unfold flat
    rw [h, placeAt_rowCol]
  have hb := best_apply x i
  rw [e] at hb
  exact hb

/-- A row of features and a one-hot row against a matrix: the features' sum and the row named. -/
theorem dense_two (x : FVec Ideal (Mat 512 1152) .f32) (w : FVec Ideal (Mat 1152 256) .f32) (r m : Fin 512) (y : Fin 640 → EReal)
    (hy : ∀ k : Fin 640, x (ix2 r (k.castLE (by decide) : Fin 1152)) = y k)
    (hm : ∀ k : Fin 512, x (ix2 r (⟨640 + k.val, by have := k.isLt; omega⟩ : Fin 1152)) = if k = m then 1 else 0)
    (n : Fin 256) : dense (fun k => x (ix2 r k)) w n
      = (∑ k : Fin 640, y k * w (ix2 (k.castLE (by decide) : Fin 1152) n))
        + w (ix2 (⟨640 + m.val, by have := m.isLt; omega⟩ : Fin 1152) n) := by
  unfold dense
  refine (Fin.sum_univ_add (a := 640) (b := 512) (fun k : Fin 1152 => x (ix2 r k) * w (ix2 k n))).trans ?_
  refine congrArg₂ (· + ·) (Finset.sum_congr rfl fun k _ => ?_) ?_
  · exact congrArg (· * _) (hy k)
  · refine (Finset.sum_congr rfl fun k _ => ?_).trans
      (oneHot_sum m fun k => w (ix2 (⟨640 + k.val, by have := k.isLt; omega⟩ : Fin 1152) n))
    exact congrArg (· * _) (hm k)

/-- A row of features and two one-hot rows against a matrix. -/
theorem dense_three (x : FVec Ideal (Mat 512 1664) .f32) (w : FVec Ideal (Mat 1664 256) .f32) (r m m' : Fin 512)
    (y : Fin 640 → EReal)
    (hy : ∀ k : Fin 640, x (ix2 r (k.castLE (by decide) : Fin 1664)) = y k)
    (hm : ∀ k : Fin 512, x (ix2 r (⟨640 + k.val, by have := k.isLt; omega⟩ : Fin 1664)) = if k = m then 1 else 0)
    (hm' : ∀ k : Fin 512, x (ix2 r (⟨1152 + k.val, by have := k.isLt; omega⟩ : Fin 1664)) = if k = m' then 1 else 0)
    (n : Fin 256) : dense (fun k => x (ix2 r k)) w n
      = ((∑ k : Fin 640, y k * w (ix2 (k.castLE (by decide) : Fin 1664) n))
          + w (ix2 (⟨640 + m.val, by have := m.isLt; omega⟩ : Fin 1664) n))
        + w (ix2 (⟨1152 + m'.val, by have := m'.isLt; omega⟩ : Fin 1664) n) := by
  unfold dense
  refine (Fin.sum_univ_add (a := 1152) (b := 512) (fun k : Fin 1664 => x (ix2 r k) * w (ix2 k n))).trans ?_
  refine congrArg₂ (· + ·) ?_ ?_
  · refine (Fin.sum_univ_add (a := 640) (b := 512)
      (fun k : Fin 1152 => x (ix2 r (k.castLE (by decide) : Fin 1664)) * w (ix2 (k.castLE (by decide) : Fin 1664) n))).trans ?_
    refine congrArg₂ (· + ·) (Finset.sum_congr rfl fun k _ => ?_) ?_
    · exact congrArg (· * _) (hy k)
    · refine (Finset.sum_congr rfl fun k _ => ?_).trans
        (oneHot_sum m fun k => w (ix2 (⟨640 + k.val, by have := k.isLt; omega⟩ : Fin 1664) n))
      exact congrArg (· * _) (hm k)
  · refine (Finset.sum_congr rfl fun k _ => ?_).trans
      (oneHot_sum m' fun k => w (ix2 (⟨1152 + k.val, by have := k.isLt; omega⟩ : Fin 1664) n))
    exact congrArg (· * _) (hm' k)

section
variable (a : EReal) (ha : a = scaleS * scaleA) (w8 : FVec Ideal (Mat 1 512) .f32)
  (v0 : FVec Ideal (Mat 1 256) .f32) (v1 : FVec Ideal (Mat 1 640) .f32)
  (v3 : FVec Ideal (Mat 1 256) .f32) (v4 : FVec Ideal (Mat 256 256) .f32) (v5 : FVec Ideal (Mat 1 256) .f32)
  (v6 : FVec Ideal (Mat 256 512) .f32) (v7 : FVec Ideal (Mat 1 512) .f32)
  (m m' : Fin 512 → Fin 512) (s : Fin 512 → EReal) (pre : Fin 512 → Fin 256 → EReal) (b2 : Fin 256 → EReal) (b3 : Fin 512 → EReal)

/-- The candidates of a head given its first layer's sums on every beam. -/
def family (q : Fin 262144) : EReal := head (pre (placeRow q)) v4 b2 v6 b3 (placeCol q) + s (placeRow q)

include ha in
/-- The second head's call stores the best candidates: their scores, their beams' notes and their own notes. -/
theorem sourceOut_apply (v2 : FVec Ideal (Mat 1152 256) .f32) (w9 : IVec (Mat 1 512) 32)
    (hm : ∀ i, w9 (ix2 (0 : Fin 1) i) = BitVec.ofNat 32 (m i).val) (hs : ∀ i, w8 (ix2 (0 : Fin 1) i) = s i)
    (hpre : ∀ r n, (v0 (ix2 (0 : Fin 1) n)
        + ((∑ k : Fin 640, v1 (ix2 (0 : Fin 1) k) * v2 (ix2 (k.castLE (by decide) : Fin 1152) n))
          + v2 (ix2 (⟨640 + (m r).val, by have := (m r).isLt; omega⟩ : Fin 1152) n))) + v3 (ix2 (0 : Fin 1) n) = pre r n)
    (h2 : ∀ j, v5 (ix2 (0 : Fin 1) j) = b2 j) (h3 : ∀ j, v7 (ix2 (0 : Fin 1) j) = b3 j) (i : Fin 512) (c : Fin 128) :
    (sourceOut (F := Ideal) a w9 w8 v0 v1 v2 v3 v4 v5 v6 v7 w9).1 (ix2 i c)
        = family v4 v6 s pre b2 b3 (top (family v4 v6 s pre b2 b3) i) ∧
      (sourceOut (F := Ideal) a w9 w8 v0 v1 v2 v3 v4 v5 v6 v7 w9).2.1 (ix2 i c)
        = num (m (placeRow (top (family v4 v6 s pre b2 b3) i))).val ∧
      (sourceOut (F := Ideal) a w9 w8 v0 v1 v2 v3 v4 v5 v6 v7 w9).2.2 (ix2 i c)
        = num (placeCol (top (family v4 v6 s pre b2 b3) i)).val := by
  have hf : ∀ k, (sitofp (F := Ideal) .f32 (self 1 512 w9) : FVec Ideal (Mat 1 512) .f32) (ix2 (0 : Fin 1) k) = num (m k).val := by
    intro k
    rw [self_eq]
    show (((w9 (ix2 (0 : Fin 1) k)).toInt : ℝ) : EReal) = _
    rw [hm, toReal_ofNat (by have := (m k).isLt; omega)]
  have hb := best_of (candidates (F := Ideal) 1152 a
    (concatenate (Mat 512 1152) 1
      [⟨Mat 512 640, repeated 640 (by decide) (self 1 640 (self 1 640 v1))⟩,
        ⟨Mat 512 512, oneHot (fptosi 32 (pick rows (sitofp (F := Ideal) .f32 (self 1 512 w9))))⟩] concatenates_two)
    (pick rows (self 1 512 w8)) v0 v2 v3 v4 v5 v6 v7) (family v4 v6 s pre b2 b3) (by
      intro r c
      rw [candidates_apply _ a ha]
      unfold family
      rw [placeRow_at, placeCol_at, pick_apply rows _ r r (rows_apply r), self_eq 1 512 w8, hs, funext h2, funext h3]
      refine congrArg (· + s r) (congrArg (fun g => head g v4 b2 v6 b3 c) (funext fun n => ?_))
      refine Eq.trans ?_ (hpre r n)
      refine congrArg (fun z => (v0 _ + z) + v3 _) ?_
      refine dense_two _ v2 r (m r) (fun k => v1 (ix2 (0 : Fin 1) k)) (fun k => ?_) (fun k => ?_) n
      · refine (concatenate_pair_apply_left (s₁ := Mat 512 640) (s₂ := Mat 512 512) 1 _ _ concatenates_two
          (ix2 r (k.castLE (by decide) : Fin 1152)) rfl (ix2 r k) (fun a => ?_)).trans ?_
        · fin_cases a <;> rfl
        · rw [repeated_apply, self_eq, self_eq]
      · refine (concatenate_pair_apply_right (s₁ := Mat 512 640) (s₂ := Mat 512 512) 1 _ _ concatenates_two
          (ix2 r (⟨640 + k.val, by have := k.isLt; omega⟩ : Fin 1152)) rfl rfl (ix2 r k) ?_ ?_).trans ?_
        · intro a ha; fin_cases a; rfl; exact absurd rfl ha
        · exact Nat.add_comm _ _
        · refine oneHot_apply _ r k (m r) ?_
          refine (congrArg (Ideal.fptosi 32) (?_ : _ = num (m r).val)).trans (fptosi_num (by have := (m r).isLt; omega))
          rw [pick_apply rows _ r r (rows_apply r), hf]) i
  unfold sourceOut sourceBest
  dsimp only
  rw [wide_apply, wide_apply, wide_apply]
  refine ⟨hb.1, ?_, ?_⟩
  · rw [pick_apply _ _ i (placeRow (top (family v4 v6 s pre b2 b3) i)) (beamOf_apply _ i _ hb.2)]
    exact hf _
  · show (((noteOf _ (ix2 i (0 : Fin 1))).toInt : ℝ) : EReal) = _
    rw [noteOf_apply _ i _ hb.2]
    exact toReal_ofNat (by have := (placeCol (top (family v4 v6 s pre b2 b3) i)).isLt; omega)

include ha in
/-- The third head's call stores the best candidates: their scores, their beams' two notes and their own notes. -/
theorem targetOut_apply (v2 : FVec Ideal (Mat 1664 256) .f32) (w9 w10 : FVec Ideal (Mat 1 512) .f32)
    (hm : ∀ i, w9 (ix2 (0 : Fin 1) i) = num (m i).val) (hm' : ∀ i, w10 (ix2 (0 : Fin 1) i) = num (m' i).val)
    (hs : ∀ i, w8 (ix2 (0 : Fin 1) i) = s i)
    (hpre : ∀ r n, (v0 (ix2 (0 : Fin 1) n)
        + (((∑ k : Fin 640, v1 (ix2 (0 : Fin 1) k) * v2 (ix2 (k.castLE (by decide) : Fin 1664) n))
          + v2 (ix2 (⟨640 + (m r).val, by have := (m r).isLt; omega⟩ : Fin 1664) n))
          + v2 (ix2 (⟨1152 + (m' r).val, by have := (m' r).isLt; omega⟩ : Fin 1664) n))) + v3 (ix2 (0 : Fin 1) n) = pre r n)
    (h2 : ∀ j, v5 (ix2 (0 : Fin 1) j) = b2 j) (h3 : ∀ j, v7 (ix2 (0 : Fin 1) j) = b3 j) (i : Fin 512) (c : Fin 128) :
    (targetOut (F := Ideal) a w8 w9 w10 v0 v1 v2 v3 v4 v5 v6 v7 w9 w10).1 (ix2 i c)
        = family v4 v6 s pre b2 b3 (top (family v4 v6 s pre b2 b3) i) ∧
      (targetOut (F := Ideal) a w8 w9 w10 v0 v1 v2 v3 v4 v5 v6 v7 w9 w10).2.1 (ix2 i c)
        = num (m (placeRow (top (family v4 v6 s pre b2 b3) i))).val ∧
      (targetOut (F := Ideal) a w8 w9 w10 v0 v1 v2 v3 v4 v5 v6 v7 w9 w10).2.2.1 (ix2 i c)
        = num (m' (placeRow (top (family v4 v6 s pre b2 b3) i))).val ∧
      (targetOut (F := Ideal) a w8 w9 w10 v0 v1 v2 v3 v4 v5 v6 v7 w9 w10).2.2.2 (ix2 i c)
        = num (placeCol (top (family v4 v6 s pre b2 b3) i)).val := by
  have note : ∀ (w : FVec Ideal (Mat 1 512) .f32) (u : Fin 512 → Fin 512) (_ : ∀ i, w (ix2 (0 : Fin 1) i) = num (u i).val)
      (r k : Fin 512), oneHot (F := Ideal) (fptosi 32 (pick rows (self 1 512 w))) (ix2 r k) = if k = u r then 1 else 0 := by
    intro w u hu r k
    refine oneHot_apply _ r k (u r) ?_
    refine (congrArg (Ideal.fptosi 32) (?_ : _ = num (u r).val)).trans (fptosi_num (by have := (u r).isLt; omega))
    rw [pick_apply rows _ r r (rows_apply r), self_eq, hu]
  let cols (w9 w10 : FVec Ideal (Mat 1 512) .f32) : List ((t : Shape) × (t.Idx → Ideal .f32)) :=
    [⟨Mat 512 640, repeated 640 (by decide) (self 1 640 (self 1 640 v1))⟩,
        ⟨Mat 512 512, oneHot (fptosi 32 (pick rows (self 1 512 w9)))⟩,
        ⟨Mat 512 512, oneHot (fptosi 32 (pick rows (self 1 512 w10)))⟩]
  have hb := best_of (candidates (F := Ideal) 1664 a
    (concatenate (Mat 512 1664) 1
      [⟨Mat 512 640, repeated 640 (by decide) (self 1 640 (self 1 640 v1))⟩,
        ⟨Mat 512 512, oneHot (fptosi 32 (pick rows (self 1 512 w9)))⟩,
        ⟨Mat 512 512, oneHot (fptosi 32 (pick rows (self 1 512 w10)))⟩] concatenates_three)
    (pick rows (self 1 512 w8)) v0 v2 v3 v4 v5 v6 v7) (family v4 v6 s pre b2 b3) (by
      intro r c
      rw [candidates_apply _ a ha]
      unfold family
      rw [placeRow_at, placeCol_at, pick_apply rows _ r r (rows_apply r), self_eq 1 512 w8, hs, funext h2, funext h3]
      refine congrArg (· + s r) (congrArg (fun g => head g v4 b2 v6 b3 c) (funext fun n => ?_))
      refine Eq.trans ?_ (hpre r n)
      refine congrArg (fun z => (v0 _ + z) + v3 _) ?_
      refine dense_three _ v2 r (m r) (m' r) (fun k => v1 (ix2 (0 : Fin 1) k)) (fun k => ?_) (fun k => ?_) (fun k => ?_) n
      · refine (concatenate_apply_piece 1 (cols w9 w10) concatenates_three (ix2 r (k.castLE (by decide) : Fin 1664))  0 (show 0 < 3 by decide)
          (Mat 512 640) _ rfl rfl 0 rfl (ix2 r k) (fun b hb => ?_) (Nat.zero_add _)).trans ?_
        · fin_cases b; rfl; exact absurd rfl hb
        · rw [repeated_apply, self_eq, self_eq]
      · refine (concatenate_apply_piece 1 (cols w9 w10) concatenates_three
          (ix2 r (⟨640 + k.val, by have := k.isLt; omega⟩ : Fin 1664))  1 (show 1 < 3 by decide)
          (Mat 512 512) _ rfl rfl 640 rfl (ix2 r k) (fun b hb => ?_) rfl).trans (note w9 m hm r k)
        fin_cases b; rfl; exact absurd rfl hb
      · refine (concatenate_apply_piece 1 (cols w9 w10) concatenates_three
          (ix2 r (⟨1152 + k.val, by have := k.isLt; omega⟩ : Fin 1664))  2 (show 2 < 3 by decide)
          (Mat 512 512) _ rfl rfl 1152 rfl (ix2 r k) (fun b hb => ?_) rfl).trans (note w10 m' hm' r k)
        fin_cases b; rfl; exact absurd rfl hb) i
  unfold targetOut targetBest
  dsimp only
  rw [wide_apply, wide_apply, wide_apply, wide_apply]
  refine ⟨hb.1, ?_, ?_, ?_⟩
  · rw [pick_apply _ _ i (placeRow (top (family v4 v6 s pre b2 b3) i)) (beamOf_apply _ i _ hb.2), self_eq]
    exact hm _
  · rw [pick_apply _ _ i (placeRow (top (family v4 v6 s pre b2 b3) i)) (beamOf_apply _ i _ hb.2), self_eq]
    exact hm' _
  · show (((noteOf _ (ix2 i (0 : Fin 1))).toInt : ℝ) : EReal) = _
    rw [noteOf_apply _ i _ hb.2]
    exact toReal_ofNat (by have := (placeCol (top (family v4 v6 s pre b2 b3) i)).isLt; omega)

end

end Cert.Beam
-- ==== Proof.Joins.lean ====
/- Reading joined, cut and reshaped arrays entry by entry, and the first layer's sum over all inputs from its two parts:
   the first 40960 inputs, and the rest padded with zeros. -/
module

public import proofs.«01_k».proof.Proof.Spec
public import Idealize.ShloMosaic.Lib.Routing.Ops
public import Idealize.ShloMosaic.Lib.ValueIdx

@[expose] public section

noncomputable section

namespace Cert.Beam

open Idealize.ShloMosaic Idealize.ShloMosaic.ValueIdx Cert.Sorting
open scoped BigOperators

variable {α : Type}

/-- A vector as a row. -/
theorem row_apply {n : ℕ} (x : (Lst n).Idx → α) (h : (Lst n).ShapeCasts (Mat 1 n)) (i : Fin n) :
    shapeCast (Mat 1 n) x h (ix2 (0 : Fin 1) i) = x (ix1 i) := by
  refine shapeCast_apply _ _ _ (ix1 i) ?_
  rw [Shape.rowMajor_val_one, Shape.rowMajor_val_two]
  show _ = 0 * _ + _
  rw [Nat.zero_mul, Nat.zero_add]; rfl

/-- The first column of a table, as a vector. -/
theorem first_col {n L : ℕ} (x : (Mat n L).Idx → α) (h : (Mat n L).Slices ![0, 0] (Mat n 1)) (h' : (Mat n 1).ShapeCasts (Lst n))
    (hL : 0 < L) (i : Fin n) :
    shapeCast (Lst n) (extractStridedSlice (Mat n 1) ![0, 0] x h) h' (ix1 i) = x (ix2 i (⟨0, hL⟩ : Fin L)) := by
  refine (shapeCast_apply _ _ _ (ix2 i (0 : Fin 1)) ?_).trans ?_
  · rw [Shape.rowMajor_val_one, Shape.rowMajor_val_two]
    show i.val * 1 + 0 = i.val
    omega
  · exact extractStridedSlice_apply _ _ _ _ _ (fun a => match a with
      | ⟨0, _⟩ => (Nat.zero_add _).symm
      | ⟨1, _⟩ => rfl)

/-- Rows cut out of a matrix. -/
theorem rows_from {K N M : ℕ} (o : ℕ) (x : (Mat K M).Idx → α) (h : (Mat K M).Slices ![o, 0] (Mat N M)) (k : Fin N) (n : Fin M)
    (hk : o + k.val < K) : extractStridedSlice (Mat N M) ![o, 0] x h (ix2 k n) = x (ix2 (⟨o + k.val, hk⟩ : Fin K) n) :=
  extractStridedSlice_apply _ _ _ _ _ (fun a => match a with
    | ⟨0, _⟩ => rfl
    | ⟨1, _⟩ => (Nat.zero_add _).symm)

/-- Entries cut out of a vector. -/
theorem entries_from {K N : ℕ} (o : ℕ) (x : (Lst K).Idx → α) (h : (Lst K).Slices ![o] (Lst N)) (k : Fin N)
    (hk : o + k.val < K) : extractStridedSlice (Lst N) ![o] x h (ix1 k) = x (ix1 (⟨o + k.val, hk⟩ : Fin K)) :=
  extractStridedSlice_apply _ _ _ _ _ (fun a => match a with | ⟨0, _⟩ => rfl)

/-- A piece of matrices stacked on one another. -/
theorem stacked {T N M : ℕ} (xs : List ((t : Shape) × (t.Idx → α))) (h : Shape.Concatenates (xs.map (·.1)) (Mat T M) 0)
    (q : ℕ) (hq : q < xs.length) (y : (Mat N M).Idx → α) (hy : xs[q] = ⟨Mat N M, y⟩) (pre : ℕ)
    (hpre : (((xs.take q).map (·.1)).map fun s => if h : s.rank = (Mat T M).rank then s.size ((0 : Fin (Mat T M).rank).cast h.symm) else 0).sum = pre)
    (k : Fin N) (n : Fin M) (r : Fin T) (hr : pre + k.val = r.val) :
    concatenate (Mat T M) 0 xs h (ix2 r n) = y (ix2 k n) :=
  concatenate_apply_piece 0 xs h (ix2 r n) q hq (Mat N M) y hy rfl pre hpre (ix2 k n)
    (fun a ha => by match a with | ⟨0, _⟩ => exact absurd rfl ha | ⟨1, _⟩ => rfl) hr

/-- A piece of vectors joined. -/
theorem joined {T N : ℕ} (xs : List ((t : Shape) × (t.Idx → α))) (h : Shape.Concatenates (xs.map (·.1)) (Lst T) 0)
    (q : ℕ) (hq : q < xs.length) (y : (Lst N).Idx → α) (hy : xs[q] = ⟨Lst N, y⟩) (pre : ℕ)
    (hpre : (((xs.take q).map (·.1)).map fun s => if h : s.rank = (Lst T).rank then s.size ((0 : Fin (Lst T).rank).cast h.symm) else 0).sum = pre)
    (k : Fin N) (r : Fin T) (hr : pre + k.val = r.val) :
    concatenate (Lst T) 0 xs h (ix1 r) = y (ix1 k) :=
  concatenate_apply_piece 0 xs h (ix1 r) q hq (Lst N) y hy rfl pre hpre (ix1 k)
    (fun a ha => by match a with | ⟨0, _⟩ => exact absurd rfl ha) hr

/-- The sum over the first 40960 inputs and the padded sum over the other 578 make the whole sum. -/
theorem base_eq {K : ℕ} (h : 41538 ≤ K) (x : FVec Ideal (Lst 41538) .f32) (w : FVec Ideal (Mat K 256) .f32) (n : Fin 256)
    (p : EReal) (u v : Fin 640 → EReal)
    (hp : p = ∑ i : Fin 40960, x (ix1 (⟨i.val, Nat.lt_trans i.isLt (by decide)⟩ : Fin 41538))
      * w (ix2 (⟨i.val, Nat.lt_of_lt_of_le (Nat.lt_trans i.isLt (by decide)) h⟩ : Fin K) n))
    (hu : ∀ k : Fin 578, u (⟨k.val, Nat.lt_trans k.isLt (by decide)⟩ : Fin 640)
      = x (ix1 (⟨40960 + k.val, by have := k.isLt; omega⟩ : Fin 41538)))
    (hz : ∀ k : Fin 62, u (⟨578 + k.val, by have := k.isLt; omega⟩ : Fin 640) = 0)
    (hv : ∀ k : Fin 578, v (⟨k.val, Nat.lt_trans k.isLt (by decide)⟩ : Fin 640)
      = w (ix2 (⟨40960 + k.val, by have := k.isLt; omega⟩ : Fin K) n)) :
    p + ∑ k : Fin 640, u k * v k = base h x w n := by
  have e1 : ∑ k : Fin 640, u k * v k = ∑ k : Fin 578, x (ix1 (⟨40960 + k.val, by have := k.isLt; omega⟩ : Fin 41538))
      * w (ix2 (⟨40960 + k.val, by have := k.isLt; omega⟩ : Fin K) n) := by
    refine (Fin.sum_univ_add (a := 578) (b := 62) (fun k : Fin 640 => u k * v k)).trans ?_
    refine (congrArg₂ (fun a b : EReal => a + b) (Finset.sum_congr rfl fun k _ => ?_)
      (Finset.sum_eq_zero fun k _ => ?_)).trans (add_zero _)
    · exact congrArg₂ (fun a b : EReal => a * b) (hu k) (hv k)
    · exact (congrArg (fun a : EReal => a * _) (hz k)).trans (zero_mul _)
  rw [hp, e1]
  exact (Fin.sum_univ_add (a := 40960) (b := 578)
    (fun k : Fin 41538 => x (ix1 k) * w (ix2 (k.castLE h) n))).symm

end Cert.Beam
-- ==== Proof.RefParts.lean ====
/- The array operations of the reference, read entry by entry: the activation, a layer, the logarithm of the soft maximum,
   the order of the scores, the entries taken at given places, and one-hot rows. -/
module

public import proofs.«01_k».proof.Proof.HeadValue
public import proofs.«01_k».proof.ReferenceIdeal
public import Idealize.ShloMosaic.Lib.KernelVsHost
public import Idealize.ShloMosaic.Lib.StackMember
public import Idealize.ShloMosaic.Lib.ValueIdxRank1
public import Idealize.ShloMosaic.Lib.Routing.OpsSearch
public import Idealize.ShloMosaic.Lib.Routing.Words

@[expose] public section

noncomputable section

namespace Cert.Beam

open Idealize.ShloMosaic Idealize.ShloMosaic.ValueIdx Idealize.ShloMosaic.WordCmp Cert.Sorting
open Idealize.ShloMosaic.Routing (shape0 bc0 bcCol bcRows bcCols pyRem pyDiv pyRem_ap pyDiv_ap take_ap)
open Cert.ReferenceIdeal (comparator_f32_i32_d0)

/-- The activation of an array. -/
def hostSelu (s : Shape) (h : shape0.BroadcastsInDim s ![]) (x : FVec Ideal s .f32) : FVec Ideal s .f32 :=
  mulf (broadcastInDim s ![] h (constant shape0 .f32 0x3F867D5F#32))
    (select (cmpf .ogt x (broadcastInDim s ![] h (constant shape0 .f32 0x00000000#32))) x
      (mulf (broadcastInDim s ![] h (id (constant shape0 .f32 0x3FD62D7D#32)))
        (Host.expm1 (select (cmpf .ogt x (broadcastInDim s ![] h (constant shape0 .f32 0x00000000#32)))
          (broadcastInDim s ![] h (id (constant shape0 .f32 0x00000000#32))) x))))

theorem hostSelu_apply (s : Shape) (h : shape0.BroadcastsInDim s ![]) (x : FVec Ideal s .f32) (i : s.Idx) :
    hostSelu s h x i = act (x i) := by
  unfold hostSelu
  show scaleS * Scalar.select (Ideal.cmp .ogt (x i) (Ideal.ofBits .f32 0x00000000#32)) (x i)
    (scaleA * (Ideal.exp (Scalar.select (Ideal.cmp .ogt (x i) (Ideal.ofBits .f32 0x00000000#32))
      (Ideal.ofBits .f32 0x00000000#32) (x i)) - 1)) = _
  rw [Ideal.ofBits_zero_f32]
  show scaleS * Scalar.select (BitVec.ofBool (decide (0 < x i))) _ (scaleA * (Ideal.exp
    (Scalar.select (BitVec.ofBool (decide (0 < x i))) _ _) - 1)) = _
  unfold act
  by_cases h : 0 < x i
  · rw [if_pos h, decide_eq_true h]; rfl
  · rw [if_neg h, decide_eq_false h]; rfl

/-- The logarithm of the soft maximum of each row of a square. -/
def hostSoft (x : FVec Ideal (Mat 512 512) .f32) (hr : (Mat 512 512).ReducesTo [1] (Lst 512)) (h0 : 0 < shape0.numel)
    (hb : shape0.BroadcastsInDim (Lst 512) ![]) (hc : (Lst 512).BroadcastsInDim (Mat 512 1) ![0])
    (hw : (Mat 512 1).BroadcastsInDim (Mat 512 512) ![0, 1]) : FVec Ideal (Mat 512 512) .f32 :=
  let e := Host.exp (subf x (broadcastInDim (Mat 512 512) ![0, 1] hw (broadcastInDim (Mat 512 1) ![0] hc
    (maximumf (broadcastInDim (Lst 512) ![] hb (constant shape0 .f32 0xFF800000#32))
      (Host.reduce FloatOps.maximumf x (constant shape0 .f32 0xFF800000#32) hr h0)))))
  Host.log (Host.divf e (broadcastInDim (Mat 512 512) ![0, 1] hw (broadcastInDim (Mat 512 1) ![0] hc
    (Host.reduceAdd e (constant shape0 .f32 0x00000000#32) hr h0))))

theorem bottom_max (g : Fin 512 → EReal) : max (Ideal.ofBits .f32 0xFF800000#32)
    (Finset.univ.fold max (Ideal.ofBits .f32 0xFF800000#32) g) = Finset.univ.fold max (Ideal.ofBits .f32 0xFF800000#32) g := by
  refine max_eq_right ?_
  exact Finset.le_fold_max _ |>.mpr (Or.inl le_rfl)

theorem rows_red : (Mat 512 512).Reduces [1] (Lst 512) := by decide

theorem hostSoft_apply (x : FVec Ideal (Mat 512 512) .f32) (hr h0 hb hc hw) (r c : Fin 512) :
    hostSoft x hr h0 hb hc hw (ix2 r c) = lsm (fun k => x (ix2 r k)) c := by
  have hl : ∀ k : Fin 512, rows_red.lift (ix1 r) k = ix2 r k := by
    intro k
    funext b
    apply Fin.ext
    fin_cases b <;> rfl
  have hm : maximumf (broadcastInDim (Lst 512) ![] hb (constant shape0 .f32 0xFF800000#32))
      (Host.reduce FloatOps.maximumf x (constant shape0 .f32 0xFF800000#32) hr h0) (ix1 r)
      = Finset.univ.fold max (Ideal.ofBits .f32 0xFF800000#32) fun k => x (ix2 r k) := by
    refine Eq.trans ?_ (bottom_max _)
    refine congrArg (max (Ideal.ofBits .f32 0xFF800000#32)) ?_
    refine (Host.reduce_eq_fold_single (max : EReal → EReal → EReal) x _ hr rows_red h0 (ix1 r)).trans ?_
    refine congrArg (fun g => Finset.univ.fold max (Ideal.ofBits .f32 0xFF800000#32) g) (funext fun k => ?_)
    exact congrArg x (hl k)
  have he : ∀ k : Fin 512, Host.exp (subf x (broadcastInDim (Mat 512 512) ![0, 1] hw (broadcastInDim (Mat 512 1) ![0] hc
      (maximumf (broadcastInDim (Lst 512) ![] hb (constant shape0 .f32 0xFF800000#32))
        (Host.reduce FloatOps.maximumf x (constant shape0 .f32 0xFF800000#32) hr h0))))) (ix2 r k)
      = Ideal.exp (x (ix2 r k) - Finset.univ.fold max (Ideal.ofBits .f32 0xFF800000#32) fun k => x (ix2 r k)) := by
    intro k
    refine congrArg (fun z => Ideal.exp (x (ix2 r k) - z)) ?_
    exact (bcRows hc hw _ r k).trans hm
  unfold hostSoft lsm
  refine congrArg Ideal.log (congrArg₂ Ideal.div (he c) ?_)
  refine (bcRows hc hw _ r c).trans ?_
  refine (Ideal.hostReduceAdd_single hr rows_red _ _ (ix1 r)).trans ?_
  refine Eq.trans (congrArg (· + _) Ideal.ofBits_zero_f32) ((zero_add _).trans ?_)
  refine Finset.sum_congr rfl fun k _ => ?_
  rw [hl k]
  exact he k

/-- The logarithm of the soft maximum of a row. -/
def hostSoftRow (x : FVec Ideal (Lst 512) .f32) (hr : (Lst 512).ReducesTo [0] shape0) (h0 : 0 < shape0.numel)
    (hb : shape0.BroadcastsInDim (Lst 1) ![]) (hw : (Lst 1).BroadcastsInDim (Lst 512) ![0]) : FVec Ideal (Lst 512) .f32 :=
  let e := Host.exp (subf x (broadcastInDim (Lst 512) ![0] hw (broadcastInDim (Lst 1) ![] hb
    (maximumf (constant shape0 .f32 0xFF800000#32)
      (Host.reduce FloatOps.maximumf x (constant shape0 .f32 0xFF800000#32) hr h0)))))
  Host.log (Host.divf e (broadcastInDim (Lst 512) ![0] hw (broadcastInDim (Lst 1) ![] hb
    (Host.reduceAdd e (constant shape0 .f32 0x00000000#32) hr h0))))

theorem spread_apply {α : Type} (hb : shape0.BroadcastsInDim (Lst 1) ![]) (hw : (Lst 1).BroadcastsInDim (Lst 512) ![0])
    (v : shape0.Idx → α) (c : Fin 512) :
    broadcastInDim (Lst 512) ![0] hw (broadcastInDim (Lst 1) ![] hb v) (ix1 c) = v ix0 :=
  (broadcastInDim_apply _ hw _ _ (ix1 (0 : Fin 1)) fun a => by fin_cases a; rfl).trans (bc0 hb v _)

theorem hostSoftRow_apply (x : FVec Ideal (Lst 512) .f32) (hr h0 hb hw) (c : Fin 512) :
    hostSoftRow x hr h0 hb hw (ix1 c) = lsm (fun k => x (ix1 k)) c := by
  have hm : maximumf (constant shape0 .f32 0xFF800000#32)
      (Host.reduce FloatOps.maximumf x (constant shape0 .f32 0xFF800000#32) hr h0) ix0
      = Finset.univ.fold max (Ideal.ofBits .f32 0xFF800000#32) fun k => x (ix1 k) := by
    refine Eq.trans ?_ (bottom_max _)
    refine congrArg (max (Ideal.ofBits .f32 0xFF800000#32)) ?_
    refine (Host.reduce_eq_fold (max : EReal → EReal → EReal) x _ hr h0 ix0).trans ?_
    rw [Finset.filter_true_of_mem fun i _ => funext fun b => b.elim0,
      ← Finset.univ_map_equiv_to_embedding (idxEquiv1 (n := 512)).symm, Finset.fold_map]
    rfl
  have he : ∀ k : Fin 512, Host.exp (subf x (broadcastInDim (Lst 512) ![0] hw (broadcastInDim (Lst 1) ![] hb
      (maximumf (constant shape0 .f32 0xFF800000#32)
        (Host.reduce FloatOps.maximumf x (constant shape0 .f32 0xFF800000#32) hr h0))))) (ix1 k)
      = Ideal.exp (x (ix1 k) - Finset.univ.fold max (Ideal.ofBits .f32 0xFF800000#32) fun k => x (ix1 k)) := by
    intro k
    refine congrArg (fun z => Ideal.exp (x (ix1 k) - z)) ?_
    exact (spread_apply hb hw _ k).trans hm
  unfold hostSoftRow lsm
  refine congrArg Ideal.log (congrArg₂ Ideal.div (he c) ?_)
  refine (spread_apply hb hw _ c).trans ?_
  refine (Ideal.hostReduceAdd_total hr (fun b => b.elim0) _ _ ix0).trans ?_
  refine Eq.trans (congrArg (· + _) Ideal.ofBits_zero_f32) ((zero_add _).trans ?_)
  rw [← Equiv.sum_comp (idxEquiv1 (n := 512)).symm]
  exact Finset.sum_congr rfl fun k _ => he k

/-- The places of a list's entries in descending order. -/
theorem argsort_apply {N : ℕ} (v : FVec Ideal (Lst N) .f32) (i : Fin N) :
    (Host.sort2 (Lst N) 0 (comparator_f32_i32_d0 (F := Ideal)) (Host.negf v) (iotaInDim (Lst N) 32 0)).2 (ix1 i)
      = BitVec.ofNat 32 (rank (fun q => v (ix1 q)) i).val := by
  have al : ∀ (k : Fin N), (ix1 i : (Lst N).Idx).along (0 : Fin 1) k = ix1 k := fun k =>
    (Shape.Idx.along_rank1 _ k).trans (Routing.ofFin_eq_ix1 k)
  have hc : ∀ (a b : EReal) (u w : BitVec 32), comparator_f32_i32_d0 (F := Ideal) (a, u) (b, w) = BitVec.ofBool (decide (a < b)) := by
    intro a b u w
    have sel : ∀ (p q : BitVec 1) (x z : EReal), p = BitVec.ofBool (decide (x = z)) → q = 0#1 →
        Scalar.select q (Ideal.ofBits .f32 0x7FC00000#32) (Scalar.select p z x) = x := by
      intro p q x z hp hq
      subst hp hq
      by_cases h : x = z
      · subst h; rw [decide_eq_true rfl]; rfl
      · rw [decide_eq_false h]; rfl
    have ne : ∀ x : EReal, Ideal.cmp .une x x = 0#1 := by
      intro x
      simp [Ideal.cmp]
    unfold comparator_f32_i32_d0
    show Ideal.cmp .olt (Scalar.select _ _ _) (Scalar.select _ _ _) = _
    exact congrArg₂ (Ideal.cmp .olt) (sel _ _ a _ rfl (ne a)) (sel _ _ b _ rfl (ne b))
  unfold Host.sort2
  simp only
  rw [dif_pos (show 0 < (Lst N).rank from Nat.zero_lt_one)]
  have al' : ∀ k : Fin N, (ix1 i : (Lst N).Idx).along (⟨0, Nat.zero_lt_one⟩ : Fin (Lst N).rank) k = ix1 k := al
  simp only [al']
  refine congrArg (fun k : Fin N => BitVec.ofNat 32 k.val) ?_
  unfold rank
  refine congrArg (fun f => sortedFrom f i) (funext fun q => funext fun q' => ?_)
  refine (congrArg (· == 1#1) (hc _ _ _ _)).trans ?_
  rw [al' q, al' q']
  show (BitVec.ofBool (decide (-(v (ix1 q)) < -(v (ix1 q')))) == 1#1) = decide (v (ix1 q') < v (ix1 q))
  by_cases h : v (ix1 q') < v (ix1 q)
  · rw [decide_eq_true h, decide_eq_true (EReal.neg_lt_neg_iff.mpr h)]; rfl
  · rw [decide_eq_false h, decide_eq_false (fun h' => h (EReal.neg_lt_neg_iff.mp h'))]; rfl

/-- The places to take, with a negative place counted from the end. -/
def hostPlaces {n : ℕ} (hb : shape0.BroadcastsInDim (Lst n) ![]) (hc : (Lst n).BroadcastsInDim (Mat n 1) ![0]) (N : BitVec 32)
    (x : IVec (Lst n) 32) : IVec (Mat n 1) 32 :=
  broadcastInDim (Mat n 1) ![0] hc (select (cmpi .slt x (broadcastInDim (Lst n) ![] hb (constantI shape0 32 0#32)))
    (addi x (broadcastInDim (Lst n) ![] hb (constantI shape0 32 N))) x)

theorem hostPlaces_apply {n : ℕ} (hb hc) (N : BitVec 32) (x : IVec (Lst n) 32) (i : Fin n) {k : ℕ} (hk : k < 2 ^ 31)
    (hx : x (ix1 i) = BitVec.ofNat 32 k) : hostPlaces hb hc N x (ix2 i (0 : Fin 1)) = BitVec.ofNat 32 k := by
  unfold hostPlaces
  refine (bcCol hc _ i).trans ?_
  show Scalar.select (IntOp.cmpi .slt (x (ix1 i)) 0#32) _ (x (ix1 i)) = _
  rw [hx, show (0#32 : BitVec 32) = BitVec.ofNat 32 0 from rfl, cmpi_slt_ofNat (w := 32) hk (by decide)]
  simp only [Nat.not_lt_zero, decide_false]
  rfl

/-- One-hot rows. -/
def hostOneHot (hc : (Lst 512).BroadcastsInDim (Mat 512 1) ![0]) (hw : (Mat 512 1).BroadcastsInDim (Mat 512 512) ![0, 1])
    (hl : (Mat 1 512).BroadcastsInDim (Mat 512 512) ![0, 1]) (x : IVec (Lst 512) 32) : FVec Ideal (Mat 512 512) .f32 :=
  uitofp .f32 (cmpi .eq (broadcastInDim (Mat 512 512) ![0, 1] hw (broadcastInDim (Mat 512 1) ![0] hc x))
    (broadcastInDim (Mat 512 512) ![0, 1] hl (iotaInDim (Mat 1 512) 32 1)))

theorem hostOneHot_apply (hc hw hl) (x : IVec (Lst 512) 32) (r c k : Fin 512) (hx : x (ix1 r) = BitVec.ofNat 32 k.val) :
    hostOneHot hc hw hl x (ix2 r c) = if c = k then 1 else 0 := by
  unfold hostOneHot
  have e1 := bcRows hc hw x r c
  have e2 : broadcastInDim (Mat 512 512) ![0, 1] hl (iotaInDim (Mat 1 512) 32 1) (ix2 r c) = BitVec.ofNat 32 c.val :=
    broadcastInDim_apply _ hl _ _ (ix2 (0 : Fin 1) c) fun a => by fin_cases a <;> rfl
  show (((IntOp.cmpi .eq _ _).toNat : ℝ) : EReal) = _
  rw [e1, e2, hx, cmpi_eq_ofNat (w := 32) (by have := k.isLt; omega) (by have := c.isLt; omega)]
  by_cases h : c = k
  · subst h; rw [if_pos rfl, decide_eq_true rfl]; simp
  · rw [if_neg h, decide_eq_false (fun e => h (Fin.ext e.symm))]; simp

/-- A plain product of an array of rows. -/
theorem rows_dot {m k n : ℕ} (A : FVec Ideal (Mat m k) .f32) (B : FVec Ideal (Mat k n) .f32) (a : Fin m) (b : Fin n) :
    Host.dotGeneral (DotDims.plain m k n) none A B (ix2 a b) = dense (fun c => A (ix2 a c)) B b :=
  StackMember.dotGeneral_plain_apply none A B a b

/-- The second and third layers of a head on an array of rows. -/
def hostTail (h : shape0.BroadcastsInDim (Mat 512 256) ![]) (f2 : (Lst 256).BroadcastsInDim (Mat 1 256) ![1])
    (g2 : (Mat 1 256).BroadcastsInDim (Mat 512 256) ![0, 1]) (f3 : (Lst 512).BroadcastsInDim (Mat 1 512) ![1])
    (g3 : (Mat 1 512).BroadcastsInDim (Mat 512 512) ![0, 1]) (x : FVec Ideal (Mat 512 256) .f32)
    (w2 : FVec Ideal (Mat 256 256) .f32) (b2 : FVec Ideal (Lst 256) .f32) (w3 : FVec Ideal (Mat 256 512) .f32)
    (b3 : FVec Ideal (Lst 512) .f32) : FVec Ideal (Mat 512 512) .f32 :=
  addf (Host.dotGeneral (DotDims.plain 512 256 512) none
    (hostSelu (Mat 512 256) h (addf (Host.dotGeneral (DotDims.plain 512 256 256) none (hostSelu (Mat 512 256) h x) w2)
      (broadcastInDim (Mat 512 256) ![0, 1] g2 (broadcastInDim (Mat 1 256) ![1] f2 b2)))) w3)
    (broadcastInDim (Mat 512 512) ![0, 1] g3 (broadcastInDim (Mat 1 512) ![1] f3 b3))

theorem hostTail_apply (h f2 g2 f3 g3) (x : FVec Ideal (Mat 512 256) .f32) (w2 : FVec Ideal (Mat 256 256) .f32)
    (b2 : FVec Ideal (Lst 256) .f32) (w3 : FVec Ideal (Mat 256 512) .f32) (b3 : FVec Ideal (Lst 512) .f32) (r c : Fin 512) :
    hostTail h f2 g2 f3 g3 x w2 b2 w3 b3 (ix2 r c) = outs (fun n => x (ix2 r n)) w2 (ent b2) w3 (ent b3) c := by
  unfold hostTail outs
  refine congrArg₂ (· + ·) ?_ (bcCols f3 g3 b3 r c)
  refine (rows_dot _ w3 r c).trans (congrArg (fun y => dense y w3 c) (funext fun j => ?_))
  refine (hostSelu_apply _ h _ _).trans (congrArg act ?_)
  refine congrArg₂ (· + ·) ?_ (bcCols f2 g2 b2 r j)
  refine (rows_dot _ w2 r j).trans (congrArg (fun y => dense y w2 j) (funext fun k => ?_))
  exact hostSelu_apply _ h _ _

/-- The inputs and one one-hot row against a matrix. -/
theorem first_two (x0 : FVec Ideal (Lst 41538) .f32) (X : FVec Ideal (Mat 512 42050) .f32) (w : FVec Ideal (Mat 42050 256) .f32)
    (r m : Fin 512) (hx : ∀ k : Fin 41538, X (ix2 r (k.castLE (by decide) : Fin 42050)) = x0 (ix1 k))
    (hm : ∀ k : Fin 512, X (ix2 r (rowA k)) = if k = m then 1 else 0) (n : Fin 256) :
    (∑ k : Fin 42050, X (ix2 r k) * w (ix2 k n)) = base (by decide) x0 w n + w (ix2 (rowA m) n) := by
  refine (Fin.sum_univ_add (a := 41538) (b := 512) (fun k : Fin 42050 => X (ix2 r k) * w (ix2 k n))).trans ?_
  refine congrArg₂ (· + ·) (Finset.sum_congr rfl fun k _ => ?_) ?_
  · exact congrArg (· * _) (hx k)
  · refine (Finset.sum_congr rfl fun k _ => ?_).trans (oneHot_sum m fun k => w (ix2 (rowA k) n))
    exact congrArg (· * _) (hm k)

/-- The inputs and two one-hot rows against a matrix. -/
theorem first_three (x0 : FVec Ideal (Lst 41538) .f32) (X : FVec Ideal (Mat 512 42562) .f32)
    (w : FVec Ideal (Mat 42562 256) .f32) (r m m' : Fin 512)
    (hx : ∀ k : Fin 41538, X (ix2 r (k.castLE (by decide) : Fin 42562)) = x0 (ix1 k))
    (hm : ∀ k : Fin 512, X (ix2 r (rowB k)) = if k = m then 1 else 0)
    (hm' : ∀ k : Fin 512, X (ix2 r (rowC k)) = if k = m' then 1 else 0) (n : Fin 256) :
    (∑ k : Fin 42562, X (ix2 r k) * w (ix2 k n))
      = (base (by decide) x0 w n + w (ix2 (rowB m) n)) + w (ix2 (rowC m') n) := by
  refine (Fin.sum_univ_add (a := 42050) (b := 512) (fun k : Fin 42562 => X (ix2 r k) * w (ix2 k n))).trans ?_
  refine congrArg₂ (· + ·) ((Fin.sum_univ_add (a := 41538) (b := 512)
    (fun k : Fin 42050 => X (ix2 r (k.castLE (by decide) : Fin 42562)) * w (ix2 (k.castLE (by decide)) n))).trans
      (congrArg₂ (· + ·) (Finset.sum_congr rfl fun k _ => ?_) ?_)) ?_
  · exact congrArg (· * _) (hx k)
  · refine (Finset.sum_congr rfl fun k _ => ?_).trans (oneHot_sum m fun k => w (ix2 (rowB k) n))
    exact congrArg (· * _) (hm k)
  · refine (Finset.sum_congr rfl fun k _ => ?_).trans (oneHot_sum m' fun k => w (ix2 (rowC k) n))
    exact congrArg (· * _) (hm' k)

/-- A square written out as a list. -/
theorem flat_apply (h : (Mat 512 512).ShapeCasts (Lst 262144)) (x : FVec Ideal (Mat 512 512) .f32) (q : Fin 262144) :
    shapeCast (Lst 262144) x h (ix1 q) = flat x q :=
  shapeCast_apply x h _ (ix2 (placeRow q) (placeCol q)) (by
    rw [Shape.rowMajor_val_two, Shape.rowMajor_val_one]
    exact congrArg Fin.val (placeAt_rowCol q))

/-- The first entries of a list. -/
theorem first_apply {α : Type} (h : (Lst 262144).Slices ![0] (Lst 512)) (x : (Lst 262144).Idx → α) (i : Fin 512) :
    extractStridedSlice (Lst 512) ![0] x h (ix1 i) = x (ix1 (i.castLE (by decide))) :=
  extractStridedSlice_apply _ x h _ _ fun a => by fin_cases a; exact (Nat.zero_add _).symm

/-- A row's candidates plus the row's score. -/
theorem plus_apply (hc : (Lst 512).BroadcastsInDim (Mat 512 1) ![0]) (hw : (Mat 512 1).BroadcastsInDim (Mat 512 512) ![0, 1])
    (x : FVec Ideal (Mat 512 512) .f32) (s : FVec Ideal (Lst 512) .f32) (r c : Fin 512) :
    addf x (broadcastInDim (Mat 512 512) ![0, 1] hw (broadcastInDim (Mat 512 1) ![0] hc s)) (ix2 r c) = x (ix2 r c) + s (ix1 r) :=
  congrArg (x (ix2 r c) + ·) (bcRows hc hw s r c)

/-- The entries of a list at given places. -/
theorem taken {n N : ℕ} (d : GatherDims (Lst N) (Mat n 1) (Lst n)) (hcoll : d.collapsedSliceDims = [0])
    (hob : d.operandBatchingDims = []) (hsim : d.startIndexMap = [0]) (hivd : d.indexVectorDim = 1) (hb hc) (M : BitVec 32)
    (hN : N ≤ 2 ^ 31) (x : FVec Ideal (Lst N) .f32) (idx : IVec (Lst n) 32) (p : Fin n) (k : Fin N)
    (hx : idx (ix1 p) = BitVec.ofNat 32 k.val) : Host.gather d x (hostPlaces hb hc M idx) (ix1 p) = x (ix1 k) :=
  take_ap d hcoll hob hsim hivd x _ p k.isLt (lt_of_lt_of_le k.isLt hN)
    (hostPlaces_apply hb hc M idx p (lt_of_lt_of_le k.isLt hN) hx)

/-- The one-hot rows of notes given as numbers. -/
theorem noteRows (hc hw hl) (x : FVec Ideal (Lst 512) .f32) (r c m : Fin 512) (hx : x (ix1 r) = num m.val) :
    hostOneHot hc hw hl (fptosi 32 x) (ix2 r c) = if c = m then 1 else 0 :=
  hostOneHot_apply hc hw hl _ r c m
    ((congrArg (Ideal.fptosi 32) hx).trans (fptosi_num (by have := m.isLt; omega)))

end Cert.Beam
-- ==== Proof.RefValue.lean ====
/- The reference's result, read as the search over three heads of plain functions. -/
module

public import proofs.«01_k».proof.Proof.RefParts
public import proofs.«01_k».proof.Proof.Gen.ReferenceIdeal.Read

@[expose] public section

set_option maxRecDepth 16384

noncomputable section

namespace Cert.Beam

open Idealize.ShloMosaic Idealize.ShloMosaic.ValueIdx Cert.Sorting
open Cert.ReferenceIdeal Cert.ReferenceIdeal.Gen Cert.ReferenceIdeal.Read

section
variable (x0 : FVec Ideal (Lst 41538) .f32)
  (x1 : FVec Ideal (Mat 41538 256) .f32) (x2 : FVec Ideal (Lst 256) .f32) (x3 : FVec Ideal (Mat 256 256) .f32)
  (x4 : FVec Ideal (Lst 256) .f32) (x5 : FVec Ideal (Mat 256 512) .f32) (x6 : FVec Ideal (Lst 512) .f32)
  (x7 : FVec Ideal (Mat 42050 256) .f32) (x8 : FVec Ideal (Lst 256) .f32) (x9 : FVec Ideal (Mat 256 256) .f32)
  (x10 : FVec Ideal (Lst 256) .f32) (x11 : FVec Ideal (Mat 256 512) .f32) (x12 : FVec Ideal (Lst 512) .f32)
  (x13 : FVec Ideal (Mat 42562 256) .f32) (x14 : FVec Ideal (Lst 256) .f32) (x15 : FVec Ideal (Mat 256 256) .f32)
  (x16 : FVec Ideal (Lst 256) .f32) (x17 : FVec Ideal (Mat 256 512) .f32) (x18 : FVec Ideal (Lst 512) .f32)

theorem ref1 (n : Fin 256) : val_main_v1 (F := Ideal) x0 x1 x2 (ix1 n) = base (le_refl _) x0 x1 n + ent x2 n := by
  refine congrArg (· + x2 (ix1 n)) ((val_main_v0_apply x0 x1 (ix1 n)).trans (Finset.sum_congr rfl fun k _ => ?_))
  exact congrArg₂ (fun i j => x0 i * x1 j) (funext fun a => match a with | ⟨0, _⟩ => rfl)
    (funext fun a => match a with | ⟨0, _⟩ => rfl | ⟨1, _⟩ => rfl)

theorem ref2 (n : Fin 256) : val_main_v2 (F := Ideal) x0 x1 x2 (ix1 n) = act (val_main_v1 (F := Ideal) x0 x1 x2 (ix1 n)) :=
  hostSelu_apply (Lst 256) bcast_S_S256 (val_main_v1 (F := Ideal) x0 x1 x2) (ix1 n)

theorem ref5 (n : Fin 256) : val_main_v5 (F := Ideal) x0 x1 x2 x3 x4 (ix1 n)
    = act (val_main_v4 (F := Ideal) x0 x1 x2 x3 x4 (ix1 n)) :=
  hostSelu_apply (Lst 256) bcast_S_S256 (val_main_v4 (F := Ideal) x0 x1 x2 x3 x4) (ix1 n)

theorem ref7 (n : Fin 512) : val_main_v7 (F := Ideal) x0 x1 x2 x3 x4 x5 x6 (ix1 n)
    = outs (fun n => base (le_refl _) x0 x1 n + ent x2 n) x3 (ent x4) x5 (ent x6) n := by
  have e2 : ∀ k j : Fin 256, val_main_v2 (F := Ideal) x0 x1 x2 (lidx_main_v3 (ix1 k) j) = act (base (le_refl _) x0 x1 j + ent x2 j) :=
    fun k j => (congrArg (val_main_v2 (F := Ideal) x0 x1 x2)
      (show lidx_main_v3 (ix1 k) j = ix1 j from funext fun a => match a with | ⟨0, _⟩ => rfl)).trans
        ((ref2 x0 x1 x2 j).trans (congrArg act (ref1 x0 x1 x2 j)))
  have e3 : ∀ k : Fin 256, val_main_v3 (F := Ideal) x0 x1 x2 x3 (ix1 k)
      = dense (fun j => act (base (le_refl _) x0 x1 j + ent x2 j)) x3 k := fun k =>
    (val_main_v3_apply x0 x1 x2 x3 (ix1 k)).trans (Finset.sum_congr rfl fun j _ =>
      congrArg₂ (fun a b : EReal => a * b) (e2 k j)
        (congrArg x3 (funext fun a => match a with | ⟨0, _⟩ => rfl | ⟨1, _⟩ => rfl)))
  have e5 : ∀ k : Fin 256, val_main_v5 (F := Ideal) x0 x1 x2 x3 x4 (lidx_main_v6 (ix1 n) k)
      = act (dense (fun j => act (base (le_refl _) x0 x1 j + ent x2 j)) x3 k + ent x4 k) := fun k =>
    (congrArg (val_main_v5 (F := Ideal) x0 x1 x2 x3 x4)
      (show lidx_main_v6 (ix1 n) k = ix1 k from funext fun a => match a with | ⟨0, _⟩ => rfl)).trans
        ((ref5 x0 x1 x2 x3 x4 k).trans (congrArg act (congrArg (fun z : EReal => z + x4 (ix1 k)) (e3 k))))
  refine congrArg (fun z : EReal => z + x6 (ix1 n)) ((val_main_v6_apply x0 x1 x2 x3 x4 x5 (ix1 n)).trans (Finset.sum_congr rfl fun k _ => ?_))
  exact congrArg₂ (fun a b : EReal => a * b) (e5 k)
    (congrArg x5 (funext fun a => match a with | ⟨0, _⟩ => rfl | ⟨1, _⟩ => rfl))

theorem ref18 (n : Fin 512) : val_main_v18 (F := Ideal) x0 x1 x2 x3 x4 x5 x6 (ix1 n) = score0 x0 x1 x2 x3 x4 x5 x6 n := by
  refine (hostSoftRow_apply (val_main_v7 (F := Ideal) x0 x1 x2 x3 x4 x5 x6) reducesTo_S512_S_d0 h_S_ bcast_S_S1 bcast_S1_S512_0 n).trans ?_
  unfold score0 head
  exact congrArg (fun g => lsm g n) (funext fun k => ref7 x0 x1 x2 x3 x4 x5 x6 k)

theorem ref20 (i : Fin 512) : val_main_v20 (F := Ideal) x0 x1 x2 x3 x4 x5 x6 (ix1 i) = BitVec.ofNat 32 (note0 x0 x1 x2 x3 x4 x5 x6 i).val := by
  refine (argsort_apply (val_main_v18 (F := Ideal) x0 x1 x2 x3 x4 x5 x6) i).trans ?_
  unfold note0
  rw [funext fun q => ref18 x0 x1 x2 x3 x4 x5 x6 q]

theorem ref27 (i : Fin 512) : val_main_v27 (F := Ideal) x0 x1 x2 x3 x4 x5 x6 (ix1 i) = best0 x0 x1 x2 x3 x4 x5 x6 i :=
  (taken gather_S512_S512x1_S512_n_0_n_n_0_1_1 rfl rfl rfl rfl bcast_S_S512 bcast_S512_S512x1_0 512#32 (by decide)
    (val_main_v18 (F := Ideal) x0 x1 x2 x3 x4 x5 x6) (val_main_v20 (F := Ideal) x0 x1 x2 x3 x4 x5 x6) i _ (ref20 x0 x1 x2 x3 x4 x5 x6 i)).trans (ref18 x0 x1 x2 x3 x4 x5 x6 _)

theorem ref28 (i : Fin 512) : val_main_v28 (F := Ideal) x0 x1 x2 x3 x4 x5 x6 (ix1 i) = num (note0 x0 x1 x2 x3 x4 x5 x6 i).val := by
  refine (congrArg (fun b : BitVec 32 => ((b.toInt : ℝ) : EReal)) (ref20 x0 x1 x2 x3 x4 x5 x6 i)).trans ?_
  exact toReal_ofNat (by have := (note0 x0 x1 x2 x3 x4 x5 x6 i).isLt; omega)

theorem ref32 (r : Fin 512) (k : Fin 41538) : val_main_v32 (F := Ideal) x0 (ix2 r k) = x0 (ix1 k) := by
  rw [val_main_v32_apply, val_main_v31_apply, val_main_v30_apply, val_main_v29_apply]
  refine congrArg x0 (funext fun a => match a with | ⟨0, _⟩ => Fin.ext ?_)
  have := k.isLt
  show (((0 * 1 + 0) * 1 + 0) * 41538 + (r.val * 41538 + k.val) % 41538) % 41538 = k.val
  omega

theorem ref34 (r c : Fin 512) : val_main_v34 (F := Ideal) x0 x1 x2 x3 x4 x5 x6 (ix2 r c) = if c = note0 x0 x1 x2 x3 x4 x5 x6 r then 1 else 0 :=
  noteRows bcast_S512_S512x1_0 bcast_S512x1_S512x512_0_1 bcast_S1x512_S512x512_0_1 (val_main_v28 (F := Ideal) x0 x1 x2 x3 x4 x5 x6) r c _ (ref28 x0 x1 x2 x3 x4 x5 x6 r)

theorem ref35_inputs (r : Fin 512) (k : Fin 41538) :
    val_main_v35 (F := Ideal) x0 x1 x2 x3 x4 x5 x6 (ix2 r (k.castLE (by decide) : Fin 42050)) = x0 (ix1 k) :=
  (concatenate_pair_apply_left (s₁ := S512x41538) (s₂ := S512x512) 1 (val_main_v32 (F := Ideal) x0) (val_main_v34 (F := Ideal) x0 x1 x2 x3 x4 x5 x6)
    concatenates_S512x41538_S512x512_S512x42050_d1 _ rfl (ix2 r k)
    (fun a => by match a with | ⟨0, _⟩ => rfl | ⟨1, _⟩ => rfl)).trans (ref32 x0 r k)

theorem ref35_notes (r k : Fin 512) : val_main_v35 (F := Ideal) x0 x1 x2 x3 x4 x5 x6 (ix2 r (rowA k)) = if k = note0 x0 x1 x2 x3 x4 x5 x6 r then 1 else 0 :=
  (concatenate_pair_apply_right (s₁ := S512x41538) (s₂ := S512x512) 1 (val_main_v32 (F := Ideal) x0) (val_main_v34 (F := Ideal) x0 x1 x2 x3 x4 x5 x6)
    concatenates_S512x41538_S512x512_S512x42050_d1 _ rfl rfl (ix2 r k)
    (fun a ha => by match a with | ⟨0, _⟩ => rfl | ⟨1, _⟩ => exact absurd rfl ha) (Nat.add_comm _ _)).trans (ref34 x0 x1 x2 x3 x4 x5 x6 r k)

theorem ref39 (r : Fin 512) (n : Fin 256) : val_main_v39 (F := Ideal) x0 x1 x2 x3 x4 x5 x6 x7 x8 (ix2 r n)
    = (base (by decide) x0 x7 n + x7 (ix2 (rowA (note0 x0 x1 x2 x3 x4 x5 x6 r)) n)) + ent x8 n := by
  refine congrArg₂ (· + ·) ?_ (Routing.bcCols bcast_S256_S1x256_1 bcast_S1x256_S512x256_0_1 x8 r n)
  refine (rows_dot (val_main_v35 (F := Ideal) x0 x1 x2 x3 x4 x5 x6) x7 r n).trans ?_
  exact first_two x0 _ x7 r (note0 x0 x1 x2 x3 x4 x5 x6 r) (ref35_inputs x0 x1 x2 x3 x4 x5 x6 r) (ref35_notes x0 x1 x2 x3 x4 x5 x6 r) n

theorem ref49 (r c : Fin 512) : val_main_v49 (F := Ideal) x0 x1 x2 x3 x4 x5 x6 x7 x8 x9 x10 x11 x12 (ix2 r c)
    = outs (fun n => (base (by decide) x0 x7 n + x7 (ix2 (rowA (note0 x0 x1 x2 x3 x4 x5 x6 r)) n)) + ent x8 n) x9 (ent x10) x11 (ent x12) c := by
  refine (hostTail_apply bcast_S_S512x256 bcast_S256_S1x256_1 bcast_S1x256_S512x256_0_1 bcast_S512_S1x512_1
    bcast_S1x512_S512x512_0_1 (val_main_v39 (F := Ideal) x0 x1 x2 x3 x4 x5 x6 x7 x8) x9 x10 x11 x12 r c).trans ?_
  exact congrArg (fun g => outs g x9 (ent x10) x11 (ent x12) c) (funext fun n => ref39 x0 x1 x2 x3 x4 x5 x6 x7 x8 r n)

theorem ref61 (r c : Fin 512) : val_main_v61 (F := Ideal) x0 x1 x2 x3 x4 x5 x6 x7 x8 x9 x10 x11 x12 (ix2 r c)
    = head (fun n => (base (by decide) x0 x7 n + x7 (ix2 (rowA (note0 x0 x1 x2 x3 x4 x5 x6 r)) n)) + ent x8 n) x9 (ent x10) x11 (ent x12) c := by
  refine (hostSoft_apply (val_main_v49 (F := Ideal) x0 x1 x2 x3 x4 x5 x6 x7 x8 x9 x10 x11 x12) reducesTo_S512x512_S512_d1 h_S_ bcast_S_S512 bcast_S512_S512x1_0
    bcast_S512x1_S512x512_0_1 r c).trans ?_
  exact congrArg (fun g => lsm g c) (funext fun k => ref49 x0 x1 x2 x3 x4 x5 x6 x7 x8 x9 x10 x11 x12 r k)

theorem ref65 (q : Fin 262144) : val_main_v65 (F := Ideal) x0 x1 x2 x3 x4 x5 x6 x7 x8 x9 x10 x11 x12 (ix1 q) = cands1 x0 x1 x2 x3 x4 x5 x6 x7 x8 x9 x10 x11 x12 q := by
  refine (flat_apply shapeCasts_S512x512_S262144 (val_main_v64 (F := Ideal) x0 x1 x2 x3 x4 x5 x6 x7 x8 x9 x10 x11 x12) q).trans ?_
  refine (plus_apply bcast_S512_S512x1_0 bcast_S512x1_S512x512_0_1 (val_main_v61 (F := Ideal) x0 x1 x2 x3 x4 x5 x6 x7 x8 x9 x10 x11 x12)
    (val_main_v27 (F := Ideal) x0 x1 x2 x3 x4 x5 x6) _ _).trans ?_
  rw [ref61, ref27]
  rfl

theorem ref67 (i : Fin 262144) : val_main_v67 (F := Ideal) x0 x1 x2 x3 x4 x5 x6 x7 x8 x9 x10 x11 x12 (ix1 i) = BitVec.ofNat 32 (rank (cands1 x0 x1 x2 x3 x4 x5 x6 x7 x8 x9 x10 x11 x12) i).val := by
  refine (argsort_apply (val_main_v65 (F := Ideal) x0 x1 x2 x3 x4 x5 x6 x7 x8 x9 x10 x11 x12) i).trans ?_
  rw [funext fun q => ref65 x0 x1 x2 x3 x4 x5 x6 x7 x8 x9 x10 x11 x12 q]

theorem ref75 (i : Fin 262144) : val_main_v75 (F := Ideal) x0 x1 x2 x3 x4 x5 x6 x7 x8 x9 x10 x11 x12 (ix1 i)
    = BitVec.ofNat 32 (placeCol (rank (cands1 x0 x1 x2 x3 x4 x5 x6 x7 x8 x9 x10 x11 x12) i)).val :=
  Routing.pyRem_ap bcast_S_S262144 (val_main_v67 (F := Ideal) x0 x1 x2 x3 x4 x5 x6 x7 x8 x9 x10 x11 x12) (constantI S_ 32 512#32) (ix1 i) (ref67 x0 x1 x2 x3 x4 x5 x6 x7 x8 x9 x10 x11 x12 i) rfl
    (by have := (rank (cands1 x0 x1 x2 x3 x4 x5 x6 x7 x8 x9 x10 x11 x12) i).isLt; omega) (by decide) (by decide)

theorem ref77 (i : Fin 262144) : val_main_v77 (F := Ideal) x0 x1 x2 x3 x4 x5 x6 x7 x8 x9 x10 x11 x12 (ix1 i)
    = BitVec.ofNat 32 (placeRow (rank (cands1 x0 x1 x2 x3 x4 x5 x6 x7 x8 x9 x10 x11 x12) i)).val :=
  Routing.pyDiv_ap bcast_S_S262144 (val_main_v67 (F := Ideal) x0 x1 x2 x3 x4 x5 x6 x7 x8 x9 x10 x11 x12) (constantI S_ 32 512#32) (ix1 i) (ref67 x0 x1 x2 x3 x4 x5 x6 x7 x8 x9 x10 x11 x12 i) rfl
    (by have := (rank (cands1 x0 x1 x2 x3 x4 x5 x6 x7 x8 x9 x10 x11 x12) i).isLt; omega) (by decide) (by decide)

theorem ref85 (i : Fin 512) : val_main_v85 (F := Ideal) x0 x1 x2 x3 x4 x5 x6 x7 x8 x9 x10 x11 x12 (ix1 i) = num (first1 x0 x1 x2 x3 x4 x5 x6 x7 x8 x9 x10 x11 x12 i).val := by
  refine (first_apply slices_S262144_S512_0 (val_main_v84 (F := Ideal) x0 x1 x2 x3 x4 x5 x6 x7 x8 x9 x10 x11 x12) i).trans ?_
  refine (taken gather_S512_S262144x1_S262144_n_0_n_n_0_1_1 rfl rfl rfl rfl bcast_S_S262144 bcast_S262144_S262144x1_0 512#32
    (by decide) (val_main_v28 (F := Ideal) x0 x1 x2 x3 x4 x5 x6) (val_main_v77 (F := Ideal) x0 x1 x2 x3 x4 x5 x6 x7 x8 x9 x10 x11 x12) _ _ (ref77 x0 x1 x2 x3 x4 x5 x6 x7 x8 x9 x10 x11 x12 _)).trans ?_
  exact ref28 x0 x1 x2 x3 x4 x5 x6 _

theorem ref86 (i : Fin 512) : val_main_v86 (F := Ideal) x0 x1 x2 x3 x4 x5 x6 x7 x8 x9 x10 x11 x12 (ix1 i) = best1 x0 x1 x2 x3 x4 x5 x6 x7 x8 x9 x10 x11 x12 i := by
  refine (first_apply slices_S262144_S512_0 (val_main_v74 (F := Ideal) x0 x1 x2 x3 x4 x5 x6 x7 x8 x9 x10 x11 x12) i).trans ?_
  refine (taken gather_S262144_S262144x1_S262144_n_0_n_n_0_1_1 rfl rfl rfl rfl bcast_S_S262144 bcast_S262144_S262144x1_0
    262144#32 (by decide) (val_main_v65 (F := Ideal) x0 x1 x2 x3 x4 x5 x6 x7 x8 x9 x10 x11 x12) (val_main_v67 (F := Ideal) x0 x1 x2 x3 x4 x5 x6 x7 x8 x9 x10 x11 x12) _ _ (ref67 x0 x1 x2 x3 x4 x5 x6 x7 x8 x9 x10 x11 x12 _)).trans ?_
  exact ref65 x0 x1 x2 x3 x4 x5 x6 x7 x8 x9 x10 x11 x12 _

theorem ref87 (i : Fin 512) : val_main_v87 (F := Ideal) x0 x1 x2 x3 x4 x5 x6 x7 x8 x9 x10 x11 x12 (ix1 i) = num (second1 x0 x1 x2 x3 x4 x5 x6 x7 x8 x9 x10 x11 x12 i).val := by
  refine (first_apply slices_S262144_S512_0 (val_main_v76 (F := Ideal) x0 x1 x2 x3 x4 x5 x6 x7 x8 x9 x10 x11 x12) i).trans ?_
  refine (congrArg (fun b : BitVec 32 => ((b.toInt : ℝ) : EReal)) (ref75 x0 x1 x2 x3 x4 x5 x6 x7 x8 x9 x10 x11 x12 _)).trans ?_
  exact toReal_ofNat (by have := (second1 x0 x1 x2 x3 x4 x5 x6 x7 x8 x9 x10 x11 x12 i).isLt; unfold second1 top1 top at this; omega)

theorem ref89 (r c : Fin 512) : val_main_v89 (F := Ideal) x0 x1 x2 x3 x4 x5 x6 x7 x8 x9 x10 x11 x12 (ix2 r c) = if c = first1 x0 x1 x2 x3 x4 x5 x6 x7 x8 x9 x10 x11 x12 r then 1 else 0 :=
  noteRows bcast_S512_S512x1_0 bcast_S512x1_S512x512_0_1 bcast_S1x512_S512x512_0_1 (val_main_v85 (F := Ideal) x0 x1 x2 x3 x4 x5 x6 x7 x8 x9 x10 x11 x12) r c _ (ref85 x0 x1 x2 x3 x4 x5 x6 x7 x8 x9 x10 x11 x12 r)

theorem ref91 (r c : Fin 512) : val_main_v91 (F := Ideal) x0 x1 x2 x3 x4 x5 x6 x7 x8 x9 x10 x11 x12 (ix2 r c) = if c = second1 x0 x1 x2 x3 x4 x5 x6 x7 x8 x9 x10 x11 x12 r then 1 else 0 :=
  noteRows bcast_S512_S512x1_0 bcast_S512x1_S512x512_0_1 bcast_S1x512_S512x512_0_1 (val_main_v87 (F := Ideal) x0 x1 x2 x3 x4 x5 x6 x7 x8 x9 x10 x11 x12) r c _ (ref87 x0 x1 x2 x3 x4 x5 x6 x7 x8 x9 x10 x11 x12 r)

/-- The three blocks of the third head's first layer. -/
def blocks : List ((t : Shape) × (t.Idx → Ideal .f32)) :=
  [⟨S512x41538, val_main_v32 (F := Ideal) x0⟩, ⟨S512x512, val_main_v89 (F := Ideal) x0 x1 x2 x3 x4 x5 x6 x7 x8 x9 x10 x11 x12⟩, ⟨S512x512, val_main_v91 (F := Ideal) x0 x1 x2 x3 x4 x5 x6 x7 x8 x9 x10 x11 x12⟩]

theorem ref92_inputs (r : Fin 512) (k : Fin 41538) :
    val_main_v92 (F := Ideal) x0 x1 x2 x3 x4 x5 x6 x7 x8 x9 x10 x11 x12 (ix2 r (k.castLE (by decide) : Fin 42562)) = x0 (ix1 k) :=
  (concatenate_apply_piece 1 (blocks x0 x1 x2 x3 x4 x5 x6 x7 x8 x9 x10 x11 x12) concatenates_S512x41538_S512x512_S512x512_S512x42562_d1 (ix2 r (k.castLE (by decide) : Fin 42562)) 0
    (show 0 < 3 by decide) S512x41538 (val_main_v32 (F := Ideal) x0) rfl rfl 0 rfl (ix2 r k)
    (fun a ha => by match a with | ⟨0, _⟩ => rfl | ⟨1, _⟩ => exact absurd rfl ha) (Nat.zero_add k.val)).trans (ref32 x0 r k)

theorem ref92_first (r k : Fin 512) : val_main_v92 (F := Ideal) x0 x1 x2 x3 x4 x5 x6 x7 x8 x9 x10 x11 x12 (ix2 r (rowB k)) = if k = first1 x0 x1 x2 x3 x4 x5 x6 x7 x8 x9 x10 x11 x12 r then 1 else 0 :=
  (concatenate_apply_piece 1 (blocks x0 x1 x2 x3 x4 x5 x6 x7 x8 x9 x10 x11 x12) concatenates_S512x41538_S512x512_S512x512_S512x42562_d1 (ix2 r (rowB k)) 1
    (show 1 < 3 by decide) S512x512 (val_main_v89 (F := Ideal) x0 x1 x2 x3 x4 x5 x6 x7 x8 x9 x10 x11 x12) rfl rfl 41538 rfl (ix2 r k)
    (fun a ha => by match a with | ⟨0, _⟩ => rfl | ⟨1, _⟩ => exact absurd rfl ha) rfl).trans (ref89 x0 x1 x2 x3 x4 x5 x6 x7 x8 x9 x10 x11 x12 r k)

theorem ref92_second (r k : Fin 512) : val_main_v92 (F := Ideal) x0 x1 x2 x3 x4 x5 x6 x7 x8 x9 x10 x11 x12 (ix2 r (rowC k)) = if k = second1 x0 x1 x2 x3 x4 x5 x6 x7 x8 x9 x10 x11 x12 r then 1 else 0 :=
  (concatenate_apply_piece 1 (blocks x0 x1 x2 x3 x4 x5 x6 x7 x8 x9 x10 x11 x12) concatenates_S512x41538_S512x512_S512x512_S512x42562_d1 (ix2 r (rowC k)) 2
    (show 2 < 3 by decide) S512x512 (val_main_v91 (F := Ideal) x0 x1 x2 x3 x4 x5 x6 x7 x8 x9 x10 x11 x12) rfl rfl 42050 rfl (ix2 r k)
    (fun a ha => by match a with | ⟨0, _⟩ => rfl | ⟨1, _⟩ => exact absurd rfl ha) rfl).trans (ref91 x0 x1 x2 x3 x4 x5 x6 x7 x8 x9 x10 x11 x12 r k)

theorem ref96 (r : Fin 512) (n : Fin 256) : val_main_v96 (F := Ideal) x0 x1 x2 x3 x4 x5 x6 x7 x8 x9 x10 x11 x12 x13 x14 (ix2 r n)
    = ((base (by decide) x0 x13 n + x13 (ix2 (rowB (first1 x0 x1 x2 x3 x4 x5 x6 x7 x8 x9 x10 x11 x12 r)) n)) + x13 (ix2 (rowC (second1 x0 x1 x2 x3 x4 x5 x6 x7 x8 x9 x10 x11 x12 r)) n)) + ent x14 n := by
  refine congrArg₂ (· + ·) ?_ (Routing.bcCols bcast_S256_S1x256_1 bcast_S1x256_S512x256_0_1 x14 r n)
  refine (rows_dot (val_main_v92 (F := Ideal) x0 x1 x2 x3 x4 x5 x6 x7 x8 x9 x10 x11 x12) x13 r n).trans ?_
  exact first_three x0 _ x13 r _ _ (ref92_inputs x0 x1 x2 x3 x4 x5 x6 x7 x8 x9 x10 x11 x12 r) (ref92_first x0 x1 x2 x3 x4 x5 x6 x7 x8 x9 x10 x11 x12 r) (ref92_second x0 x1 x2 x3 x4 x5 x6 x7 x8 x9 x10 x11 x12 r) n

theorem ref106 (r c : Fin 512) : val_main_v106 (F := Ideal) x0 x1 x2 x3 x4 x5 x6 x7 x8 x9 x10 x11 x12 x13 x14 x15 x16 x17 x18 (ix2 r c)
    = outs (fun n => ((base (by decide) x0 x13 n + x13 (ix2 (rowB (first1 x0 x1 x2 x3 x4 x5 x6 x7 x8 x9 x10 x11 x12 r)) n)) + x13 (ix2 (rowC (second1 x0 x1 x2 x3 x4 x5 x6 x7 x8 x9 x10 x11 x12 r)) n))
      + ent x14 n) x15 (ent x16) x17 (ent x18) c := by
  refine (hostTail_apply bcast_S_S512x256 bcast_S256_S1x256_1 bcast_S1x256_S512x256_0_1 bcast_S512_S1x512_1
    bcast_S1x512_S512x512_0_1 (val_main_v96 (F := Ideal) x0 x1 x2 x3 x4 x5 x6 x7 x8 x9 x10 x11 x12 x13 x14) x15 x16 x17 x18 r c).trans ?_
  exact congrArg (fun g => outs g x15 (ent x16) x17 (ent x18) c) (funext fun n => ref96 x0 x1 x2 x3 x4 x5 x6 x7 x8 x9 x10 x11 x12 x13 x14 r n)

theorem ref118 (r c : Fin 512) : val_main_v118 (F := Ideal) x0 x1 x2 x3 x4 x5 x6 x7 x8 x9 x10 x11 x12 x13 x14 x15 x16 x17 x18 (ix2 r c)
    = head (fun n => ((base (by decide) x0 x13 n + x13 (ix2 (rowB (first1 x0 x1 x2 x3 x4 x5 x6 x7 x8 x9 x10 x11 x12 r)) n)) + x13 (ix2 (rowC (second1 x0 x1 x2 x3 x4 x5 x6 x7 x8 x9 x10 x11 x12 r)) n))
      + ent x14 n) x15 (ent x16) x17 (ent x18) c := by
  refine (hostSoft_apply (val_main_v106 (F := Ideal) x0 x1 x2 x3 x4 x5 x6 x7 x8 x9 x10 x11 x12 x13 x14 x15 x16 x17 x18) reducesTo_S512x512_S512_d1 h_S_ bcast_S_S512 bcast_S512_S512x1_0
    bcast_S512x1_S512x512_0_1 r c).trans ?_
  exact congrArg (fun g => lsm g c) (funext fun k => ref106 x0 x1 x2 x3 x4 x5 x6 x7 x8 x9 x10 x11 x12 x13 x14 x15 x16 x17 x18 r k)

theorem ref122 (q : Fin 262144) : val_main_v122 (F := Ideal) x0 x1 x2 x3 x4 x5 x6 x7 x8 x9 x10 x11 x12 x13 x14 x15 x16 x17 x18 (ix1 q) = cands2 x0 x1 x2 x3 x4 x5 x6 x7 x8 x9 x10 x11 x12 x13 x14 x15 x16 x17 x18 q := by
  refine (flat_apply shapeCasts_S512x512_S262144 (val_main_v121 (F := Ideal) x0 x1 x2 x3 x4 x5 x6 x7 x8 x9 x10 x11 x12 x13 x14 x15 x16 x17 x18) q).trans ?_
  refine (plus_apply bcast_S512_S512x1_0 bcast_S512x1_S512x512_0_1 (val_main_v118 (F := Ideal) x0 x1 x2 x3 x4 x5 x6 x7 x8 x9 x10 x11 x12 x13 x14 x15 x16 x17 x18)
    (val_main_v86 (F := Ideal) x0 x1 x2 x3 x4 x5 x6 x7 x8 x9 x10 x11 x12) _ _).trans ?_
  rw [ref118, ref86]
  rfl

theorem ref124 (i : Fin 262144) : val_main_v124 (F := Ideal) x0 x1 x2 x3 x4 x5 x6 x7 x8 x9 x10 x11 x12 x13 x14 x15 x16 x17 x18 (ix1 i) = BitVec.ofNat 32 (rank (cands2 x0 x1 x2 x3 x4 x5 x6 x7 x8 x9 x10 x11 x12 x13 x14 x15 x16 x17 x18) i).val := by
  refine (argsort_apply (val_main_v122 (F := Ideal) x0 x1 x2 x3 x4 x5 x6 x7 x8 x9 x10 x11 x12 x13 x14 x15 x16 x17 x18) i).trans ?_
  rw [funext fun q => ref122 x0 x1 x2 x3 x4 x5 x6 x7 x8 x9 x10 x11 x12 x13 x14 x15 x16 x17 x18 q]

theorem ref132 (i : Fin 262144) : val_main_v132 (F := Ideal) x0 x1 x2 x3 x4 x5 x6 x7 x8 x9 x10 x11 x12 x13 x14 x15 x16 x17 x18 (ix1 i)
    = BitVec.ofNat 32 (placeCol (rank (cands2 x0 x1 x2 x3 x4 x5 x6 x7 x8 x9 x10 x11 x12 x13 x14 x15 x16 x17 x18) i)).val :=
  Routing.pyRem_ap bcast_S_S262144 (val_main_v124 (F := Ideal) x0 x1 x2 x3 x4 x5 x6 x7 x8 x9 x10 x11 x12 x13 x14 x15 x16 x17 x18) (constantI S_ 32 512#32) (ix1 i) (ref124 x0 x1 x2 x3 x4 x5 x6 x7 x8 x9 x10 x11 x12 x13 x14 x15 x16 x17 x18 i) rfl
    (by have := (rank (cands2 x0 x1 x2 x3 x4 x5 x6 x7 x8 x9 x10 x11 x12 x13 x14 x15 x16 x17 x18) i).isLt; omega) (by decide) (by decide)

theorem ref134 (i : Fin 262144) : val_main_v134 (F := Ideal) x0 x1 x2 x3 x4 x5 x6 x7 x8 x9 x10 x11 x12 x13 x14 x15 x16 x17 x18 (ix1 i)
    = BitVec.ofNat 32 (placeRow (rank (cands2 x0 x1 x2 x3 x4 x5 x6 x7 x8 x9 x10 x11 x12 x13 x14 x15 x16 x17 x18) i)).val :=
  Routing.pyDiv_ap bcast_S_S262144 (val_main_v124 (F := Ideal) x0 x1 x2 x3 x4 x5 x6 x7 x8 x9 x10 x11 x12 x13 x14 x15 x16 x17 x18) (constantI S_ 32 512#32) (ix1 i) (ref124 x0 x1 x2 x3 x4 x5 x6 x7 x8 x9 x10 x11 x12 x13 x14 x15 x16 x17 x18 i) rfl
    (by have := (rank (cands2 x0 x1 x2 x3 x4 x5 x6 x7 x8 x9 x10 x11 x12 x13 x14 x15 x16 x17 x18) i).isLt; omega) (by decide) (by decide)

theorem ref151 (i : Fin 512) : val_main_v151 (F := Ideal) x0 x1 x2 x3 x4 x5 x6 x7 x8 x9 x10 x11 x12 x13 x14 x15 x16 x17 x18 (ix1 i) = cands2 x0 x1 x2 x3 x4 x5 x6 x7 x8 x9 x10 x11 x12 x13 x14 x15 x16 x17 x18 (top2 x0 x1 x2 x3 x4 x5 x6 x7 x8 x9 x10 x11 x12 x13 x14 x15 x16 x17 x18 i) := by
  refine (first_apply slices_S262144_S512_0 (val_main_v131 (F := Ideal) x0 x1 x2 x3 x4 x5 x6 x7 x8 x9 x10 x11 x12 x13 x14 x15 x16 x17 x18) i).trans ?_
  refine (taken gather_S262144_S262144x1_S262144_n_0_n_n_0_1_1 rfl rfl rfl rfl bcast_S_S262144 bcast_S262144_S262144x1_0
    262144#32 (by decide) (val_main_v122 (F := Ideal) x0 x1 x2 x3 x4 x5 x6 x7 x8 x9 x10 x11 x12 x13 x14 x15 x16 x17 x18) (val_main_v124 (F := Ideal) x0 x1 x2 x3 x4 x5 x6 x7 x8 x9 x10 x11 x12 x13 x14 x15 x16 x17 x18) _ _ (ref124 x0 x1 x2 x3 x4 x5 x6 x7 x8 x9 x10 x11 x12 x13 x14 x15 x16 x17 x18 _)).trans ?_
  exact ref122 x0 x1 x2 x3 x4 x5 x6 x7 x8 x9 x10 x11 x12 x13 x14 x15 x16 x17 x18 _

theorem ref142 (i : Fin 512) : val_main_v142 (F := Ideal) x0 x1 x2 x3 x4 x5 x6 x7 x8 x9 x10 x11 x12 x13 x14 x15 x16 x17 x18 (ix1 i) = num (first1 x0 x1 x2 x3 x4 x5 x6 x7 x8 x9 x10 x11 x12 (placeRow (top2 x0 x1 x2 x3 x4 x5 x6 x7 x8 x9 x10 x11 x12 x13 x14 x15 x16 x17 x18 i))).val := by
  refine (first_apply slices_S262144_S512_0 (val_main_v141 (F := Ideal) x0 x1 x2 x3 x4 x5 x6 x7 x8 x9 x10 x11 x12 x13 x14 x15 x16 x17 x18) i).trans ?_
  refine (taken gather_S512_S262144x1_S262144_n_0_n_n_0_1_1 rfl rfl rfl rfl bcast_S_S262144 bcast_S262144_S262144x1_0 512#32
    (by decide) (val_main_v85 (F := Ideal) x0 x1 x2 x3 x4 x5 x6 x7 x8 x9 x10 x11 x12) (val_main_v134 (F := Ideal) x0 x1 x2 x3 x4 x5 x6 x7 x8 x9 x10 x11 x12 x13 x14 x15 x16 x17 x18) _ _ (ref134 x0 x1 x2 x3 x4 x5 x6 x7 x8 x9 x10 x11 x12 x13 x14 x15 x16 x17 x18 _)).trans ?_
  exact ref85 x0 x1 x2 x3 x4 x5 x6 x7 x8 x9 x10 x11 x12 _

theorem ref150 (i : Fin 512) : val_main_v150 (F := Ideal) x0 x1 x2 x3 x4 x5 x6 x7 x8 x9 x10 x11 x12 x13 x14 x15 x16 x17 x18 (ix1 i) = num (second1 x0 x1 x2 x3 x4 x5 x6 x7 x8 x9 x10 x11 x12 (placeRow (top2 x0 x1 x2 x3 x4 x5 x6 x7 x8 x9 x10 x11 x12 x13 x14 x15 x16 x17 x18 i))).val := by
  refine (first_apply slices_S262144_S512_0 (val_main_v149 (F := Ideal) x0 x1 x2 x3 x4 x5 x6 x7 x8 x9 x10 x11 x12 x13 x14 x15 x16 x17 x18) i).trans ?_
  refine (taken gather_S512_S262144x1_S262144_n_0_n_n_0_1_1 rfl rfl rfl rfl bcast_S_S262144 bcast_S262144_S262144x1_0 512#32
    (by decide) (val_main_v87 (F := Ideal) x0 x1 x2 x3 x4 x5 x6 x7 x8 x9 x10 x11 x12) (val_main_v134 (F := Ideal) x0 x1 x2 x3 x4 x5 x6 x7 x8 x9 x10 x11 x12 x13 x14 x15 x16 x17 x18) _ _ (ref134 x0 x1 x2 x3 x4 x5 x6 x7 x8 x9 x10 x11 x12 x13 x14 x15 x16 x17 x18 _)).trans ?_
  exact ref87 x0 x1 x2 x3 x4 x5 x6 x7 x8 x9 x10 x11 x12 _

theorem ref152 (i : Fin 512) : val_main_v152 (F := Ideal) x0 x1 x2 x3 x4 x5 x6 x7 x8 x9 x10 x11 x12 x13 x14 x15 x16 x17 x18 (ix1 i) = num (placeCol (top2 x0 x1 x2 x3 x4 x5 x6 x7 x8 x9 x10 x11 x12 x13 x14 x15 x16 x17 x18 i)).val := by
  refine (first_apply slices_S262144_S512_0 (val_main_v133 (F := Ideal) x0 x1 x2 x3 x4 x5 x6 x7 x8 x9 x10 x11 x12 x13 x14 x15 x16 x17 x18) i).trans ?_
  refine (congrArg (fun b : BitVec 32 => ((b.toInt : ℝ) : EReal)) (ref132 x0 x1 x2 x3 x4 x5 x6 x7 x8 x9 x10 x11 x12 x13 x14 x15 x16 x17 x18 _)).trans ?_
  exact toReal_ofNat (by have := (placeCol (rank (cands2 x0 x1 x2 x3 x4 x5 x6 x7 x8 x9 x10 x11 x12 x13 x14 x15 x16 x17 x18) (i.castLE (by decide)))).isLt; omega)

/-- The table joins four columns. -/
theorem columns (y0 y1 y2 y3 : FVec Ideal (Lst 512) .f32) (hc : (Lst 512).BroadcastsInDim (Mat 512 1) ![0])
    (h : Shape.Concatenates [Mat 512 1, Mat 512 1, Mat 512 1, Mat 512 1] (Mat 512 4) 1) (i : Fin 512) :
    concatenate (Mat 512 4) 1 [⟨Mat 512 1, broadcastInDim (Mat 512 1) ![0] hc y0⟩, ⟨Mat 512 1, broadcastInDim (Mat 512 1) ![0] hc y1⟩, ⟨Mat 512 1, broadcastInDim (Mat 512 1) ![0] hc y2⟩, ⟨Mat 512 1, broadcastInDim (Mat 512 1) ![0] hc y3⟩] h (ix2 i (0 : Fin 4)) = y0 (ix1 i) ∧
    concatenate (Mat 512 4) 1 [⟨Mat 512 1, broadcastInDim (Mat 512 1) ![0] hc y0⟩, ⟨Mat 512 1, broadcastInDim (Mat 512 1) ![0] hc y1⟩, ⟨Mat 512 1, broadcastInDim (Mat 512 1) ![0] hc y2⟩, ⟨Mat 512 1, broadcastInDim (Mat 512 1) ![0] hc y3⟩] h (ix2 i (1 : Fin 4)) = y1 (ix1 i) ∧
    concatenate (Mat 512 4) 1 [⟨Mat 512 1, broadcastInDim (Mat 512 1) ![0] hc y0⟩, ⟨Mat 512 1, broadcastInDim (Mat 512 1) ![0] hc y1⟩, ⟨Mat 512 1, broadcastInDim (Mat 512 1) ![0] hc y2⟩, ⟨Mat 512 1, broadcastInDim (Mat 512 1) ![0] hc y3⟩] h (ix2 i (2 : Fin 4)) = y2 (ix1 i) ∧
    concatenate (Mat 512 4) 1 [⟨Mat 512 1, broadcastInDim (Mat 512 1) ![0] hc y0⟩, ⟨Mat 512 1, broadcastInDim (Mat 512 1) ![0] hc y1⟩, ⟨Mat 512 1, broadcastInDim (Mat 512 1) ![0] hc y2⟩, ⟨Mat 512 1, broadcastInDim (Mat 512 1) ![0] hc y3⟩] h (ix2 i (3 : Fin 4)) = y3 (ix1 i) := by
  let xs : List ((t : Shape) × (t.Idx → Ideal .f32)) :=
    [⟨Mat 512 1, broadcastInDim (Mat 512 1) ![0] hc y0⟩, ⟨Mat 512 1, broadcastInDim (Mat 512 1) ![0] hc y1⟩, ⟨Mat 512 1, broadcastInDim (Mat 512 1) ![0] hc y2⟩, ⟨Mat 512 1, broadcastInDim (Mat 512 1) ![0] hc y3⟩]
  refine ⟨?_, ?_, ?_, ?_⟩
  · exact (concatenate_apply_piece 1 xs h (ix2 i (0 : Fin 4)) 0 (show 0 < 4 by decide) (Mat 512 1) _ rfl rfl 0 rfl (ix2 i (0 : Fin 1))
      (fun a ha => by match a with | ⟨0, _⟩ => rfl | ⟨1, _⟩ => exact absurd rfl ha) rfl).trans (Routing.bcCol hc y0 i)
  · exact (concatenate_apply_piece 1 xs h (ix2 i (1 : Fin 4)) 1 (show 1 < 4 by decide) (Mat 512 1) _ rfl rfl 1 rfl (ix2 i (0 : Fin 1))
      (fun a ha => by match a with | ⟨0, _⟩ => rfl | ⟨1, _⟩ => exact absurd rfl ha) rfl).trans (Routing.bcCol hc y1 i)
  · exact (concatenate_apply_piece 1 xs h (ix2 i (2 : Fin 4)) 2 (show 2 < 4 by decide) (Mat 512 1) _ rfl rfl 2 rfl (ix2 i (0 : Fin 1))
      (fun a ha => by match a with | ⟨0, _⟩ => rfl | ⟨1, _⟩ => exact absurd rfl ha) rfl).trans (Routing.bcCol hc y2 i)
  · exact (concatenate_apply_piece 1 xs h (ix2 i (3 : Fin 4)) 3 (show 3 < 4 by decide) (Mat 512 1) _ rfl rfl 3 rfl (ix2 i (0 : Fin 1))
      (fun a ha => by match a with | ⟨0, _⟩ => rfl | ⟨1, _⟩ => exact absurd rfl ha) rfl).trans (Routing.bcCol hc y3 i)

/-- The reference's table. -/
theorem reference_table (i : Fin 512) (k : Fin 4) : val_main_v157 (F := Ideal) x0 x1 x2 x3 x4 x5 x6 x7 x8 x9 x10 x11 x12 x13 x14 x15 x16 x17 x18 (ix2 i k) = line x0 x1 x2 x3 x4 x5 x6 x7 x8 x9 x10 x11 x12 x13 x14 x15 x16 x17 x18 i k := by
  obtain ⟨h0, h1, h2, h3⟩ := columns (val_main_v151 (F := Ideal) x0 x1 x2 x3 x4 x5 x6 x7 x8 x9 x10 x11 x12 x13 x14 x15 x16 x17 x18) (val_main_v142 (F := Ideal) x0 x1 x2 x3 x4 x5 x6 x7 x8 x9 x10 x11 x12 x13 x14 x15 x16 x17 x18) (val_main_v150 (F := Ideal) x0 x1 x2 x3 x4 x5 x6 x7 x8 x9 x10 x11 x12 x13 x14 x15 x16 x17 x18) (val_main_v152 (F := Ideal) x0 x1 x2 x3 x4 x5 x6 x7 x8 x9 x10 x11 x12 x13 x14 x15 x16 x17 x18)
    bcast_S512_S512x1_0 concatenates_S512x1_S512x1_S512x1_S512x1_S512x4_d1 i
  match k with
  | 0 => exact h0.trans (ref151 x0 x1 x2 x3 x4 x5 x6 x7 x8 x9 x10 x11 x12 x13 x14 x15 x16 x17 x18 i)
  | 1 => exact h1.trans (ref142 x0 x1 x2 x3 x4 x5 x6 x7 x8 x9 x10 x11 x12 x13 x14 x15 x16 x17 x18 i)
  | 2 => exact h2.trans (ref150 x0 x1 x2 x3 x4 x5 x6 x7 x8 x9 x10 x11 x12 x13 x14 x15 x16 x17 x18 i)
  | 3 => exact h3.trans (ref152 x0 x1 x2 x3 x4 x5 x6 x7 x8 x9 x10 x11 x12 x13 x14 x15 x16 x17 x18 i)

end

end Cert.Beam
-- ==== Proof.IdealValue.lean ====
/- The kernel's table over the extended reals: what each call reads, what it leaves, and the table as the search over the
   three heads. -/
module

public import proofs.«01_k».proof.Proof.IdealProducts
public import proofs.«01_k».proof.Proof.IdealHost
public import proofs.«01_k».proof.Proof.CallValue
public import proofs.«01_k».proof.Proof.Joins
public import proofs.«01_k».proof.Proof.RefValue

@[expose] public section

set_option maxRecDepth 16384

noncomputable section

namespace Cert.KernelIdeal.Work

open Idealize.ShloMosaic Idealize.ShloMosaic.TcCoe Idealize.SL.Sem
open Idealize.ShloMosaic.ValueIdx
open Cert.KernelIdeal.Gen Cert.Sorting Cert.Beam
open scoped BigOperators

variable (m : (ℓ : Loc nD τ sig) → Buf (Elt Ideal) ℓ) (ρ : Dev nD → PrngReg) (c : Dev nD)

/-! ## The arguments -/

abbrev I0 : FVec Ideal (Lst 41538) .f32 := m ((c : Thread nD τ).loc main_arg0)
abbrev I1 : FVec Ideal (Mat 41538 256) .f32 := m ((c : Thread nD τ).loc main_arg1)
abbrev I2 : FVec Ideal (Lst 256) .f32 := m ((c : Thread nD τ).loc main_arg2)
abbrev I3 : FVec Ideal (Mat 256 256) .f32 := m ((c : Thread nD τ).loc main_arg3)
abbrev I4 : FVec Ideal (Lst 256) .f32 := m ((c : Thread nD τ).loc main_arg4)
abbrev I5 : FVec Ideal (Mat 256 512) .f32 := m ((c : Thread nD τ).loc main_arg5)
abbrev I6 : FVec Ideal (Lst 512) .f32 := m ((c : Thread nD τ).loc main_arg6)
abbrev I7 : FVec Ideal (Mat 42050 256) .f32 := m ((c : Thread nD τ).loc main_arg7)
abbrev I8 : FVec Ideal (Lst 256) .f32 := m ((c : Thread nD τ).loc main_arg8)
abbrev I9 : FVec Ideal (Mat 256 256) .f32 := m ((c : Thread nD τ).loc main_arg9)
abbrev I10 : FVec Ideal (Lst 256) .f32 := m ((c : Thread nD τ).loc main_arg10)
abbrev I11 : FVec Ideal (Mat 256 512) .f32 := m ((c : Thread nD τ).loc main_arg11)
abbrev I12 : FVec Ideal (Lst 512) .f32 := m ((c : Thread nD τ).loc main_arg12)
abbrev I13 : FVec Ideal (Mat 42562 256) .f32 := m ((c : Thread nD τ).loc main_arg13)
abbrev I14 : FVec Ideal (Lst 256) .f32 := m ((c : Thread nD τ).loc main_arg14)
abbrev I15 : FVec Ideal (Mat 256 256) .f32 := m ((c : Thread nD τ).loc main_arg15)
abbrev I16 : FVec Ideal (Lst 256) .f32 := m ((c : Thread nD τ).loc main_arg16)
abbrev I17 : FVec Ideal (Mat 256 512) .f32 := m ((c : Thread nD τ).loc main_arg17)
abbrev I18 : FVec Ideal (Lst 512) .f32 := m ((c : Thread nD τ).loc main_arg18)

/-- The named constant is the product of the activation's two constants. -/
theorem alpha_eq : (alpha (F := Ideal) : EReal) = scaleS * scaleA := by
  have e1 : scaleS = ((8813919 / 8388608 : ℝ) : EReal) := by
    unfold scaleS; simp [Ideal.ofBits, Ideal.ieee, -EReal.coe_mul]; norm_num
  have e2 : scaleA = ((14036349 / 8388608 : ℝ) : EReal) := by
    unfold scaleA; simp [Ideal.ofBits, Ideal.ieee, -EReal.coe_mul]; norm_num
  rw [e1, e2, ← EReal.coe_mul]
  refine (IdealRules.named_const.ideal_named_scalar _ _ _ _ rfl).trans ?_
  norm_num

/-! ## The rows, the padded tail and the biases -/

theorem in_row (n : Fin 41538) : W1 m ρ c (Proc.devRef .tc main_v0) (ix2 (0 : Fin 1) n) = I0 m c (ix1 n) :=
  (congrFun (leaves_v0 (W0 m ρ c)) _).trans (row_apply (I0 m c) shapeCasts_S41538_S1x41538 n)

/-- The tail of the input, -/
theorem tail_in (k : Fin 578) : W1 m ρ c (Proc.devRef .tc main_v4) (ix2 (0 : Fin 1) (⟨k.val, Nat.lt_trans k.isLt (by decide)⟩ : Fin 640))
    = I0 m c (ix1 (⟨40960 + k.val, by have := k.isLt; omega⟩ : Fin 41538)) := by
  refine (congrFun (leaves_v4 (W0 m ρ c)) _).trans ((row_apply _ shapeCasts_S640_S1x640 _).trans ?_)
  refine (joined [⟨Lst 578, _⟩, ⟨Lst 62, _⟩] concatenates_S578_S62_S640_d0 0 (show 0 < 2 by decide) _ rfl 0 rfl k _ (Nat.zero_add _)).trans ?_
  exact entries_from 40960 (I0 m c) slices_S41538_S578_40960 k _

/-- followed by zeros. -/
theorem tail_pad (k : Fin 62) : W1 m ρ c (Proc.devRef .tc main_v4) (ix2 (0 : Fin 1) (⟨578 + k.val, by have := k.isLt; omega⟩ : Fin 640)) = (0 : EReal) := by
  refine (congrFun (leaves_v4 (W0 m ρ c)) _).trans ((row_apply _ shapeCasts_S640_S1x640 _).trans ?_)
  refine (joined [⟨Lst 578, _⟩, ⟨Lst 62, _⟩] concatenates_S578_S62_S640_d0 1 (show 1 < 2 by decide) _ rfl 578 rfl k _ rfl).trans ?_
  exact (Routing.bc0 bcast_S_S62 _ _).trans Ideal.ofBits_zero_f32

theorem alto_rows (n : Fin 41538) (l : Fin 256) : W1 m ρ c (Proc.devRef .tc main_v5) (ix2 n l)
    = I7 m c (ix2 (⟨n.val, Nat.lt_trans n.isLt (by decide)⟩ : Fin 42050) l) :=
  (congrFun (leaves_v5 (W0 m ρ c)) _).trans ((rows_from 0 (I7 m c) slices_S42050x256_S41538x256_0_0 n l
    (by have := n.isLt; omega)).trans (congrArg (fun r => I7 m c (ix2 r l)) (Fin.ext (Nat.zero_add _))))

theorem tenor_rows (n : Fin 41538) (l : Fin 256) : W1 m ρ c (Proc.devRef .tc main_v6) (ix2 n l)
    = I13 m c (ix2 (⟨n.val, Nat.lt_trans n.isLt (by decide)⟩ : Fin 42562) l) :=
  (congrFun (leaves_v6 (W0 m ρ c)) _).trans ((rows_from 0 (I13 m c) slices_S42562x256_S41538x256_0_0 n l
    (by have := n.isLt; omega)).trans (congrArg (fun r => I13 m c (ix2 r l)) (Fin.ext (Nat.zero_add _))))

theorem bias_v11 (n : Fin 256) : W3 m ρ c (Proc.devRef .tc main_v11) (ix2 (0 : Fin 1) n) = ent (I2 m c) n :=
  (congrFun (leaves_v11 (W2 m ρ c)) _).trans ((row_apply _ shapeCasts_S256_S1x256 n).trans
    (congrFun (W2_args m ρ c main_arg2 (by decide)) _))

theorem bias_v12 (n : Fin 256) : W3 m ρ c (Proc.devRef .tc main_v12) (ix2 (0 : Fin 1) n) = ent (I4 m c) n :=
  (congrFun (leaves_v12 (W2 m ρ c)) _).trans ((row_apply _ shapeCasts_S256_S1x256 n).trans
    (congrFun (W2_args m ρ c main_arg4 (by decide)) _))

theorem bias_v13 (n : Fin 512) : W3 m ρ c (Proc.devRef .tc main_v13) (ix2 (0 : Fin 1) n) = ent (I6 m c) n :=
  (congrFun (leaves_v13 (W2 m ρ c)) _).trans ((row_apply _ shapeCasts_S512_S1x512 n).trans
    (congrFun (W2_args m ρ c main_arg6 (by decide)) _))

theorem bias_v19 (n : Fin 256) : W5 m ρ c (Proc.devRef .tc main_v19) (ix2 (0 : Fin 1) n) = ent (I8 m c) n :=
  (congrFun (leaves_v19 (W4 m ρ c)) _).trans ((row_apply _ shapeCasts_S256_S1x256 n).trans
    (congrFun (W4_args m ρ c main_arg8 (by decide)) _))

theorem bias_v20 (n : Fin 256) : W5 m ρ c (Proc.devRef .tc main_v20) (ix2 (0 : Fin 1) n) = ent (I10 m c) n :=
  (congrFun (leaves_v20 (W4 m ρ c)) _).trans ((row_apply _ shapeCasts_S256_S1x256 n).trans
    (congrFun (W4_args m ρ c main_arg10 (by decide)) _))

theorem bias_v21 (n : Fin 512) : W5 m ρ c (Proc.devRef .tc main_v21) (ix2 (0 : Fin 1) n) = ent (I12 m c) n :=
  (congrFun (leaves_v21 (W4 m ρ c)) _).trans ((row_apply _ shapeCasts_S512_S1x512 n).trans
    (congrFun (W4_args m ρ c main_arg12 (by decide)) _))

theorem bias_v28 (n : Fin 256) : W7 m ρ c (Proc.devRef .tc main_v28) (ix2 (0 : Fin 1) n) = ent (I14 m c) n :=
  (congrFun (leaves_v28 (W6 m ρ c)) _).trans ((row_apply _ shapeCasts_S256_S1x256 n).trans
    (congrFun (W6_args m ρ c main_arg14 (by decide)) _))

theorem bias_v29 (n : Fin 256) : W7 m ρ c (Proc.devRef .tc main_v29) (ix2 (0 : Fin 1) n) = ent (I16 m c) n :=
  (congrFun (leaves_v29 (W6 m ρ c)) _).trans ((row_apply _ shapeCasts_S256_S1x256 n).trans
    (congrFun (W6_args m ρ c main_arg16 (by decide)) _))

theorem bias_v30 (n : Fin 512) : W7 m ρ c (Proc.devRef .tc main_v30) (ix2 (0 : Fin 1) n) = ent (I18 m c) n :=
  (congrFun (leaves_v30 (W6 m ρ c)) _).trans ((row_apply _ shapeCasts_S512_S1x512 n).trans
    (congrFun (W6_args m ρ c main_arg18 (by decide)) _))

/-- The rows of weight 1 that meet the tail. -/
theorem tail_w1 (k : Fin 578) (n : Fin 256) : W3 m ρ c (Proc.devRef .tc main_v10) (ix2 (⟨k.val, Nat.lt_trans k.isLt (by decide)⟩ : Fin 640) n)
    = I1 m c (ix2 (⟨40960 + k.val, by have := k.isLt; omega⟩ : Fin 41538) n) := by
  refine (congrFun (leaves_v10 (W2 m ρ c)) _).trans ?_
  refine (stacked [⟨Mat 578 256, _⟩, ⟨Mat 62 256, _⟩] concatenates_S578x256_S62x256_S640x256_d0 0 (show 0 < 2 by decide) _ rfl 0 rfl k n _ (Nat.zero_add _)).trans ?_
  refine (rows_from 40960 _ slices_S41538x256_S578x256_40960_0 k n (by have := k.isLt; omega)).trans ?_
  exact congrFun (W2_args m ρ c main_arg1 (by decide)) _

/-- The rows of weight 7 that meet the tail. -/
theorem tail_w7 (k : Fin 578) (n : Fin 256) : W5 m ρ c (Proc.devRef .tc main_v18) (ix2 (⟨k.val, Nat.lt_trans k.isLt (by decide)⟩ : Fin 1152) n)
    = I7 m c (ix2 (⟨40960 + k.val, by have := k.isLt; omega⟩ : Fin 42050) n) := by
  refine (congrFun (leaves_v18 (W4 m ρ c)) _).trans ?_
  refine (stacked [⟨Mat 578 256, _⟩, ⟨Mat 62 256, _⟩, ⟨Mat 512 256, _⟩] concatenates_S578x256_S62x256_S512x256_S1152x256_d0 0 (show 0 < 3 by decide) _ rfl 0 rfl k n _ (Nat.zero_add _)).trans ?_
  refine (rows_from 40960 _ slices_S42050x256_S578x256_40960_0 k n (by have := k.isLt; omega)).trans ?_
  exact congrFun (W4_args m ρ c main_arg7 (by decide)) _

/-- The rows of weight 7 that belong to a note. -/
theorem note_w7 (k : Fin 512) (n : Fin 256) : W5 m ρ c (Proc.devRef .tc main_v18) (ix2 (⟨640 + k.val, by have := k.isLt; omega⟩ : Fin 1152) n)
    = I7 m c (ix2 (⟨41538 + k.val, by have := k.isLt; omega⟩ : Fin 42050) n) := by
  refine (congrFun (leaves_v18 (W4 m ρ c)) _).trans ?_
  refine (stacked [⟨Mat 578 256, _⟩, ⟨Mat 62 256, _⟩, ⟨Mat 512 256, _⟩] concatenates_S578x256_S62x256_S512x256_S1152x256_d0 2 (show 2 < 3 by decide) _ rfl 640 rfl k n _ rfl).trans ?_
  refine (rows_from 41538 _ slices_S42050x256_S512x256_41538_0 k n (by have := k.isLt; omega)).trans ?_
  exact congrFun (W4_args m ρ c main_arg7 (by decide)) _

/-- The rows of weight 13 that meet the tail. -/
theorem tail_w13 (k : Fin 578) (n : Fin 256) : W7 m ρ c (Proc.devRef .tc main_v27) (ix2 (⟨k.val, Nat.lt_trans k.isLt (by decide)⟩ : Fin 1664) n)
    = I13 m c (ix2 (⟨40960 + k.val, by have := k.isLt; omega⟩ : Fin 42562) n) := by
  refine (congrFun (leaves_v27 (W6 m ρ c)) _).trans ?_
  refine (stacked [⟨Mat 578 256, _⟩, ⟨Mat 62 256, _⟩, ⟨Mat 512 256, _⟩, ⟨Mat 512 256, _⟩] concatenates_S578x256_S62x256_S512x256_S512x256_S1664x256_d0 0 (show 0 < 4 by decide) _ rfl 0 rfl k n _ (Nat.zero_add _)).trans ?_
  refine (rows_from 40960 _ slices_S42562x256_S578x256_40960_0 k n (by have := k.isLt; omega)).trans ?_
  exact congrFun (W6_args m ρ c main_arg13 (by decide)) _

/-- The rows of weight 13 that belong to a first. -/
theorem first_w13 (k : Fin 512) (n : Fin 256) : W7 m ρ c (Proc.devRef .tc main_v27) (ix2 (⟨640 + k.val, by have := k.isLt; omega⟩ : Fin 1664) n)
    = I13 m c (ix2 (⟨41538 + k.val, by have := k.isLt; omega⟩ : Fin 42562) n) := by
  refine (congrFun (leaves_v27 (W6 m ρ c)) _).trans ?_
  refine (stacked [⟨Mat 578 256, _⟩, ⟨Mat 62 256, _⟩, ⟨Mat 512 256, _⟩, ⟨Mat 512 256, _⟩] concatenates_S578x256_S62x256_S512x256_S512x256_S1664x256_d0 2 (show 2 < 4 by decide) _ rfl 640 rfl k n _ rfl).trans ?_
  refine (rows_from 41538 _ slices_S42562x256_S512x256_41538_0 k n (by have := k.isLt; omega)).trans ?_
  exact congrFun (W6_args m ρ c main_arg13 (by decide)) _

/-- The rows of weight 13 that belong to a second. -/
theorem second_w13 (k : Fin 512) (n : Fin 256) : W7 m ρ c (Proc.devRef .tc main_v27) (ix2 (⟨1152 + k.val, by have := k.isLt; omega⟩ : Fin 1664) n)
    = I13 m c (ix2 (⟨42050 + k.val, by have := k.isLt; omega⟩ : Fin 42562) n) := by
  refine (congrFun (leaves_v27 (W6 m ρ c)) _).trans ?_
  refine (stacked [⟨Mat 578 256, _⟩, ⟨Mat 62 256, _⟩, ⟨Mat 512 256, _⟩, ⟨Mat 512 256, _⟩] concatenates_S578x256_S62x256_S512x256_S512x256_S1664x256_d0 3 (show 3 < 4 by decide) _ rfl 1152 rfl k n _ rfl).trans ?_
  refine (rows_from 42050 _ slices_S42562x256_S512x256_42050_0 k n (by have := k.isLt; omega)).trans ?_
  exact congrFun (W6_args m ρ c main_arg13 (by decide)) _

/-! ## The three products -/

theorem product0 (l : Fin 256) : W2 m ρ c (Proc.devRef .tc main_v7_0) (ix2 (0 : Fin 1) l)
    = ∑ n : Fin 40960, I0 m c (ix1 (⟨n.val, Nat.lt_trans n.isLt (by decide)⟩ : Fin 41538))
      * I1 m c (ix2 (⟨n.val, Nat.lt_trans n.isLt (by decide)⟩ : Fin 41538) l) :=
  (congrFun (W2_arr m ρ c 4) _).trans (sum0 (V1 m ρ) c l
    (fun n => I0 m c (ix1 (⟨n.val, Nat.lt_trans n.isLt (by decide)⟩ : Fin 41538)))
    (fun n => I1 m c (ix2 (⟨n.val, Nat.lt_trans n.isLt (by decide)⟩ : Fin 41538) l))
    (fun n => in_row m ρ c ⟨n.val, Nat.lt_trans n.isLt (by decide)⟩) (fun n => congrFun (W1_args m ρ c main_arg1 (by decide)) _))

theorem product1 (l : Fin 256) : W2 m ρ c (Proc.devRef .tc main_v7_1) (ix2 (0 : Fin 1) l)
    = ∑ n : Fin 40960, I0 m c (ix1 (⟨n.val, Nat.lt_trans n.isLt (by decide)⟩ : Fin 41538))
      * I7 m c (ix2 (⟨n.val, Nat.lt_trans n.isLt (by decide)⟩ : Fin 42050) l) :=
  (congrFun (W2_arr m ρ c 5) _).trans (sum1 (V1 m ρ) c l
    (fun n => I0 m c (ix1 (⟨n.val, Nat.lt_trans n.isLt (by decide)⟩ : Fin 41538)))
    (fun n => I7 m c (ix2 (⟨n.val, Nat.lt_trans n.isLt (by decide)⟩ : Fin 42050) l))
    (fun n => in_row m ρ c ⟨n.val, Nat.lt_trans n.isLt (by decide)⟩) (fun n => alto_rows m ρ c ⟨n.val, Nat.lt_trans n.isLt (by decide)⟩ l))

theorem product2 (l : Fin 256) : W2 m ρ c (Proc.devRef .tc main_v7_2) (ix2 (0 : Fin 1) l)
    = ∑ n : Fin 40960, I0 m c (ix1 (⟨n.val, Nat.lt_trans n.isLt (by decide)⟩ : Fin 41538))
      * I13 m c (ix2 (⟨n.val, Nat.lt_trans n.isLt (by decide)⟩ : Fin 42562) l) :=
  (congrFun (W2_arr m ρ c 6) _).trans (sum2 (V1 m ρ) c l
    (fun n => I0 m c (ix1 (⟨n.val, Nat.lt_trans n.isLt (by decide)⟩ : Fin 41538)))
    (fun n => I13 m c (ix2 (⟨n.val, Nat.lt_trans n.isLt (by decide)⟩ : Fin 42562) l))
    (fun n => in_row m ρ c ⟨n.val, Nat.lt_trans n.isLt (by decide)⟩) (fun n => tenor_rows m ρ c ⟨n.val, Nat.lt_trans n.isLt (by decide)⟩ l))

/-! ## What later calls find of earlier results -/

theorem keep_v7_0 : W3 m ρ c (Proc.devRef .tc main_v7_0) = W2 m ρ c (Proc.devRef .tc main_v7_0) :=
  (W3_of m ρ c main_v7_0 (by decide))

theorem keep_v7_1 : W5 m ρ c (Proc.devRef .tc main_v7_1) = W2 m ρ c (Proc.devRef .tc main_v7_1) :=
  (W5_of m ρ c main_v7_1 (by decide)).trans ((W4_of m ρ c main_v7_1 (by decide)).trans ((W3_of m ρ c main_v7_1 (by decide))))

theorem keep_v7_2 : W7 m ρ c (Proc.devRef .tc main_v7_2) = W2 m ρ c (Proc.devRef .tc main_v7_2) :=
  (W7_of m ρ c main_v7_2 (by decide)).trans ((W6_of m ρ c main_v7_2 (by decide)).trans ((W5_of m ρ c main_v7_2 (by decide)).trans ((W4_of m ρ c main_v7_2 (by decide)).trans ((W3_of m ρ c main_v7_2 (by decide))))))

theorem keep3_v4 : W3 m ρ c (Proc.devRef .tc main_v4) = W1 m ρ c (Proc.devRef .tc main_v4) :=
  (W3_of m ρ c main_v4 (by decide)).trans ((W2_of m ρ c main_v4 (by decide)))

theorem keep5_v4 : W5 m ρ c (Proc.devRef .tc main_v4) = W1 m ρ c (Proc.devRef .tc main_v4) :=
  (W5_of m ρ c main_v4 (by decide)).trans ((W4_of m ρ c main_v4 (by decide)).trans ((W3_of m ρ c main_v4 (by decide)).trans ((W2_of m ρ c main_v4 (by decide)))))

theorem keep7_v4 : W7 m ρ c (Proc.devRef .tc main_v4) = W1 m ρ c (Proc.devRef .tc main_v4) :=
  (W7_of m ρ c main_v4 (by decide)).trans ((W6_of m ρ c main_v4 (by decide)).trans ((W5_of m ρ c main_v4 (by decide)).trans ((W4_of m ρ c main_v4 (by decide)).trans ((W3_of m ρ c main_v4 (by decide)).trans ((W2_of m ρ c main_v4 (by decide)))))))

theorem keep_v14_0 : W5 m ρ c (Proc.devRef .tc main_v14_0) = W4 m ρ c (Proc.devRef .tc main_v14_0) :=
  (W5_of m ρ c main_v14_0 (by decide))

theorem keep_v14_1 : W5 m ρ c (Proc.devRef .tc main_v14_1) = W4 m ρ c (Proc.devRef .tc main_v14_1) :=
  (W5_of m ρ c main_v14_1 (by decide))

/-! ## The first head -/

/-- The first head's call leaves the beams: their scores and their notes. -/
theorem start (i : Fin 512) : W4 m ρ c (Proc.devRef .tc main_v14_0) (ix2 (0 : Fin 1) i) = best0 (I0 m c) (I1 m c) (I2 m c) (I3 m c) (I4 m c) (I5 m c) (I6 m c) i ∧
    W4 m ρ c (Proc.devRef .tc main_v14_1) (ix2 (0 : Fin 1) i) = BitVec.ofNat 32 (note0 (I0 m c) (I1 m c) (I2 m c) (I3 m c) (I4 m c) (I5 m c) (I6 m c) i).val := by
  have h := startOut_apply (alpha (F := Ideal)) alpha_eq (W3 m ρ c (Proc.devRef .tc main_v7_0)) (W3 m ρ c (Proc.devRef .tc main_v4)) (W3 m ρ c (Proc.devRef .tc main_v10))
    (W3 m ρ c (Proc.devRef .tc main_v11)) (I3 m c) (W3 m ρ c (Proc.devRef .tc main_v12)) (I5 m c) (W3 m ρ c (Proc.devRef .tc main_v13))
    (fun n => base (le_refl _) (I0 m c) (I1 m c) n + ent (I2 m c) n) (ent (I4 m c)) (ent (I6 m c))
    (fun n => congrArg₂ (fun a b : EReal => a + b) (base_eq (le_refl _) (I0 m c) (I1 m c) n _ _ _
      ((congrFun (keep_v7_0 m ρ c) _).trans (product0 m ρ c n))
      (fun k => (congrFun (keep3_v4 m ρ c) _).trans (tail_in m ρ c k))
      (fun k => (congrFun (keep3_v4 m ρ c) _).trans (tail_pad m ρ c k)) (fun k => tail_w1 m ρ c k n)) (bias_v11 m ρ c n))
    (bias_v12 m ρ c) (bias_v13 m ρ c) i
  have e3 : V3 m ρ c main_arg3 = I3 m c := W3_args m ρ c main_arg3 (by decide)
  have e5 : V3 m ρ c main_arg5 = I5 m c := W3_args m ρ c main_arg5 (by decide)
  refine ⟨(congrFun ((W4_arr m ρ c 8).trans (arr1_8 (V3 m ρ) c)) _).trans ?_,
    (congrFun ((W4_arr m ρ c 9).trans (arr1_9 (V3 m ρ) c)) _).trans ?_⟩
  · rw [e3, e5]; exact h.1
  · rw [e3, e5]; exact h.2

/-! ## The second head -/

/-- The second head's candidates are the call's. -/
theorem family1 : family (I9 m c) (I11 m c) (best0 (I0 m c) (I1 m c) (I2 m c) (I3 m c) (I4 m c) (I5 m c) (I6 m c)) (fun r n => (base (by decide) (I0 m c) (I7 m c) n
      + I7 m c (ix2 (rowA (note0 (I0 m c) (I1 m c) (I2 m c) (I3 m c) (I4 m c) (I5 m c) (I6 m c) r)) n)) + ent (I8 m c) n) (ent (I10 m c)) (ent (I12 m c)) = cands1 (I0 m c) (I1 m c) (I2 m c) (I3 m c) (I4 m c) (I5 m c) (I6 m c) (I7 m c) (I8 m c) (I9 m c) (I10 m c) (I11 m c) (I12 m c) := rfl

theorem source (i : Fin 512) (l : Fin 128) : W6 m ρ c (Proc.devRef .tc main_v22_0) (ix2 i l) = best1 (I0 m c) (I1 m c) (I2 m c) (I3 m c) (I4 m c) (I5 m c) (I6 m c) (I7 m c) (I8 m c) (I9 m c) (I10 m c) (I11 m c) (I12 m c) i ∧
    W6 m ρ c (Proc.devRef .tc main_v22_1) (ix2 i l) = num (Cert.Beam.first1 (I0 m c) (I1 m c) (I2 m c) (I3 m c) (I4 m c) (I5 m c) (I6 m c) (I7 m c) (I8 m c) (I9 m c) (I10 m c) (I11 m c) (I12 m c) i).val ∧
    W6 m ρ c (Proc.devRef .tc main_v22_2) (ix2 i l) = num (second1 (I0 m c) (I1 m c) (I2 m c) (I3 m c) (I4 m c) (I5 m c) (I6 m c) (I7 m c) (I8 m c) (I9 m c) (I10 m c) (I11 m c) (I12 m c) i).val := by
  have h := sourceOut_apply (alpha (F := Ideal)) alpha_eq (W5 m ρ c (Proc.devRef .tc main_v14_0)) (W5 m ρ c (Proc.devRef .tc main_v7_1)) (W5 m ρ c (Proc.devRef .tc main_v4))
    (W5 m ρ c (Proc.devRef .tc main_v19)) (I9 m c) (W5 m ρ c (Proc.devRef .tc main_v20)) (I11 m c) (W5 m ρ c (Proc.devRef .tc main_v21))
    (note0 (I0 m c) (I1 m c) (I2 m c) (I3 m c) (I4 m c) (I5 m c) (I6 m c)) (best0 (I0 m c) (I1 m c) (I2 m c) (I3 m c) (I4 m c) (I5 m c) (I6 m c))
    (fun r n => (base (by decide) (I0 m c) (I7 m c) n + I7 m c (ix2 (rowA (note0 (I0 m c) (I1 m c) (I2 m c) (I3 m c) (I4 m c) (I5 m c) (I6 m c) r)) n)) + ent (I8 m c) n)
    (ent (I10 m c)) (ent (I12 m c)) (W5 m ρ c (Proc.devRef .tc main_v18)) (W5 m ρ c (Proc.devRef .tc main_v14_1))
    (fun i => (congrFun (keep_v14_1 m ρ c) _).trans (start m ρ c i).2)
    (fun i => (congrFun (keep_v14_0 m ρ c) _).trans (start m ρ c i).1)
    (fun r n => congrArg₂ (fun a b : EReal => a + b) ((add_assoc _ _ _).symm.trans (congrArg₂ (fun a b : EReal => a + b)
      (base_eq (by decide) (I0 m c) (I7 m c) n _ _ _
        ((congrFun (keep_v7_1 m ρ c) _).trans (product1 m ρ c n))
        (fun k => (congrFun (keep5_v4 m ρ c) _).trans (tail_in m ρ c k))
        (fun k => (congrFun (keep5_v4 m ρ c) _).trans (tail_pad m ρ c k)) (fun k => tail_w7 m ρ c k n))
      (note_w7 m ρ c (note0 (I0 m c) (I1 m c) (I2 m c) (I3 m c) (I4 m c) (I5 m c) (I6 m c) r) n))) (bias_v19 m ρ c n))
    (bias_v20 m ρ c) (bias_v21 m ρ c) i l
  rw [family1] at h
  have e9 : V5 m ρ c main_arg9 = I9 m c := W5_args m ρ c main_arg9 (by decide)
  have e11 : V5 m ρ c main_arg11 = I11 m c := W5_args m ρ c main_arg11 (by decide)
  refine ⟨(congrFun ((W6_arr m ρ c 10).trans (arr2_10 (V5 m ρ) c)) _).trans ?_,
    (congrFun ((W6_arr m ρ c 11).trans (arr2_11 (V5 m ρ) c)) _).trans ?_,
    (congrFun ((W6_arr m ρ c 12).trans (arr2_12 (V5 m ρ) c)) _).trans ?_⟩
  · rw [e9, e11]; exact h.1
  · rw [e9, e11]; exact h.2.1
  · rw [e9, e11]; exact h.2.2

/-! ## The third head -/

theorem handed_v33 (i : Fin 512) : W7 m ρ c (Proc.devRef .tc main_v33) (ix2 (0 : Fin 1) i) = best1 (I0 m c) (I1 m c) (I2 m c) (I3 m c) (I4 m c) (I5 m c) (I6 m c) (I7 m c) (I8 m c) (I9 m c) (I10 m c) (I11 m c) (I12 m c) i :=
  (congrFun (leaves_v33 (W6 m ρ c)) _).trans ((row_apply _ shapeCasts_S512_S1x512 i).trans
    ((first_col _ slices_S512x128_S512x1_0_0 shapeCasts_S512x1_S512 (by decide) i).trans (source m ρ c i _).1))

theorem handed_v36 (i : Fin 512) : W7 m ρ c (Proc.devRef .tc main_v36) (ix2 (0 : Fin 1) i) = num (Cert.Beam.first1 (I0 m c) (I1 m c) (I2 m c) (I3 m c) (I4 m c) (I5 m c) (I6 m c) (I7 m c) (I8 m c) (I9 m c) (I10 m c) (I11 m c) (I12 m c) i).val :=
  (congrFun (leaves_v36 (W6 m ρ c)) _).trans ((row_apply _ shapeCasts_S512_S1x512 i).trans
    ((first_col _ slices_S512x128_S512x1_0_0 shapeCasts_S512x1_S512 (by decide) i).trans (source m ρ c i _).2.1))

theorem handed_v39 (i : Fin 512) : W7 m ρ c (Proc.devRef .tc main_v39) (ix2 (0 : Fin 1) i) = num (second1 (I0 m c) (I1 m c) (I2 m c) (I3 m c) (I4 m c) (I5 m c) (I6 m c) (I7 m c) (I8 m c) (I9 m c) (I10 m c) (I11 m c) (I12 m c) i).val :=
  (congrFun (leaves_v39 (W6 m ρ c)) _).trans ((row_apply _ shapeCasts_S512_S1x512 i).trans
    ((first_col _ slices_S512x128_S512x1_0_0 shapeCasts_S512x1_S512 (by decide) i).trans (source m ρ c i _).2.2))

/-- The third head's candidates are the call's. -/
theorem family2 : family (I15 m c) (I17 m c) (best1 (I0 m c) (I1 m c) (I2 m c) (I3 m c) (I4 m c) (I5 m c) (I6 m c) (I7 m c) (I8 m c) (I9 m c) (I10 m c) (I11 m c) (I12 m c)) (fun r n => ((base (by decide) (I0 m c) (I13 m c) n + I13 m c (ix2 (rowB (Cert.Beam.first1 (I0 m c) (I1 m c) (I2 m c) (I3 m c) (I4 m c) (I5 m c) (I6 m c) (I7 m c) (I8 m c) (I9 m c) (I10 m c) (I11 m c) (I12 m c) r)) n))
      + I13 m c (ix2 (rowC (second1 (I0 m c) (I1 m c) (I2 m c) (I3 m c) (I4 m c) (I5 m c) (I6 m c) (I7 m c) (I8 m c) (I9 m c) (I10 m c) (I11 m c) (I12 m c) r)) n)) + ent (I14 m c) n) (ent (I16 m c)) (ent (I18 m c)) = cands2 (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) := rfl

theorem target (i : Fin 512) (l : Fin 128) : W8 m ρ c (Proc.devRef .tc main_v40_0) (ix2 i l) = line (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) i 0 ∧
    W8 m ρ c (Proc.devRef .tc main_v40_1) (ix2 i l) = line (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) i 1 ∧
    W8 m ρ c (Proc.devRef .tc main_v40_2) (ix2 i l) = line (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) i 2 ∧
    W8 m ρ c (Proc.devRef .tc main_v40_3) (ix2 i l) = line (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) i 3 := by
  have h := targetOut_apply (alpha (F := Ideal)) alpha_eq (W7 m ρ c (Proc.devRef .tc main_v33)) (W7 m ρ c (Proc.devRef .tc main_v7_2)) (W7 m ρ c (Proc.devRef .tc main_v4))
    (W7 m ρ c (Proc.devRef .tc main_v28)) (I15 m c) (W7 m ρ c (Proc.devRef .tc main_v29)) (I17 m c) (W7 m ρ c (Proc.devRef .tc main_v30))
    (Cert.Beam.first1 (I0 m c) (I1 m c) (I2 m c) (I3 m c) (I4 m c) (I5 m c) (I6 m c) (I7 m c) (I8 m c) (I9 m c) (I10 m c) (I11 m c) (I12 m c)) (second1 (I0 m c) (I1 m c) (I2 m c) (I3 m c) (I4 m c) (I5 m c) (I6 m c) (I7 m c) (I8 m c) (I9 m c) (I10 m c) (I11 m c) (I12 m c)) (best1 (I0 m c) (I1 m c) (I2 m c) (I3 m c) (I4 m c) (I5 m c) (I6 m c) (I7 m c) (I8 m c) (I9 m c) (I10 m c) (I11 m c) (I12 m c))
    (fun r n => ((base (by decide) (I0 m c) (I13 m c) n + I13 m c (ix2 (rowB (Cert.Beam.first1 (I0 m c) (I1 m c) (I2 m c) (I3 m c) (I4 m c) (I5 m c) (I6 m c) (I7 m c) (I8 m c) (I9 m c) (I10 m c) (I11 m c) (I12 m c) r)) n))
      + I13 m c (ix2 (rowC (second1 (I0 m c) (I1 m c) (I2 m c) (I3 m c) (I4 m c) (I5 m c) (I6 m c) (I7 m c) (I8 m c) (I9 m c) (I10 m c) (I11 m c) (I12 m c) r)) n)) + ent (I14 m c) n)
    (ent (I16 m c)) (ent (I18 m c)) (W7 m ρ c (Proc.devRef .tc main_v27)) (W7 m ρ c (Proc.devRef .tc main_v36)) (W7 m ρ c (Proc.devRef .tc main_v39))
    (handed_v36 m ρ c) (handed_v39 m ρ c) (handed_v33 m ρ c)
    (fun r n => congrArg₂ (fun a b : EReal => a + b) ((add_assoc _ _ _).symm.trans (congrArg₂ (fun a b : EReal => a + b)
      ((add_assoc _ _ _).symm.trans (congrArg₂ (fun a b : EReal => a + b)
        (base_eq (by decide) (I0 m c) (I13 m c) n _ _ _
          ((congrFun (keep_v7_2 m ρ c) _).trans (product2 m ρ c n))
          (fun k => (congrFun (keep7_v4 m ρ c) _).trans (tail_in m ρ c k))
          (fun k => (congrFun (keep7_v4 m ρ c) _).trans (tail_pad m ρ c k)) (fun k => tail_w13 m ρ c k n))
        (first_w13 m ρ c (Cert.Beam.first1 (I0 m c) (I1 m c) (I2 m c) (I3 m c) (I4 m c) (I5 m c) (I6 m c) (I7 m c) (I8 m c) (I9 m c) (I10 m c) (I11 m c) (I12 m c) r) n))) (second_w13 m ρ c (second1 (I0 m c) (I1 m c) (I2 m c) (I3 m c) (I4 m c) (I5 m c) (I6 m c) (I7 m c) (I8 m c) (I9 m c) (I10 m c) (I11 m c) (I12 m c) r) n))) (bias_v28 m ρ c n))
    (bias_v29 m ρ c) (bias_v30 m ρ c) i l
  rw [family2] at h
  have e15 : V7 m ρ c main_arg15 = I15 m c := W7_args m ρ c main_arg15 (by decide)
  have e17 : V7 m ρ c main_arg17 = I17 m c := W7_args m ρ c main_arg17 (by decide)
  refine ⟨(congrFun ((W8_arr m ρ c 11).trans (arr3_11 (V7 m ρ) c)) _).trans ?_,
    (congrFun ((W8_arr m ρ c 12).trans (arr3_12 (V7 m ρ) c)) _).trans ?_,
    (congrFun ((W8_arr m ρ c 13).trans (arr3_13 (V7 m ρ) c)) _).trans ?_,
    (congrFun ((W8_arr m ρ c 14).trans (arr3_14 (V7 m ρ) c)) _).trans ?_⟩
  · rw [e15, e17]; exact h.1
  · rw [e15, e17]; exact h.2.1
  · rw [e15, e17]; exact h.2.2.1
  · rw [e15, e17]; exact h.2.2.2

/-- The kernel's table. -/
theorem kernel_table (i : Fin 512) (k : Fin 4) : W9 m ρ c (Proc.devRef .tc main_v53) (ix2 i k) = line (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) i k := by
  refine (congrFun (leaves_v53 (W8 m ρ c)) _).trans ?_
  obtain ⟨h0, h1, h2, h3⟩ := columns (shapeCast S512 (extractStridedSlice S512x1 ![0, 0] (W8 m ρ c (Proc.devRef .tc main_v40_0)) slices_S512x128_S512x1_0_0) shapeCasts_S512x1_S512)
    (shapeCast S512 (extractStridedSlice S512x1 ![0, 0] (W8 m ρ c (Proc.devRef .tc main_v40_1)) slices_S512x128_S512x1_0_0) shapeCasts_S512x1_S512)
    (shapeCast S512 (extractStridedSlice S512x1 ![0, 0] (W8 m ρ c (Proc.devRef .tc main_v40_2)) slices_S512x128_S512x1_0_0) shapeCasts_S512x1_S512)
    (shapeCast S512 (extractStridedSlice S512x1 ![0, 0] (W8 m ρ c (Proc.devRef .tc main_v40_3)) slices_S512x128_S512x1_0_0) shapeCasts_S512x1_S512)
    bcast_S512_S512x1_0 concatenates_S512x1_S512x1_S512x1_S512x1_S512x4_d1 i
  match k with
  | 0 => exact h0.trans ((first_col _ slices_S512x128_S512x1_0_0 shapeCasts_S512x1_S512 (by decide) i).trans (target m ρ c i _).1)
  | 1 => exact h1.trans ((first_col _ slices_S512x128_S512x1_0_0 shapeCasts_S512x1_S512 (by decide) i).trans (target m ρ c i _).2.1)
  | 2 => exact h2.trans ((first_col _ slices_S512x128_S512x1_0_0 shapeCasts_S512x1_S512 (by decide) i).trans (target m ρ c i _).2.2.1)
  | 3 => exact h3.trans ((first_col _ slices_S512x128_S512x1_0_0 shapeCasts_S512x1_S512 (by decide) i).trans (target m ρ c i _).2.2.2)

/-- The kernel's table is the reference's. -/
theorem same_table : W9 m ρ c (Proc.devRef .tc main_v53) = Cert.ReferenceIdeal.Read.val_main_v157 (F := Ideal) (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) := by
  funext j
  obtain ⟨i, k, rfl⟩ : ∃ (i : Fin 512) (k : Fin 4), j = ix2 i k := ⟨j 0, j 1, eq_ix2 j⟩
  exact (kernel_table m ρ c i k).trans (reference_table (I0 m c) (I1 m c) (I2 m c) (I3 m c) (I4 m c) (I5 m c) (I6 m c) (I7 m c) (I8 m c) (I9 m c) (I10 m c) (I11 m c) (I12 m c) (I13 m c) (I14 m c) (I15 m c) (I16 m c) (I17 m c) (I18 m c) i k).symm

end Cert.KernelIdeal.Work
-- ==== Proof.lean ====
module

public import proofs.«01_k».proof.Defs
public import proofs.«01_k».proof.Proof.KernelRun
public import proofs.«01_k».proof.Proof.IdealValue
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem

theorem frame_kernel : Cert.quiescent_Kernel := fun m ρ _ => Cert.Kernel.Work.frame m ρ

theorem frame_ideal : Cert.quiescent_KernelIdeal := fun m ρ _ => Cert.KernelIdeal.Work.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The only rewrite names the product of the activation's two constants. -/
theorem preserves : Cert.preserves_Kernel_KernelIdeal := IdealRules.named_const.statement Cert.KernelIdeal.κ "selu_scale_alpha" .f32 _ _ rfl

/-- Equal arguments give equal tables. -/
theorem same_arguments
    {y0 z0 : FVec Ideal (Cert.Sorting.Lst 41538) .f32}
    {y1 z1 : FVec Ideal (Cert.Sorting.Mat 41538 256) .f32}
    {y2 z2 : FVec Ideal (Cert.Sorting.Lst 256) .f32}
    {y3 z3 : FVec Ideal (Cert.Sorting.Mat 256 256) .f32}
    {y4 z4 : FVec Ideal (Cert.Sorting.Lst 256) .f32}
    {y5 z5 : FVec Ideal (Cert.Sorting.Mat 256 512) .f32}
    {y6 z6 : FVec Ideal (Cert.Sorting.Lst 512) .f32}
    {y7 z7 : FVec Ideal (Cert.Sorting.Mat 42050 256) .f32}
    {y8 z8 : FVec Ideal (Cert.Sorting.Lst 256) .f32}
    {y9 z9 : FVec Ideal (Cert.Sorting.Mat 256 256) .f32}
    {y10 z10 : FVec Ideal (Cert.Sorting.Lst 256) .f32}
    {y11 z11 : FVec Ideal (Cert.Sorting.Mat 256 512) .f32}
    {y12 z12 : FVec Ideal (Cert.Sorting.Lst 512) .f32}
    {y13 z13 : FVec Ideal (Cert.Sorting.Mat 42562 256) .f32}
    {y14 z14 : FVec Ideal (Cert.Sorting.Lst 256) .f32}
    {y15 z15 : FVec Ideal (Cert.Sorting.Mat 256 256) .f32}
    {y16 z16 : FVec Ideal (Cert.Sorting.Lst 256) .f32}
    {y17 z17 : FVec Ideal (Cert.Sorting.Mat 256 512) .f32}
    {y18 z18 : FVec Ideal (Cert.Sorting.Lst 512) .f32}
    (e0 : y0 = z0) (e1 : y1 = z1) (e2 : y2 = z2) (e3 : y3 = z3) (e4 : y4 = z4) (e5 : y5 = z5) (e6 : y6 = z6) (e7 : y7 = z7) (e8 : y8 = z8) (e9 : y9 = z9) (e10 : y10 = z10) (e11 : y11 = z11) (e12 : y12 = z12) (e13 : y13 = z13) (e14 : y14 = z14) (e15 : y15 = z15) (e16 : y16 = z16) (e17 : y17 = z17) (e18 : y18 = z18) :
    Cert.ReferenceIdeal.Read.val_main_v157 (F := Ideal) y0 y1 y2 y3 y4 y5 y6 y7 y8 y9 y10 y11 y12 y13 y14 y15 y16 y17 y18
      = Cert.ReferenceIdeal.Read.val_main_v157 (F := Ideal) z0 z1 z2 z3 z4 z5 z6 z7 z8 z9 z10 z11 z12 z13 z14 z15 z16 z17 z18 := by
  subst e0 e1 e2 e3 e4 e5 e6 e7 e8 e9 e10 e11 e12 e13 e14 e15 e16 e17 e18
  rfl

/-- The kernel's table is the reference's, of the same arguments. -/
theorem algebraic : Cert.algebraic_KernelIdeal_ReferenceIdeal := by
  intro m ρ m' ρ' _ hagree
  refine ⟨fun c => Cert.KernelIdeal.Work.W9 m ρ c (Proc.devRef .tc Cert.KernelIdeal.main_v53), ?_, ?_⟩
  · exact (θ_run Cert.KernelIdeal.defs _ _).mono (fun _ h => h.1) (Cert.KernelIdeal.Work.whole_run (F := Ideal) m ρ)
  · refine (θ_run Cert.ReferenceIdeal.defs _ _).mono (fun _ h c => ⟨?_, (h c).2⟩) (Cert.ReferenceIdeal.Value.run (F := Ideal) m' ρ')
    obtain ⟨g0, g1, g2, g3, g4, g5, g6, g7, g8, g9, g10, g11, g12, g13, g14, g15, g16, g17, g18⟩ := hagree c
    refine (h c).1.trans ((Cert.ReferenceIdeal.Read.val_main_v157_eq (launchContents m' c)).trans ?_)
    exact (same_arguments g0 g1 g2 g3 g4 g5 g6 g7 g8 g9 g10 g11 g12 g13 g14 g15 g16 g17 g18).trans (Cert.KernelIdeal.Work.same_table m ρ c).symm

theorem claim : Cert.Claim := ⟨Cert.Kernel.Gen.facts, Cert.KernelIdeal.Gen.facts, Cert.ReferenceIdeal.Gen.facts,
  frame_kernel, frame_ideal, frame_reference, preserves, algebraic⟩

end Cert.Proof

end
